-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnHalf (m : (ℓ : Loc Cert.FfnHalf.nD Cert.FfnHalf.τ Cert.FfnHalf.sig) → Buf (Elt Bits) ℓ) : Prop :=
  True

def Pre_FfnHalfIdeal (m : (ℓ : Loc Cert.FfnHalfIdeal.nD Cert.FfnHalfIdeal.τ Cert.FfnHalfIdeal.sig) → Buf (Elt Ideal) ℓ) : Prop :=
  True

def Pre_FfnHalfRefIdeal (m : (ℓ : Loc Cert.FfnHalfRefIdeal.nD Cert.FfnHalfRefIdeal.τ Cert.FfnHalfRefIdeal.sig) → Buf (Elt Ideal) ℓ) : Prop :=
  True

def Pre_SwaProj (m : (ℓ : Loc Cert.SwaProj.nD Cert.SwaProj.τ Cert.SwaProj.sig) → Buf (Elt Bits) ℓ) : Prop :=
  True

def Pre_SwaProjIdeal (m : (ℓ : Loc Cert.SwaProjIdeal.nD Cert.SwaProjIdeal.τ Cert.SwaProjIdeal.sig) → Buf (Elt Ideal) ℓ) : Prop :=
  True

def Pre_SwaProjRefIdeal (m : (ℓ : Loc Cert.SwaProjRefIdeal.nD Cert.SwaProjRefIdeal.τ Cert.SwaProjRefIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjRefIdeal (m : (ℓ : Loc Cert.MlaProjRefIdeal.nD Cert.MlaProjRefIdeal.τ Cert.MlaProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnHalf [hFfnHalf : Cert.FfnHalf.Facts] : Prop :=
  ∀ (m : (ℓ : Loc Cert.FfnHalf.nD Cert.FfnHalf.τ Cert.FfnHalf.sig) → Buf (Elt Bits) ℓ) (g : Dev Cert.FfnHalf.nD → PrngReg), Pre_FfnHalf m →
    θ_run (Cert.FfnHalf.defs (F := Bits)) (onTc (τ := Cert.FfnHalf.τ) (Cert.FfnHalf.main (F := Bits))) ⟨m, fun _ => 0, g⟩ (fun r => (∀ c : Dev Cert.FfnHalf.nD,
      r.2.mem ((c.tc : Thread Cert.FfnHalf.nD Cert.FfnHalf.τ).loc Cert.FfnHalf.main_arg0) = m ((c.tc : Thread Cert.FfnHalf.nD Cert.FfnHalf.τ).loc Cert.FfnHalf.main_arg0)
      ∧ r.2.mem ((c.tc : Thread Cert.FfnHalf.nD Cert.FfnHalf.τ).loc Cert.FfnHalf.main_arg1) = m ((c.tc : Thread Cert.FfnHalf.nD Cert.FfnHalf.τ).loc Cert.FfnHalf.main_arg1)
      ∧ r.2.mem ((c.tc : Thread Cert.FfnHalf.nD Cert.FfnHalf.τ).loc Cert.FfnHalf.main_arg2) = m ((c.tc : Thread Cert.FfnHalf.nD Cert.FfnHalf.τ).loc Cert.FfnHalf.main_arg2)
      ∧ r.2.mem ((c.tc : Thread Cert.FfnHalf.nD Cert.FfnHalf.τ).loc Cert.FfnHalf.main_arg3) = m ((c.tc : Thread Cert.FfnHalf.nD Cert.FfnHalf.τ).loc Cert.FfnHalf.main_arg3)
      ∧ r.2.mem ((c.tc : Thread Cert.FfnHalf.nD Cert.FfnHalf.τ).loc Cert.FfnHalf.main_arg4) = m ((c.tc : Thread Cert.FfnHalf.nD Cert.FfnHalf.τ).loc Cert.FfnHalf.main_arg4)
      ∧ r.2.mem ((c.tc : Thread Cert.FfnHalf.nD Cert.FfnHalf.τ).loc Cert.FfnHalf.main_arg5) = m ((c.tc : Thread Cert.FfnHalf.nD Cert.FfnHalf.τ).loc Cert.FfnHalf.main_arg5)
      ∧ r.2.mem ((c.tc : Thread Cert.FfnHalf.nD Cert.FfnHalf.τ).loc Cert.FfnHalf.main_arg6) = m ((c.tc : Thread Cert.FfnHalf.nD Cert.FfnHalf.τ).loc Cert.FfnHalf.main_arg6))
      ∧ r.2.sem = fun _ => 0)

def quiescent_FfnHalfIdeal [hFfnHalfIdeal : Cert.FfnHalfIdeal.Facts] : Prop :=
  ∀ (m : (ℓ : Loc Cert.FfnHalfIdeal.nD Cert.FfnHalfIdeal.τ Cert.FfnHalfIdeal.sig) → Buf (Elt Ideal) ℓ) (g : Dev Cert.FfnHalfIdeal.nD → PrngReg), Pre_FfnHalfIdeal m →
    θ_run (Cert.FfnHalfIdeal.defs (F := Ideal)) (onTc (τ := Cert.FfnHalfIdeal.τ) (Cert.FfnHalfIdeal.main (F := Ideal))) ⟨m, fun _ => 0, g⟩ (fun r => (∀ c : Dev Cert.FfnHalfIdeal.nD,
      r.2.mem ((c.tc : Thread Cert.FfnHalfIdeal.nD Cert.FfnHalfIdeal.τ).loc Cert.FfnHalfIdeal.main_arg0) = m ((c.tc : Thread Cert.FfnHalfIdeal.nD Cert.FfnHalfIdeal.τ).loc Cert.FfnHalfIdeal.main_arg0)
      ∧ r.2.mem ((c.tc : Thread Cert.FfnHalfIdeal.nD Cert.FfnHalfIdeal.τ).loc Cert.FfnHalfIdeal.main_arg1) = m ((c.tc : Thread Cert.FfnHalfIdeal.nD Cert.FfnHalfIdeal.τ).loc Cert.FfnHalfIdeal.main_arg1)
      ∧ r.2.mem ((c.tc : Thread Cert.FfnHalfIdeal.nD Cert.FfnHalfIdeal.τ).loc Cert.FfnHalfIdeal.main_arg2) = m ((c.tc : Thread Cert.FfnHalfIdeal.nD Cert.FfnHalfIdeal.τ).loc Cert.FfnHalfIdeal.main_arg2)
      ∧ r.2.mem ((c.tc : Thread Cert.FfnHalfIdeal.nD Cert.FfnHalfIdeal.τ).loc Cert.FfnHalfIdeal.main_arg3) = m ((c.tc : Thread Cert.FfnHalfIdeal.nD Cert.FfnHalfIdeal.τ).loc Cert.FfnHalfIdeal.main_arg3)
      ∧ r.2.mem ((c.tc : Thread Cert.FfnHalfIdeal.nD Cert.FfnHalfIdeal.τ).loc Cert.FfnHalfIdeal.main_arg4) = m ((c.tc : Thread Cert.FfnHalfIdeal.nD Cert.FfnHalfIdeal.τ).loc Cert.FfnHalfIdeal.main_arg4)
      ∧ r.2.mem ((c.tc : Thread Cert.FfnHalfIdeal.nD Cert.FfnHalfIdeal.τ).loc Cert.FfnHalfIdeal.main_arg5) = m ((c.tc : Thread Cert.FfnHalfIdeal.nD Cert.FfnHalfIdeal.τ).loc Cert.FfnHalfIdeal.main_arg5)
      ∧ r.2.mem ((c.tc : Thread Cert.FfnHalfIdeal.nD Cert.FfnHalfIdeal.τ).loc Cert.FfnHalfIdeal.main_arg6) = m ((c.tc : Thread Cert.FfnHalfIdeal.nD Cert.FfnHalfIdeal.τ).loc Cert.FfnHalfIdeal.main_arg6))
      ∧ r.2.sem = fun _ => 0)

def quiescent_FfnHalfRefIdeal [hFfnHalfRefIdeal : Cert.FfnHalfRefIdeal.Facts] : Prop :=
  ∀ (m : (ℓ : Loc Cert.FfnHalfRefIdeal.nD Cert.FfnHalfRefIdeal.τ Cert.FfnHalfRefIdeal.sig) → Buf (Elt Ideal) ℓ) (g : Dev Cert.FfnHalfRefIdeal.nD → PrngReg), Pre_FfnHalfRefIdeal m →
    θ_run (Cert.FfnHalfRefIdeal.defs (F := Ideal)) (onTc (τ := Cert.FfnHalfRefIdeal.τ) (Cert.FfnHalfRefIdeal.main (F := Ideal))) ⟨m, fun _ => 0, g⟩ (fun r => (∀ c : Dev Cert.FfnHalfRefIdeal.nD,
      r.2.mem ((c.tc : Thread Cert.FfnHalfRefIdeal.nD Cert.FfnHalfRefIdeal.τ).loc Cert.FfnHalfRefIdeal.main_arg0) = m ((c.tc : Thread Cert.FfnHalfRefIdeal.nD Cert.FfnHalfRefIdeal.τ).loc Cert.FfnHalfRefIdeal.main_arg0)
      ∧ r.2.mem ((c.tc : Thread Cert.FfnHalfRefIdeal.nD Cert.FfnHalfRefIdeal.τ).loc Cert.FfnHalfRefIdeal.main_arg1) = m ((c.tc : Thread Cert.FfnHalfRefIdeal.nD Cert.FfnHalfRefIdeal.τ).loc Cert.FfnHalfRefIdeal.main_arg1)
      ∧ r.2.mem ((c.tc : Thread Cert.FfnHalfRefIdeal.nD Cert.FfnHalfRefIdeal.τ).loc Cert.FfnHalfRefIdeal.main_arg2) = m ((c.tc : Thread Cert.FfnHalfRefIdeal.nD Cert.FfnHalfRefIdeal.τ).loc Cert.FfnHalfRefIdeal.main_arg2)
      ∧ r.2.mem ((c.tc : Thread Cert.FfnHalfRefIdeal.nD Cert.FfnHalfRefIdeal.τ).loc Cert.FfnHalfRefIdeal.main_arg3) = m ((c.tc : Thread Cert.FfnHalfRefIdeal.nD Cert.FfnHalfRefIdeal.τ).loc Cert.FfnHalfRefIdeal.main_arg3)
      ∧ r.2.mem ((c.tc : Thread Cert.FfnHalfRefIdeal.nD Cert.FfnHalfRefIdeal.τ).loc Cert.FfnHalfRefIdeal.main_arg4) = m ((c.tc : Thread Cert.FfnHalfRefIdeal.nD Cert.FfnHalfRefIdeal.τ).loc Cert.FfnHalfRefIdeal.main_arg4)
      ∧ r.2.mem ((c.tc : Thread Cert.FfnHalfRefIdeal.nD Cert.FfnHalfRefIdeal.τ).loc Cert.FfnHalfRefIdeal.main_arg5) = m ((c.tc : Thread Cert.FfnHalfRefIdeal.nD Cert.FfnHalfRefIdeal.τ).loc Cert.FfnHalfRefIdeal.main_arg5)
      ∧ r.2.mem ((c.tc : Thread Cert.FfnHalfRefIdeal.nD Cert.FfnHalfRefIdeal.τ).loc Cert.FfnHalfRefIdeal.main_arg6) = m ((c.tc : Thread Cert.FfnHalfRefIdeal.nD Cert.FfnHalfRefIdeal.τ).loc Cert.FfnHalfRefIdeal.main_arg6))
      ∧ r.2.sem = fun _ => 0)

def quiescent_SwaProj [hSwaProj : Cert.SwaProj.Facts] : Prop :=
  ∀ (m : (ℓ : Loc Cert.SwaProj.nD Cert.SwaProj.τ Cert.SwaProj.sig) → Buf (Elt Bits) ℓ) (g : Dev Cert.SwaProj.nD → PrngReg), Pre_SwaProj m →
    θ_run (Cert.SwaProj.defs (F := Bits)) (onTc (τ := Cert.SwaProj.τ) (Cert.SwaProj.main (F := Bits))) ⟨m, fun _ => 0, g⟩ (fun r => (∀ c : Dev Cert.SwaProj.nD,
      r.2.mem ((c.tc : Thread Cert.SwaProj.nD Cert.SwaProj.τ).loc Cert.SwaProj.main_arg0) = m ((c.tc : Thread Cert.SwaProj.nD Cert.SwaProj.τ).loc Cert.SwaProj.main_arg0)
      ∧ r.2.mem ((c.tc : Thread Cert.SwaProj.nD Cert.SwaProj.τ).loc Cert.SwaProj.main_arg1) = m ((c.tc : Thread Cert.SwaProj.nD Cert.SwaProj.τ).loc Cert.SwaProj.main_arg1)
      ∧ r.2.mem ((c.tc : Thread Cert.SwaProj.nD Cert.SwaProj.τ).loc Cert.SwaProj.main_arg2) = m ((c.tc : Thread Cert.SwaProj.nD Cert.SwaProj.τ).loc Cert.SwaProj.main_arg2)
      ∧ r.2.mem ((c.tc : Thread Cert.SwaProj.nD Cert.SwaProj.τ).loc Cert.SwaProj.main_arg3) = m ((c.tc : Thread Cert.SwaProj.nD Cert.SwaProj.τ).loc Cert.SwaProj.main_arg3)
      ∧ r.2.mem ((c.tc : Thread Cert.SwaProj.nD Cert.SwaProj.τ).loc Cert.SwaProj.main_arg4) = m ((c.tc : Thread Cert.SwaProj.nD Cert.SwaProj.τ).loc Cert.SwaProj.main_arg4)
      ∧ r.2.mem ((c.tc : Thread Cert.SwaProj.nD Cert.SwaProj.τ).loc Cert.SwaProj.main_arg5) = m ((c.tc : Thread Cert.SwaProj.nD Cert.SwaProj.τ).loc Cert.SwaProj.main_arg5)
      ∧ r.2.mem ((c.tc : Thread Cert.SwaProj.nD Cert.SwaProj.τ).loc Cert.SwaProj.main_arg6) = m ((c.tc : Thread Cert.SwaProj.nD Cert.SwaProj.τ).loc Cert.SwaProj.main_arg6))
      ∧ r.2.sem = fun _ => 0)

def quiescent_SwaProjIdeal [hSwaProjIdeal : Cert.SwaProjIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg), Pre_SwaProjIdeal m →
    θ_run (Cert.SwaProjIdeal.defs (F := Ideal)) (onTc (τ := Cert.SwaProjIdeal.τ) (Cert.SwaProjIdeal.main (F := Ideal))) ⟨m, fun _ => 0, g⟩ (fun r => (∀ c : Dev Cert.SwaProjIdeal.nD,
      r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
      ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1)
      ∧ r.2.mem ((c.tc : Thread Cert.SwaProjIdeal.nD Cert.SwaProjIdeal.τ).loc Cert.SwaProjIdeal.main_arg2) = m ((c.tc : Thread Cert.SwaProjIdeal.nD Cert.SwaProjIdeal.τ).loc Cert.SwaProjIdeal.main_arg2)
      ∧ r.2.mem ((c.tc : Thread Cert.SwaProjIdeal.nD Cert.SwaProjIdeal.τ).loc Cert.SwaProjIdeal.main_arg3) = m ((c.tc : Thread Cert.SwaProjIdeal.nD Cert.SwaProjIdeal.τ).loc Cert.SwaProjIdeal.main_arg3)
      ∧ r.2.mem ((c.tc : Thread Cert.SwaProjIdeal.nD Cert.SwaProjIdeal.τ).loc Cert.SwaProjIdeal.main_arg4) = m ((c.tc : Thread Cert.SwaProjIdeal.nD Cert.SwaProjIdeal.τ).loc Cert.SwaProjIdeal.main_arg4)
      ∧ r.2.mem ((c.tc : Thread Cert.SwaProjIdeal.nD Cert.SwaProjIdeal.τ).loc Cert.SwaProjIdeal.main_arg5) = m ((c.tc : Thread Cert.SwaProjIdeal.nD Cert.SwaProjIdeal.τ).loc Cert.SwaProjIdeal.main_arg5)
      ∧ r.2.mem ((c.tc : Thread Cert.SwaProjIdeal.nD Cert.SwaProjIdeal.τ).loc Cert.SwaProjIdeal.main_arg6) = m ((c.tc : Thread Cert.SwaProjIdeal.nD Cert.SwaProjIdeal.τ).loc Cert.SwaProjIdeal.main_arg6))
      ∧ r.2.sem = fun _ => 0)

def quiescent_SwaProjRefIdeal [hSwaProjRefIdeal : Cert.SwaProjRefIdeal.Facts] : Prop :=
  ∀ (m : (ℓ : Loc Cert.SwaProjRefIdeal.nD Cert.SwaProjRefIdeal.τ Cert.SwaProjRefIdeal.sig) → Buf (Elt Ideal) ℓ) (g : Dev Cert.SwaProjRefIdeal.nD → PrngReg), Pre_SwaProjRefIdeal m →
    θ_run (Cert.SwaProjRefIdeal.defs (F := Ideal)) (onTc (τ := Cert.SwaProjRefIdeal.τ) (Cert.SwaProjRefIdeal.main (F := Ideal))) ⟨m, fun _ => 0, g⟩ (fun r => (∀ c : Dev Cert.SwaProjRefIdeal.nD,
      r.2.mem ((c.tc : Thread Cert.SwaProjRefIdeal.nD Cert.SwaProjRefIdeal.τ).loc Cert.SwaProjRefIdeal.main_arg0) = m ((c.tc : Thread Cert.SwaProjRefIdeal.nD Cert.SwaProjRefIdeal.τ).loc Cert.SwaProjRefIdeal.main_arg0)
      ∧ r.2.mem ((c.tc : Thread Cert.SwaProjRefIdeal.nD Cert.SwaProjRefIdeal.τ).loc Cert.SwaProjRefIdeal.main_arg1) = m ((c.tc : Thread Cert.SwaProjRefIdeal.nD Cert.SwaProjRefIdeal.τ).loc Cert.SwaProjRefIdeal.main_arg1)
      ∧ r.2.mem ((c.tc : Thread Cert.SwaProjRefIdeal.nD Cert.SwaProjRefIdeal.τ).loc Cert.SwaProjRefIdeal.main_arg2) = m ((c.tc : Thread Cert.SwaProjRefIdeal.nD Cert.SwaProjRefIdeal.τ).loc Cert.SwaProjRefIdeal.main_arg2)
      ∧ r.2.mem ((c.tc : Thread Cert.SwaProjRefIdeal.nD Cert.SwaProjRefIdeal.τ).loc Cert.SwaProjRefIdeal.main_arg3) = m ((c.tc : Thread Cert.SwaProjRefIdeal.nD Cert.SwaProjRefIdeal.τ).loc Cert.SwaProjRefIdeal.main_arg3)
      ∧ r.2.mem ((c.tc : Thread Cert.SwaProjRefIdeal.nD Cert.SwaProjRefIdeal.τ).loc Cert.SwaProjRefIdeal.main_arg4) = m ((c.tc : Thread Cert.SwaProjRefIdeal.nD Cert.SwaProjRefIdeal.τ).loc Cert.SwaProjRefIdeal.main_arg4)
      ∧ r.2.mem ((c.tc : Thread Cert.SwaProjRefIdeal.nD Cert.SwaProjRefIdeal.τ).loc Cert.SwaProjRefIdeal.main_arg5) = m ((c.tc : Thread Cert.SwaProjRefIdeal.nD Cert.SwaProjRefIdeal.τ).loc Cert.SwaProjRefIdeal.main_arg5)
      ∧ r.2.mem ((c.tc : Thread Cert.SwaProjRefIdeal.nD Cert.SwaProjRefIdeal.τ).loc Cert.SwaProjRefIdeal.main_arg6) = m ((c.tc : Thread Cert.SwaProjRefIdeal.nD Cert.SwaProjRefIdeal.τ).loc Cert.SwaProjRefIdeal.main_arg6))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5)
      ∧ r.2.mem ((c.tc : Thread Cert.MlaProj.nD Cert.MlaProj.τ).loc Cert.MlaProj.main_arg6) = m ((c.tc : Thread Cert.MlaProj.nD Cert.MlaProj.τ).loc Cert.MlaProj.main_arg6)
      ∧ r.2.mem ((c.tc : Thread Cert.MlaProj.nD Cert.MlaProj.τ).loc Cert.MlaProj.main_arg7) = m ((c.tc : Thread Cert.MlaProj.nD Cert.MlaProj.τ).loc Cert.MlaProj.main_arg7)
      ∧ r.2.mem ((c.tc : Thread Cert.MlaProj.nD Cert.MlaProj.τ).loc Cert.MlaProj.main_arg8) = m ((c.tc : Thread Cert.MlaProj.nD Cert.MlaProj.τ).loc Cert.MlaProj.main_arg8)
      ∧ r.2.mem ((c.tc : Thread Cert.MlaProj.nD Cert.MlaProj.τ).loc Cert.MlaProj.main_arg9) = m ((c.tc : Thread Cert.MlaProj.nD Cert.MlaProj.τ).loc Cert.MlaProj.main_arg9)
      ∧ r.2.mem ((c.tc : Thread Cert.MlaProj.nD Cert.MlaProj.τ).loc Cert.MlaProj.main_arg10) = m ((c.tc : Thread Cert.MlaProj.nD Cert.MlaProj.τ).loc Cert.MlaProj.main_arg10)
      ∧ r.2.mem ((c.tc : Thread Cert.MlaProj.nD Cert.MlaProj.τ).loc Cert.MlaProj.main_arg11) = m ((c.tc : Thread Cert.MlaProj.nD Cert.MlaProj.τ).loc Cert.MlaProj.main_arg11))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
      ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
      ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
      ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8)
      ∧ r.2.mem ((c.tc : Thread Cert.MlaProjIdeal.nD Cert.MlaProjIdeal.τ).loc Cert.MlaProjIdeal.main_arg9) = m ((c.tc : Thread Cert.MlaProjIdeal.nD Cert.MlaProjIdeal.τ).loc Cert.MlaProjIdeal.main_arg9)
      ∧ r.2.mem ((c.tc : Thread Cert.MlaProjIdeal.nD Cert.MlaProjIdeal.τ).loc Cert.MlaProjIdeal.main_arg10) = m ((c.tc : Thread Cert.MlaProjIdeal.nD Cert.MlaProjIdeal.τ).loc Cert.MlaProjIdeal.main_arg10)
      ∧ r.2.mem ((c.tc : Thread Cert.MlaProjIdeal.nD Cert.MlaProjIdeal.τ).loc Cert.MlaProjIdeal.main_arg11) = m ((c.tc : Thread Cert.MlaProjIdeal.nD Cert.MlaProjIdeal.τ).loc Cert.MlaProjIdeal.main_arg11))
      ∧ r.2.sem = fun _ => 0)

def quiescent_MlaProjRefIdeal [hMlaProjRefIdeal : Cert.MlaProjRefIdeal.Facts] : Prop :=
  ∀ (m : (ℓ : Loc Cert.MlaProjRefIdeal.nD Cert.MlaProjRefIdeal.τ Cert.MlaProjRefIdeal.sig) → Buf (Elt Ideal) ℓ) (g : Dev Cert.MlaProjRefIdeal.nD → PrngReg), Pre_MlaProjRefIdeal m →
    θ_run (Cert.MlaProjRefIdeal.defs (F := Ideal)) (onTc (τ := Cert.MlaProjRefIdeal.τ) (Cert.MlaProjRefIdeal.main (F := Ideal))) ⟨m, fun _ => 0, g⟩ (fun r => (∀ c : Dev Cert.MlaProjRefIdeal.nD,
      r.2.mem ((c.tc : Thread Cert.MlaProjRefIdeal.nD Cert.MlaProjRefIdeal.τ).loc Cert.MlaProjRefIdeal.main_arg0) = m ((c.tc : Thread Cert.MlaProjRefIdeal.nD Cert.MlaProjRefIdeal.τ).loc Cert.MlaProjRefIdeal.main_arg0)
      ∧ r.2.mem ((c.tc : Thread Cert.MlaProjRefIdeal.nD Cert.MlaProjRefIdeal.τ).loc Cert.MlaProjRefIdeal.main_arg1) = m ((c.tc : Thread Cert.MlaProjRefIdeal.nD Cert.MlaProjRefIdeal.τ).loc Cert.MlaProjRefIdeal.main_arg1)
      ∧ r.2.mem ((c.tc : Thread Cert.MlaProjRefIdeal.nD Cert.MlaProjRefIdeal.τ).loc Cert.MlaProjRefIdeal.main_arg2) = m ((c.tc : Thread Cert.MlaProjRefIdeal.nD Cert.MlaProjRefIdeal.τ).loc Cert.MlaProjRefIdeal.main_arg2)
      ∧ r.2.mem ((c.tc : Thread Cert.MlaProjRefIdeal.nD Cert.MlaProjRefIdeal.τ).loc Cert.MlaProjRefIdeal.main_arg3) = m ((c.tc : Thread Cert.MlaProjRefIdeal.nD Cert.MlaProjRefIdeal.τ).loc Cert.MlaProjRefIdeal.main_arg3)
      ∧ r.2.mem ((c.tc : Thread Cert.MlaProjRefIdeal.nD Cert.MlaProjRefIdeal.τ).loc Cert.MlaProjRefIdeal.main_arg4) = m ((c.tc : Thread Cert.MlaProjRefIdeal.nD Cert.MlaProjRefIdeal.τ).loc Cert.MlaProjRefIdeal.main_arg4)
      ∧ r.2.mem ((c.tc : Thread Cert.MlaProjRefIdeal.nD Cert.MlaProjRefIdeal.τ).loc Cert.MlaProjRefIdeal.main_arg5) = m ((c.tc : Thread Cert.MlaProjRefIdeal.nD Cert.MlaProjRefIdeal.τ).loc Cert.MlaProjRefIdeal.main_arg5)
      ∧ r.2.mem ((c.tc : Thread Cert.MlaProjRefIdeal.nD Cert.MlaProjRefIdeal.τ).loc Cert.MlaProjRefIdeal.main_arg6) = m ((c.tc : Thread Cert.MlaProjRefIdeal.nD Cert.MlaProjRefIdeal.τ).loc Cert.MlaProjRefIdeal.main_arg6)
      ∧ r.2.mem ((c.tc : Thread Cert.MlaProjRefIdeal.nD Cert.MlaProjRefIdeal.τ).loc Cert.MlaProjRefIdeal.main_arg7) = m ((c.tc : Thread Cert.MlaProjRefIdeal.nD Cert.MlaProjRefIdeal.τ).loc Cert.MlaProjRefIdeal.main_arg7)
      ∧ r.2.mem ((c.tc : Thread Cert.MlaProjRefIdeal.nD Cert.MlaProjRefIdeal.τ).loc Cert.MlaProjRefIdeal.main_arg8) = m ((c.tc : Thread Cert.MlaProjRefIdeal.nD Cert.MlaProjRefIdeal.τ).loc Cert.MlaProjRefIdeal.main_arg8)
      ∧ r.2.mem ((c.tc : Thread Cert.MlaProjRefIdeal.nD Cert.MlaProjRefIdeal.τ).loc Cert.MlaProjRefIdeal.main_arg9) = m ((c.tc : Thread Cert.MlaProjRefIdeal.nD Cert.MlaProjRefIdeal.τ).loc Cert.MlaProjRefIdeal.main_arg9)
      ∧ r.2.mem ((c.tc : Thread Cert.MlaProjRefIdeal.nD Cert.MlaProjRefIdeal.τ).loc Cert.MlaProjRefIdeal.main_arg10) = m ((c.tc : Thread Cert.MlaProjRefIdeal.nD Cert.MlaProjRefIdeal.τ).loc Cert.MlaProjRefIdeal.main_arg10)
      ∧ r.2.mem ((c.tc : Thread Cert.MlaProjRefIdeal.nD Cert.MlaProjRefIdeal.τ).loc Cert.MlaProjRefIdeal.main_arg11) = m ((c.tc : Thread Cert.MlaProjRefIdeal.nD Cert.MlaProjRefIdeal.τ).loc Cert.MlaProjRefIdeal.main_arg11))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v26) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_FfnHalf_FfnHalfIdeal : Prop :=
  True

def algebraic_FfnHalfIdeal_FfnHalfRefIdeal [hFfnHalfIdeal : Cert.FfnHalfIdeal.Facts] [hFfnHalfRefIdeal : Cert.FfnHalfRefIdeal.Facts] : Prop :=
  ∀ (m : (ℓ : Loc Cert.FfnHalfIdeal.nD Cert.FfnHalfIdeal.τ Cert.FfnHalfIdeal.sig) → Buf (Elt Ideal) ℓ) (g : Dev Cert.FfnHalfIdeal.nD → PrngReg)
    (m' : (ℓ : Loc Cert.FfnHalfRefIdeal.nD Cert.FfnHalfRefIdeal.τ Cert.FfnHalfRefIdeal.sig) → Buf (Elt Ideal) ℓ) (g' : Dev Cert.FfnHalfRefIdeal.nD → PrngReg), Pre_FfnHalfIdeal m →
    (∀ c : Dev Cert.FfnHalfIdeal.nD,
      m' ((c.tc : Thread Cert.FfnHalfRefIdeal.nD Cert.FfnHalfRefIdeal.τ).loc Cert.FfnHalfRefIdeal.main_arg0) = m ((c.tc : Thread Cert.FfnHalfIdeal.nD Cert.FfnHalfIdeal.τ).loc Cert.FfnHalfIdeal.main_arg0)
      ∧ m' ((c.tc : Thread Cert.FfnHalfRefIdeal.nD Cert.FfnHalfRefIdeal.τ).loc Cert.FfnHalfRefIdeal.main_arg1) = m ((c.tc : Thread Cert.FfnHalfIdeal.nD Cert.FfnHalfIdeal.τ).loc Cert.FfnHalfIdeal.main_arg1)
      ∧ m' ((c.tc : Thread Cert.FfnHalfRefIdeal.nD Cert.FfnHalfRefIdeal.τ).loc Cert.FfnHalfRefIdeal.main_arg2) = m ((c.tc : Thread Cert.FfnHalfIdeal.nD Cert.FfnHalfIdeal.τ).loc Cert.FfnHalfIdeal.main_arg2)
      ∧ m' ((c.tc : Thread Cert.FfnHalfRefIdeal.nD Cert.FfnHalfRefIdeal.τ).loc Cert.FfnHalfRefIdeal.main_arg3) = m ((c.tc : Thread Cert.FfnHalfIdeal.nD Cert.FfnHalfIdeal.τ).loc Cert.FfnHalfIdeal.main_arg3)
      ∧ m' ((c.tc : Thread Cert.FfnHalfRefIdeal.nD Cert.FfnHalfRefIdeal.τ).loc Cert.FfnHalfRefIdeal.main_arg4) = m ((c.tc : Thread Cert.FfnHalfIdeal.nD Cert.FfnHalfIdeal.τ).loc Cert.FfnHalfIdeal.main_arg4)
      ∧ m' ((c.tc : Thread Cert.FfnHalfRefIdeal.nD Cert.FfnHalfRefIdeal.τ).loc Cert.FfnHalfRefIdeal.main_arg5) = m ((c.tc : Thread Cert.FfnHalfIdeal.nD Cert.FfnHalfIdeal.τ).loc Cert.FfnHalfIdeal.main_arg5)
      ∧ m' ((c.tc : Thread Cert.FfnHalfRefIdeal.nD Cert.FfnHalfRefIdeal.τ).loc Cert.FfnHalfRefIdeal.main_arg6) = m ((c.tc : Thread Cert.FfnHalfIdeal.nD Cert.FfnHalfIdeal.τ).loc Cert.FfnHalfIdeal.main_arg6)) →
    ∃ (v0 : (c : Dev Cert.FfnHalfIdeal.nD) → Buf (Elt Ideal) ((c.tc : Thread Cert.FfnHalfIdeal.nD Cert.FfnHalfIdeal.τ).loc Cert.FfnHalfIdeal.main_v0)),
      θ_run (Cert.FfnHalfIdeal.defs (F := Ideal)) (onTc (τ := Cert.FfnHalfIdeal.τ) (Cert.FfnHalfIdeal.main (F := Ideal))) ⟨m, fun _ => 0, g⟩ (fun r => ∀ c : Dev Cert.FfnHalfIdeal.nD,
          r.2.mem ((c.tc : Thread Cert.FfnHalfIdeal.nD Cert.FfnHalfIdeal.τ).loc Cert.FfnHalfIdeal.main_v0) = v0 c
          ∧ r.2.mem ((c.tc : Thread Cert.FfnHalfIdeal.nD Cert.FfnHalfIdeal.τ).loc Cert.FfnHalfIdeal.main_arg0) = m ((c.tc : Thread Cert.FfnHalfIdeal.nD Cert.FfnHalfIdeal.τ).loc Cert.FfnHalfIdeal.main_arg0)
          ∧ r.2.mem ((c.tc : Thread Cert.FfnHalfIdeal.nD Cert.FfnHalfIdeal.τ).loc Cert.FfnHalfIdeal.main_arg1) = m ((c.tc : Thread Cert.FfnHalfIdeal.nD Cert.FfnHalfIdeal.τ).loc Cert.FfnHalfIdeal.main_arg1)
          ∧ r.2.mem ((c.tc : Thread Cert.FfnHalfIdeal.nD Cert.FfnHalfIdeal.τ).loc Cert.FfnHalfIdeal.main_arg2) = m ((c.tc : Thread Cert.FfnHalfIdeal.nD Cert.FfnHalfIdeal.τ).loc Cert.FfnHalfIdeal.main_arg2)
          ∧ r.2.mem ((c.tc : Thread Cert.FfnHalfIdeal.nD Cert.FfnHalfIdeal.τ).loc Cert.FfnHalfIdeal.main_arg3) = m ((c.tc : Thread Cert.FfnHalfIdeal.nD Cert.FfnHalfIdeal.τ).loc Cert.FfnHalfIdeal.main_arg3)
          ∧ r.2.mem ((c.tc : Thread Cert.FfnHalfIdeal.nD Cert.FfnHalfIdeal.τ).loc Cert.FfnHalfIdeal.main_arg4) = m ((c.tc : Thread Cert.FfnHalfIdeal.nD Cert.FfnHalfIdeal.τ).loc Cert.FfnHalfIdeal.main_arg4)
          ∧ r.2.mem ((c.tc : Thread Cert.FfnHalfIdeal.nD Cert.FfnHalfIdeal.τ).loc Cert.FfnHalfIdeal.main_arg5) = m ((c.tc : Thread Cert.FfnHalfIdeal.nD Cert.FfnHalfIdeal.τ).loc Cert.FfnHalfIdeal.main_arg5)
          ∧ r.2.mem ((c.tc : Thread Cert.FfnHalfIdeal.nD Cert.FfnHalfIdeal.τ).loc Cert.FfnHalfIdeal.main_arg6) = m ((c.tc : Thread Cert.FfnHalfIdeal.nD Cert.FfnHalfIdeal.τ).loc Cert.FfnHalfIdeal.main_arg6))
      ∧ θ_run (Cert.FfnHalfRefIdeal.defs (F := Ideal)) (onTc (τ := Cert.FfnHalfRefIdeal.τ) (Cert.FfnHalfRefIdeal.main (F := Ideal))) ⟨m', fun _ => 0, g'⟩ (fun r => ∀ c : Dev Cert.FfnHalfRefIdeal.nD,
          r.2.mem ((c.tc : Thread Cert.FfnHalfRefIdeal.nD Cert.FfnHalfRefIdeal.τ).loc Cert.FfnHalfRefIdeal.main_v26) = v0 c
          ∧ r.2.mem ((c.tc : Thread Cert.FfnHalfRefIdeal.nD Cert.FfnHalfRefIdeal.τ).loc Cert.FfnHalfRefIdeal.main_arg0) = m' ((c.tc : Thread Cert.FfnHalfRefIdeal.nD Cert.FfnHalfRefIdeal.τ).loc Cert.FfnHalfRefIdeal.main_arg0)
          ∧ r.2.mem ((c.tc : Thread Cert.FfnHalfRefIdeal.nD Cert.FfnHalfRefIdeal.τ).loc Cert.FfnHalfRefIdeal.main_arg1) = m' ((c.tc : Thread Cert.FfnHalfRefIdeal.nD Cert.FfnHalfRefIdeal.τ).loc Cert.FfnHalfRefIdeal.main_arg1)
          ∧ r.2.mem ((c.tc : Thread Cert.FfnHalfRefIdeal.nD Cert.FfnHalfRefIdeal.τ).loc Cert.FfnHalfRefIdeal.main_arg2) = m' ((c.tc : Thread Cert.FfnHalfRefIdeal.nD Cert.FfnHalfRefIdeal.τ).loc Cert.FfnHalfRefIdeal.main_arg2)
          ∧ r.2.mem ((c.tc : Thread Cert.FfnHalfRefIdeal.nD Cert.FfnHalfRefIdeal.τ).loc Cert.FfnHalfRefIdeal.main_arg3) = m' ((c.tc : Thread Cert.FfnHalfRefIdeal.nD Cert.FfnHalfRefIdeal.τ).loc Cert.FfnHalfRefIdeal.main_arg3)
          ∧ r.2.mem ((c.tc : Thread Cert.FfnHalfRefIdeal.nD Cert.FfnHalfRefIdeal.τ).loc Cert.FfnHalfRefIdeal.main_arg4) = m' ((c.tc : Thread Cert.FfnHalfRefIdeal.nD Cert.FfnHalfRefIdeal.τ).loc Cert.FfnHalfRefIdeal.main_arg4)
          ∧ r.2.mem ((c.tc : Thread Cert.FfnHalfRefIdeal.nD Cert.FfnHalfRefIdeal.τ).loc Cert.FfnHalfRefIdeal.main_arg5) = m' ((c.tc : Thread Cert.FfnHalfRefIdeal.nD Cert.FfnHalfRefIdeal.τ).loc Cert.FfnHalfRefIdeal.main_arg5)
          ∧ r.2.mem ((c.tc : Thread Cert.FfnHalfRefIdeal.nD Cert.FfnHalfRefIdeal.τ).loc Cert.FfnHalfRefIdeal.main_arg6) = m' ((c.tc : Thread Cert.FfnHalfRefIdeal.nD Cert.FfnHalfRefIdeal.τ).loc Cert.FfnHalfRefIdeal.main_arg6))

def preserves_SwaProj_SwaProjIdeal : Prop :=
  True

def algebraic_SwaProjIdeal_SwaProjRefIdeal [hSwaProjIdeal : Cert.SwaProjIdeal.Facts] [hSwaProjRefIdeal : Cert.SwaProjRefIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg)
    (m' : (ℓ : Loc Cert.SwaProjRefIdeal.nD Cert.SwaProjRefIdeal.τ Cert.SwaProjRefIdeal.sig) → Buf (Elt Ideal) ℓ) (g' : Dev Cert.SwaProjRefIdeal.nD → PrngReg), Pre_SwaProjIdeal m →
    (∀ c : Dev Cert.SwaProjIdeal.nD,
      m' ((c.tc : Thread Cert.SwaProjRefIdeal.nD Cert.SwaProjRefIdeal.τ).loc Cert.SwaProjRefIdeal.main_arg0) = m ((c.tc : Thread Cert.SwaProjIdeal.nD Cert.SwaProjIdeal.τ).loc Cert.SwaProjIdeal.main_arg0)
      ∧ m' ((c.tc : Thread Cert.SwaProjRefIdeal.nD Cert.SwaProjRefIdeal.τ).loc Cert.SwaProjRefIdeal.main_arg1) = m ((c.tc : Thread Cert.SwaProjIdeal.nD Cert.SwaProjIdeal.τ).loc Cert.SwaProjIdeal.main_arg1)
      ∧ m' ((c.tc : Thread Cert.SwaProjRefIdeal.nD Cert.SwaProjRefIdeal.τ).loc Cert.SwaProjRefIdeal.main_arg2) = m ((c.tc : Thread Cert.SwaProjIdeal.nD Cert.SwaProjIdeal.τ).loc Cert.SwaProjIdeal.main_arg2)
      ∧ m' ((c.tc : Thread Cert.SwaProjRefIdeal.nD Cert.SwaProjRefIdeal.τ).loc Cert.SwaProjRefIdeal.main_arg3) = m ((c.tc : Thread Cert.SwaProjIdeal.nD Cert.SwaProjIdeal.τ).loc Cert.SwaProjIdeal.main_arg3)
      ∧ m' ((c.tc : Thread Cert.SwaProjRefIdeal.nD Cert.SwaProjRefIdeal.τ).loc Cert.SwaProjRefIdeal.main_arg4) = m ((c.tc : Thread Cert.SwaProjIdeal.nD Cert.SwaProjIdeal.τ).loc Cert.SwaProjIdeal.main_arg4)
      ∧ m' ((c.tc : Thread Cert.SwaProjRefIdeal.nD Cert.SwaProjRefIdeal.τ).loc Cert.SwaProjRefIdeal.main_arg5) = m ((c.tc : Thread Cert.SwaProjIdeal.nD Cert.SwaProjIdeal.τ).loc Cert.SwaProjIdeal.main_arg5)
      ∧ m' ((c.tc : Thread Cert.SwaProjRefIdeal.nD Cert.SwaProjRefIdeal.τ).loc Cert.SwaProjRefIdeal.main_arg6) = m ((c.tc : Thread Cert.SwaProjIdeal.nD Cert.SwaProjIdeal.τ).loc Cert.SwaProjIdeal.main_arg6)) →
    ∃ (v0 : (c : Dev Cert.SwaProjIdeal.nD) → Buf (Elt Ideal) ((c.tc : Thread Cert.SwaProjIdeal.nD Cert.SwaProjIdeal.τ).loc Cert.SwaProjIdeal.main_v39_0)) (v1 : (c : Dev Cert.SwaProjIdeal.nD) → Buf (Elt Ideal) ((c.tc : Thread Cert.SwaProjIdeal.nD Cert.SwaProjIdeal.τ).loc Cert.SwaProjIdeal.main_v39_1)) (v2 : (c : Dev Cert.SwaProjIdeal.nD) → Buf (Elt Ideal) ((c.tc : Thread Cert.SwaProjIdeal.nD Cert.SwaProjIdeal.τ).loc Cert.SwaProjIdeal.main_v39_2)),
      θ_run (Cert.SwaProjIdeal.defs (F := Ideal)) (onTc (τ := Cert.SwaProjIdeal.τ) (Cert.SwaProjIdeal.main (F := Ideal))) ⟨m, fun _ => 0, g⟩ (fun r => ∀ c : Dev Cert.SwaProjIdeal.nD,
          r.2.mem ((c.tc : Thread Cert.SwaProjIdeal.nD Cert.SwaProjIdeal.τ).loc Cert.SwaProjIdeal.main_v39_0) = v0 c
          ∧ r.2.mem ((c.tc : Thread Cert.SwaProjIdeal.nD Cert.SwaProjIdeal.τ).loc Cert.SwaProjIdeal.main_v39_1) = v1 c
          ∧ r.2.mem ((c.tc : Thread Cert.SwaProjIdeal.nD Cert.SwaProjIdeal.τ).loc Cert.SwaProjIdeal.main_v39_2) = v2 c
          ∧ r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
          ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1)
          ∧ r.2.mem ((c.tc : Thread Cert.SwaProjIdeal.nD Cert.SwaProjIdeal.τ).loc Cert.SwaProjIdeal.main_arg2) = m ((c.tc : Thread Cert.SwaProjIdeal.nD Cert.SwaProjIdeal.τ).loc Cert.SwaProjIdeal.main_arg2)
          ∧ r.2.mem ((c.tc : Thread Cert.SwaProjIdeal.nD Cert.SwaProjIdeal.τ).loc Cert.SwaProjIdeal.main_arg3) = m ((c.tc : Thread Cert.SwaProjIdeal.nD Cert.SwaProjIdeal.τ).loc Cert.SwaProjIdeal.main_arg3)
          ∧ r.2.mem ((c.tc : Thread Cert.SwaProjIdeal.nD Cert.SwaProjIdeal.τ).loc Cert.SwaProjIdeal.main_arg4) = m ((c.tc : Thread Cert.SwaProjIdeal.nD Cert.SwaProjIdeal.τ).loc Cert.SwaProjIdeal.main_arg4)
          ∧ r.2.mem ((c.tc : Thread Cert.SwaProjIdeal.nD Cert.SwaProjIdeal.τ).loc Cert.SwaProjIdeal.main_arg5) = m ((c.tc : Thread Cert.SwaProjIdeal.nD Cert.SwaProjIdeal.τ).loc Cert.SwaProjIdeal.main_arg5)
          ∧ r.2.mem ((c.tc : Thread Cert.SwaProjIdeal.nD Cert.SwaProjIdeal.τ).loc Cert.SwaProjIdeal.main_arg6) = m ((c.tc : Thread Cert.SwaProjIdeal.nD Cert.SwaProjIdeal.τ).loc Cert.SwaProjIdeal.main_arg6))
      ∧ θ_run (Cert.SwaProjRefIdeal.defs (F := Ideal)) (onTc (τ := Cert.SwaProjRefIdeal.τ) (Cert.SwaProjRefIdeal.main (F := Ideal))) ⟨m', fun _ => 0, g'⟩ (fun r => ∀ c : Dev Cert.SwaProjRefIdeal.nD,
          r.2.mem ((c.tc : Thread Cert.SwaProjRefIdeal.nD Cert.SwaProjRefIdeal.τ).loc Cert.SwaProjRefIdeal.main_v76) = v0 c
          ∧ r.2.mem ((c.tc : Thread Cert.SwaProjRefIdeal.nD Cert.SwaProjRefIdeal.τ).loc Cert.SwaProjRefIdeal.main_v77) = v1 c
          ∧ r.2.mem ((c.tc : Thread Cert.SwaProjRefIdeal.nD Cert.SwaProjRefIdeal.τ).loc Cert.SwaProjRefIdeal.main_v79) = v2 c
          ∧ r.2.mem ((c.tc : Thread Cert.SwaProjRefIdeal.nD Cert.SwaProjRefIdeal.τ).loc Cert.SwaProjRefIdeal.main_arg0) = m' ((c.tc : Thread Cert.SwaProjRefIdeal.nD Cert.SwaProjRefIdeal.τ).loc Cert.SwaProjRefIdeal.main_arg0)
          ∧ r.2.mem ((c.tc : Thread Cert.SwaProjRefIdeal.nD Cert.SwaProjRefIdeal.τ).loc Cert.SwaProjRefIdeal.main_arg1) = m' ((c.tc : Thread Cert.SwaProjRefIdeal.nD Cert.SwaProjRefIdeal.τ).loc Cert.SwaProjRefIdeal.main_arg1)
          ∧ r.2.mem ((c.tc : Thread Cert.SwaProjRefIdeal.nD Cert.SwaProjRefIdeal.τ).loc Cert.SwaProjRefIdeal.main_arg2) = m' ((c.tc : Thread Cert.SwaProjRefIdeal.nD Cert.SwaProjRefIdeal.τ).loc Cert.SwaProjRefIdeal.main_arg2)
          ∧ r.2.mem ((c.tc : Thread Cert.SwaProjRefIdeal.nD Cert.SwaProjRefIdeal.τ).loc Cert.SwaProjRefIdeal.main_arg3) = m' ((c.tc : Thread Cert.SwaProjRefIdeal.nD Cert.SwaProjRefIdeal.τ).loc Cert.SwaProjRefIdeal.main_arg3)
          ∧ r.2.mem ((c.tc : Thread Cert.SwaProjRefIdeal.nD Cert.SwaProjRefIdeal.τ).loc Cert.SwaProjRefIdeal.main_arg4) = m' ((c.tc : Thread Cert.SwaProjRefIdeal.nD Cert.SwaProjRefIdeal.τ).loc Cert.SwaProjRefIdeal.main_arg4)
          ∧ r.2.mem ((c.tc : Thread Cert.SwaProjRefIdeal.nD Cert.SwaProjRefIdeal.τ).loc Cert.SwaProjRefIdeal.main_arg5) = m' ((c.tc : Thread Cert.SwaProjRefIdeal.nD Cert.SwaProjRefIdeal.τ).loc Cert.SwaProjRefIdeal.main_arg5)
          ∧ r.2.mem ((c.tc : Thread Cert.SwaProjRefIdeal.nD Cert.SwaProjRefIdeal.τ).loc Cert.SwaProjRefIdeal.main_arg6) = m' ((c.tc : Thread Cert.SwaProjRefIdeal.nD Cert.SwaProjRefIdeal.τ).loc Cert.SwaProjRefIdeal.main_arg6))

def preserves_MlaProj_MlaProjIdeal : Prop :=
  IdealRules.named_const.Statement Cert.MlaProjIdeal.κ "inv_384" .f32 0x3B2AAAAB#32 ((1 / 384 : ℝ) : EReal)
  ∧ IdealRules.named_const.Statement Cert.MlaProjIdeal.κ "inv_192" .f32 0x3BAAAAAB#32 ((1 / 192 : ℝ) : EReal)
  ∧ IdealRules.named_const.Statement Cert.MlaProjIdeal.κ "scale" .f32 0x3DD53B95#32 (((Real.sqrt 192)⁻¹ * (Real.log 2)⁻¹ : ℝ) : EReal)

def algebraic_MlaProjIdeal_MlaProjRefIdeal [hMlaProjIdeal : Cert.MlaProjIdeal.Facts] [hMlaProjRefIdeal : Cert.MlaProjRefIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjRefIdeal.nD Cert.MlaProjRefIdeal.τ Cert.MlaProjRefIdeal.sig) → Buf (Elt Ideal) ℓ) (g' : Dev Cert.MlaProjRefIdeal.nD → PrngReg), Pre_MlaProjIdeal m →
    (∀ c : Dev Cert.MlaProjIdeal.nD,
      m' ((c.tc : Thread Cert.MlaProjRefIdeal.nD Cert.MlaProjRefIdeal.τ).loc Cert.MlaProjRefIdeal.main_arg0) = m ((c.tc : Thread Cert.MlaProjIdeal.nD Cert.MlaProjIdeal.τ).loc Cert.MlaProjIdeal.main_arg0)
      ∧ m' ((c.tc : Thread Cert.MlaProjRefIdeal.nD Cert.MlaProjRefIdeal.τ).loc Cert.MlaProjRefIdeal.main_arg1) = m ((c.tc : Thread Cert.MlaProjIdeal.nD Cert.MlaProjIdeal.τ).loc Cert.MlaProjIdeal.main_arg1)
      ∧ m' ((c.tc : Thread Cert.MlaProjRefIdeal.nD Cert.MlaProjRefIdeal.τ).loc Cert.MlaProjRefIdeal.main_arg2) = m ((c.tc : Thread Cert.MlaProjIdeal.nD Cert.MlaProjIdeal.τ).loc Cert.MlaProjIdeal.main_arg2)
      ∧ m' ((c.tc : Thread Cert.MlaProjRefIdeal.nD Cert.MlaProjRefIdeal.τ).loc Cert.MlaProjRefIdeal.main_arg3) = m ((c.tc : Thread Cert.MlaProjIdeal.nD Cert.MlaProjIdeal.τ).loc Cert.MlaProjIdeal.main_arg3)
      ∧ m' ((c.tc : Thread Cert.MlaProjRefIdeal.nD Cert.MlaProjRefIdeal.τ).loc Cert.MlaProjRefIdeal.main_arg4) = m ((c.tc : Thread Cert.MlaProjIdeal.nD Cert.MlaProjIdeal.τ).loc Cert.MlaProjIdeal.main_arg4)
      ∧ m' ((c.tc : Thread Cert.MlaProjRefIdeal.nD Cert.MlaProjRefIdeal.τ).loc Cert.MlaProjRefIdeal.main_arg5) = m ((c.tc : Thread Cert.MlaProjIdeal.nD Cert.MlaProjIdeal.τ).loc Cert.MlaProjIdeal.main_arg5)
      ∧ m' ((c.tc : Thread Cert.MlaProjRefIdeal.nD Cert.MlaProjRefIdeal.τ).loc Cert.MlaProjRefIdeal.main_arg6) = m ((c.tc : Thread Cert.MlaProjIdeal.nD Cert.MlaProjIdeal.τ).loc Cert.MlaProjIdeal.main_arg6)
      ∧ m' ((c.tc : Thread Cert.MlaProjRefIdeal.nD Cert.MlaProjRefIdeal.τ).loc Cert.MlaProjRefIdeal.main_arg7) = m ((c.tc : Thread Cert.MlaProjIdeal.nD Cert.MlaProjIdeal.τ).loc Cert.MlaProjIdeal.main_arg7)
      ∧ m' ((c.tc : Thread Cert.MlaProjRefIdeal.nD Cert.MlaProjRefIdeal.τ).loc Cert.MlaProjRefIdeal.main_arg8) = m ((c.tc : Thread Cert.MlaProjIdeal.nD Cert.MlaProjIdeal.τ).loc Cert.MlaProjIdeal.main_arg8)
      ∧ m' ((c.tc : Thread Cert.MlaProjRefIdeal.nD Cert.MlaProjRefIdeal.τ).loc Cert.MlaProjRefIdeal.main_arg9) = m ((c.tc : Thread Cert.MlaProjIdeal.nD Cert.MlaProjIdeal.τ).loc Cert.MlaProjIdeal.main_arg9)
      ∧ m' ((c.tc : Thread Cert.MlaProjRefIdeal.nD Cert.MlaProjRefIdeal.τ).loc Cert.MlaProjRefIdeal.main_arg10) = m ((c.tc : Thread Cert.MlaProjIdeal.nD Cert.MlaProjIdeal.τ).loc Cert.MlaProjIdeal.main_arg10)
      ∧ m' ((c.tc : Thread Cert.MlaProjRefIdeal.nD Cert.MlaProjRefIdeal.τ).loc Cert.MlaProjRefIdeal.main_arg11) = m ((c.tc : Thread Cert.MlaProjIdeal.nD Cert.MlaProjIdeal.τ).loc Cert.MlaProjIdeal.main_arg11)) →
    ∃ (v0 : (c : Dev Cert.MlaProjIdeal.nD) → Buf (Elt Ideal) ((c.tc : Thread Cert.MlaProjIdeal.nD Cert.MlaProjIdeal.τ).loc Cert.MlaProjIdeal.main_v61_0)) (v1 : (c : Dev Cert.MlaProjIdeal.nD) → Buf (Elt Ideal) ((c.tc : Thread Cert.MlaProjIdeal.nD Cert.MlaProjIdeal.τ).loc Cert.MlaProjIdeal.main_v61_1)) (v2 : (c : Dev Cert.MlaProjIdeal.nD) → Buf (Elt Ideal) ((c.tc : Thread Cert.MlaProjIdeal.nD Cert.MlaProjIdeal.τ).loc Cert.MlaProjIdeal.main_v61_2)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v61_0) = v0 c
          ∧ r.2.mem ((c.tc : Thread Cert.MlaProjIdeal.nD Cert.MlaProjIdeal.τ).loc Cert.MlaProjIdeal.main_v61_1) = v1 c
          ∧ r.2.mem ((c.tc : Thread Cert.MlaProjIdeal.nD Cert.MlaProjIdeal.τ).loc Cert.MlaProjIdeal.main_v61_2) = v2 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
          ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
          ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
          ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
          ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8)
          ∧ r.2.mem ((c.tc : Thread Cert.MlaProjIdeal.nD Cert.MlaProjIdeal.τ).loc Cert.MlaProjIdeal.main_arg9) = m ((c.tc : Thread Cert.MlaProjIdeal.nD Cert.MlaProjIdeal.τ).loc Cert.MlaProjIdeal.main_arg9)
          ∧ r.2.mem ((c.tc : Thread Cert.MlaProjIdeal.nD Cert.MlaProjIdeal.τ).loc Cert.MlaProjIdeal.main_arg10) = m ((c.tc : Thread Cert.MlaProjIdeal.nD Cert.MlaProjIdeal.τ).loc Cert.MlaProjIdeal.main_arg10)
          ∧ r.2.mem ((c.tc : Thread Cert.MlaProjIdeal.nD Cert.MlaProjIdeal.τ).loc Cert.MlaProjIdeal.main_arg11) = m ((c.tc : Thread Cert.MlaProjIdeal.nD Cert.MlaProjIdeal.τ).loc Cert.MlaProjIdeal.main_arg11))
      ∧ θ_run (Cert.MlaProjRefIdeal.defs (F := Ideal)) (onTc (τ := Cert.MlaProjRefIdeal.τ) (Cert.MlaProjRefIdeal.main (F := Ideal))) ⟨m', fun _ => 0, g'⟩ (fun r => ∀ c : Dev Cert.MlaProjRefIdeal.nD,
          r.2.mem ((c.tc : Thread Cert.MlaProjRefIdeal.nD Cert.MlaProjRefIdeal.τ).loc Cert.MlaProjRefIdeal.main_v125) = v0 c
          ∧ r.2.mem ((c.tc : Thread Cert.MlaProjRefIdeal.nD Cert.MlaProjRefIdeal.τ).loc Cert.MlaProjRefIdeal.main_v126) = v1 c
          ∧ r.2.mem ((c.tc : Thread Cert.MlaProjRefIdeal.nD Cert.MlaProjRefIdeal.τ).loc Cert.MlaProjRefIdeal.main_v127) = v2 c
          ∧ r.2.mem ((c.tc : Thread Cert.MlaProjRefIdeal.nD Cert.MlaProjRefIdeal.τ).loc Cert.MlaProjRefIdeal.main_arg0) = m' ((c.tc : Thread Cert.MlaProjRefIdeal.nD Cert.MlaProjRefIdeal.τ).loc Cert.MlaProjRefIdeal.main_arg0)
          ∧ r.2.mem ((c.tc : Thread Cert.MlaProjRefIdeal.nD Cert.MlaProjRefIdeal.τ).loc Cert.MlaProjRefIdeal.main_arg1) = m' ((c.tc : Thread Cert.MlaProjRefIdeal.nD Cert.MlaProjRefIdeal.τ).loc Cert.MlaProjRefIdeal.main_arg1)
          ∧ r.2.mem ((c.tc : Thread Cert.MlaProjRefIdeal.nD Cert.MlaProjRefIdeal.τ).loc Cert.MlaProjRefIdeal.main_arg2) = m' ((c.tc : Thread Cert.MlaProjRefIdeal.nD Cert.MlaProjRefIdeal.τ).loc Cert.MlaProjRefIdeal.main_arg2)
          ∧ r.2.mem ((c.tc : Thread Cert.MlaProjRefIdeal.nD Cert.MlaProjRefIdeal.τ).loc Cert.MlaProjRefIdeal.main_arg3) = m' ((c.tc : Thread Cert.MlaProjRefIdeal.nD Cert.MlaProjRefIdeal.τ).loc Cert.MlaProjRefIdeal.main_arg3)
          ∧ r.2.mem ((c.tc : Thread Cert.MlaProjRefIdeal.nD Cert.MlaProjRefIdeal.τ).loc Cert.MlaProjRefIdeal.main_arg4) = m' ((c.tc : Thread Cert.MlaProjRefIdeal.nD Cert.MlaProjRefIdeal.τ).loc Cert.MlaProjRefIdeal.main_arg4)
          ∧ r.2.mem ((c.tc : Thread Cert.MlaProjRefIdeal.nD Cert.MlaProjRefIdeal.τ).loc Cert.MlaProjRefIdeal.main_arg5) = m' ((c.tc : Thread Cert.MlaProjRefIdeal.nD Cert.MlaProjRefIdeal.τ).loc Cert.MlaProjRefIdeal.main_arg5)
          ∧ r.2.mem ((c.tc : Thread Cert.MlaProjRefIdeal.nD Cert.MlaProjRefIdeal.τ).loc Cert.MlaProjRefIdeal.main_arg6) = m' ((c.tc : Thread Cert.MlaProjRefIdeal.nD Cert.MlaProjRefIdeal.τ).loc Cert.MlaProjRefIdeal.main_arg6)
          ∧ r.2.mem ((c.tc : Thread Cert.MlaProjRefIdeal.nD Cert.MlaProjRefIdeal.τ).loc Cert.MlaProjRefIdeal.main_arg7) = m' ((c.tc : Thread Cert.MlaProjRefIdeal.nD Cert.MlaProjRefIdeal.τ).loc Cert.MlaProjRefIdeal.main_arg7)
          ∧ r.2.mem ((c.tc : Thread Cert.MlaProjRefIdeal.nD Cert.MlaProjRefIdeal.τ).loc Cert.MlaProjRefIdeal.main_arg8) = m' ((c.tc : Thread Cert.MlaProjRefIdeal.nD Cert.MlaProjRefIdeal.τ).loc Cert.MlaProjRefIdeal.main_arg8)
          ∧ r.2.mem ((c.tc : Thread Cert.MlaProjRefIdeal.nD Cert.MlaProjRefIdeal.τ).loc Cert.MlaProjRefIdeal.main_arg9) = m' ((c.tc : Thread Cert.MlaProjRefIdeal.nD Cert.MlaProjRefIdeal.τ).loc Cert.MlaProjRefIdeal.main_arg9)
          ∧ r.2.mem ((c.tc : Thread Cert.MlaProjRefIdeal.nD Cert.MlaProjRefIdeal.τ).loc Cert.MlaProjRefIdeal.main_arg10) = m' ((c.tc : Thread Cert.MlaProjRefIdeal.nD Cert.MlaProjRefIdeal.τ).loc Cert.MlaProjRefIdeal.main_arg10)
          ∧ r.2.mem ((c.tc : Thread Cert.MlaProjRefIdeal.nD Cert.MlaProjRefIdeal.τ).loc Cert.MlaProjRefIdeal.main_arg11) = m' ((c.tc : Thread Cert.MlaProjRefIdeal.nD Cert.MlaProjRefIdeal.τ).loc Cert.MlaProjRefIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnHalf : Cert.FfnHalf.Facts) (hFfnHalfIdeal : Cert.FfnHalfIdeal.Facts) (hFfnHalfRefIdeal : Cert.FfnHalfRefIdeal.Facts) (hSwaProj : Cert.SwaProj.Facts) (hSwaProjIdeal : Cert.SwaProjIdeal.Facts) (hSwaProjRefIdeal : Cert.SwaProjRefIdeal.Facts) (hMlaProj : Cert.MlaProj.Facts) (hMlaProjIdeal : Cert.MlaProjIdeal.Facts) (hMlaProjRefIdeal : Cert.MlaProjRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_FfnHalf (hFfnHalf := hFfnHalf)
    ∧ quiescent_FfnHalfIdeal (hFfnHalfIdeal := hFfnHalfIdeal)
    ∧ quiescent_FfnHalfRefIdeal (hFfnHalfRefIdeal := hFfnHalfRefIdeal)
    ∧ quiescent_SwaProj (hSwaProj := hSwaProj)
    ∧ quiescent_SwaProjIdeal (hSwaProjIdeal := hSwaProjIdeal)
    ∧ quiescent_SwaProjRefIdeal (hSwaProjRefIdeal := hSwaProjRefIdeal)
    ∧ quiescent_MlaProj (hMlaProj := hMlaProj)
    ∧ quiescent_MlaProjIdeal (hMlaProjIdeal := hMlaProjIdeal)
    ∧ quiescent_MlaProjRefIdeal (hMlaProjRefIdeal := hMlaProjRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_FfnHalf_FfnHalfIdeal
    ∧ algebraic_FfnHalfIdeal_FfnHalfRefIdeal (hFfnHalfIdeal := hFfnHalfIdeal) (hFfnHalfRefIdeal := hFfnHalfRefIdeal)
    ∧ preserves_SwaProj_SwaProjIdeal
    ∧ algebraic_SwaProjIdeal_SwaProjRefIdeal (hSwaProjIdeal := hSwaProjIdeal) (hSwaProjRefIdeal := hSwaProjRefIdeal)
    ∧ preserves_MlaProj_MlaProjIdeal
    ∧ algebraic_MlaProjIdeal_MlaProjRefIdeal (hMlaProjIdeal := hMlaProjIdeal) (hMlaProjRefIdeal := hMlaProjRefIdeal)
-- ==== Pre_finite_qk.lean ====
abbrev S32x2048x2048 : Shape := ⟨3, ![32, 2048, 2048]⟩
abbrev S32x2048x1024 : Shape := ⟨3, ![32, 2048, 1024]⟩
abbrev S_ : Shape := ⟨0, ![]⟩

class Facts : Prop where
  bcast_S_S32x2048x2048 : S_.BroadcastsInDim S32x2048x2048 (![] : Fin 0 → Fin S32x2048x2048.rank)

variable [Facts]

def fn {F : FTy → Type} [FloatOps F] (main_arg0 : FVec F S32x2048x2048 .bf16) (main_arg1 : FVec F S32x2048x2048 .bf16) (main_arg2 : FVec F S32x2048x1024 .bf16) : IVec S32x2048x2048 1 :=
  let main_v0 : FVec F S32x2048x2048 .bf16 := Host.absf main_arg0
  let main_cst : FVec F S_ .bf16 := constant S_ .bf16 0x7F80#16
  let main_v1 : FVec F S32x2048x2048 .bf16 := broadcastInDim S32x2048x2048 ![] bcast_S_S32x2048x2048 main_cst
  let main_v2 : IVec S32x2048x2048 1 := cmpf .olt main_v0 main_v1
  let main_v3 : FVec F S32x2048x2048 .bf16 := Host.absf main_arg1
  let main_cst_0 : FVec F S_ .bf16 := constant S_ .bf16 0x7F80#16
  let main_v4 : FVec F S32x2048x2048 .bf16 := broadcastInDim S32x2048x2048 ![] bcast_S_S32x2048x2048 main_cst_0
  let main_v5 : IVec S32x2048x2048 1 := cmpf .olt main_v3 main_v4
  let main_v6 : IVec S32x2048x2048 1 := andi main_v2 main_v5
  main_v6
-- ==== Kernel.lean ====
abbrev S32x2048x2048 : Shape := ⟨3, ![32, 2048, 2048]⟩
abbrev S32x2048x1024 : Shape := ⟨3, ![32, 2048, 1024]⟩
abbrev S1x2048x512 : Shape := ⟨3, ![1, 2048, 512]⟩
abbrev S1x2048x256 : Shape := ⟨3, ![1, 2048, 256]⟩
abbrev S2x2048x256 : Shape := ⟨3, ![2, 2048, 256]⟩
abbrev S1x2048x128 : Shape := ⟨3, ![1, 2048, 128]⟩
abbrev S2048x128 : Shape := ⟨2, ![2048, 128]⟩
abbrev S1x256x256 : Shape := ⟨3, ![1, 256, 256]⟩
abbrev S256x256 : Shape := ⟨2, ![256, 256]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 4
  | .vmem => 9
  | .smem => 0
  | _ => 0

abbrev bufTy : (tb : Table) → Fin (tcTables nBuf tb) → BufTy
  | .hbm, ⟨0, _⟩ => ⟨S32x2048x2048, .bf16⟩
  | .hbm, ⟨1, _⟩ => ⟨S32x2048x2048, .bf16⟩
  | .hbm, ⟨2, _⟩ => ⟨S32x2048x1024, .bf16⟩
  | .hbm, ⟨3, _⟩ => ⟨S32x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S2x2048x256, .bf16⟩
  | _, _ => ⟨S32x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32x2048x2048 : Shape := ⟨3, ![32, 2048, 2048]⟩
abbrev S32x2048x1024 : Shape := ⟨3, ![32, 2048, 1024]⟩
abbrev S32x2048x8x256 : Shape := ⟨4, ![32, 2048, 8, 256]⟩
abbrev S32x2048x8x128 : Shape := ⟨4, ![32, 2048, 8, 128]⟩
abbrev S32x8x2048x2048 : Shape := ⟨4, ![32, 8, 2048, 2048]⟩
abbrev S_ : Shape := ⟨0, ![]⟩
abbrev S32x8x2048 : Shape := ⟨3, ![32, 8, 2048]⟩
abbrev S32x8x2048x1 : Shape := ⟨4, ![32, 8, 2048, 1]⟩
abbrev S32x8x128x2048 : Shape := ⟨4, ![32, 8, 128, 2048]⟩

abbrev nBuf : Space → Nat
  | .hbm => 32
  | .vmem => 0
  | .smem => 0
  | _ => 0

abbrev bufTy : (tb : Table) → Fin (tcTables nBuf tb) → BufTy
  | .hbm, ⟨0, _⟩ => ⟨S32x2048x2048, .bf16⟩
  | .hbm, ⟨1, _⟩ => ⟨S32x2048x2048, .bf16⟩
  | .hbm, ⟨2, _⟩ => ⟨S32x2048x1024, .bf16⟩
  | .hbm, ⟨3, _⟩ => ⟨S32x2048x2048, .f32⟩
  | .hbm, ⟨4, _⟩ => ⟨S32x2048x8x256, .f32⟩
  | .hbm, ⟨5, _⟩ => ⟨S32x2048x2048, .f32⟩
  | .hbm, ⟨6, _⟩ => ⟨S32x2048x8x256, .f32⟩
  | .hbm, ⟨7, _⟩ => ⟨S32x2048x1024, .f32⟩
  | .hbm, ⟨8, _⟩ => ⟨S32x2048x8x128, .f32⟩
  | .hbm, ⟨9, _⟩ => ⟨S32x8x2048x2048, .f32⟩
  | .hbm, ⟨10, _⟩ => ⟨S_, .f32⟩
  | .hbm, ⟨11, _⟩ => ⟨S_, .f32⟩
  | .hbm, ⟨12, _⟩ => ⟨S32x8x2048x2048, .f32⟩
  | .hbm, ⟨13, _⟩ => ⟨S32x8x2048x2048, .f32⟩
  | .hbm, ⟨14, _⟩ => ⟨S_, .f32⟩
  | .hbm, ⟨15, _⟩ => ⟨S32x8x2048, .f32⟩
  | .hbm, ⟨16, _⟩ => ⟨S_, .f32⟩
  | .hbm, ⟨17, _⟩ => ⟨S32x8x2048, .f32⟩
  | .hbm, ⟨18, _⟩ => ⟨S32x8x2048, .f32⟩
  | .hbm, ⟨19, _⟩ => ⟨S32x8x2048x1, .f32⟩
  | .hbm, ⟨20, _⟩ => ⟨S32x8x2048x2048, .f32⟩
  | .hbm, ⟨21, _⟩ => ⟨S32x8x2048x2048, .f32⟩
  | .hbm, ⟨22, _⟩ => ⟨S32x8x2048x2048, .f32⟩
  | .hbm, ⟨23, _⟩ => ⟨S_, .f32⟩
  | .hbm, ⟨24, _⟩ => ⟨S32x8x2048, .f32⟩
  | .hbm, ⟨25, _⟩ => ⟨S32x8x2048x1, .f32⟩
  | .hbm, ⟨26, _⟩ => ⟨S32x8x2048x2048, .f32⟩
  | .hbm, ⟨27, _⟩ => ⟨S32x8x2048x2048, .f32⟩
  | .hbm, ⟨28, _⟩ => ⟨S32x8x128x2048, .f32⟩
  | .hbm, ⟨29, _⟩ => ⟨S32x2048x8x128, .f32⟩
  | .hbm, ⟨30, _⟩ => ⟨S32x2048x1024, .f32⟩
  | .hbm, ⟨31, _⟩ => ⟨S32x2048x1024, .bf16⟩
  | _, _ => ⟨S32x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Ffn.lean ====
abbrev S65536x1024 : Shape := ⟨2, ![65536, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 8
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnIdeal.lean ====
abbrev S65536x1024 : Shape := ⟨2, ![65536, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 8
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S65536x1024 : Shape := ⟨2, ![65536, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x2816 : Shape := ⟨2, ![65536, 2816]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S65536x1024, .f32⟩
  | .hbm, ⟨8, _⟩ => ⟨S1024x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S65536x1024, .f32⟩
  | .hbm, ⟨13, _⟩ => ⟨S65536x1024, .f32⟩
  | .hbm, ⟨14, _⟩ => ⟨S1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S_, .f32⟩
  | .hbm, ⟨35, _⟩ => ⟨S65536x2816, .f32⟩
  | .hbm, ⟨36, _⟩ => ⟨S65536x2816, .f32⟩
  | .hbm, ⟨37, _⟩ => ⟨S_, .f32⟩
  | .hbm, ⟨38, _⟩ => ⟨S65536x2816, .f32⟩
  | .hbm, ⟨39, _⟩ => ⟨S65536x2816, .f32⟩
  | .hbm, ⟨40, _⟩ => ⟨S65536x2816, .f32⟩
  | .hbm, ⟨41, _⟩ => ⟨S65536x2816, .f32⟩
  | .hbm, ⟨42, _⟩ => ⟨S65536x2816, .f32⟩
  | .hbm, ⟨43, _⟩ => ⟨S65536x1024, .f32⟩
  | .hbm, ⟨44, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== FfnHalf.lean ====
abbrev S65536x1024 : Shape := ⟨2, ![65536, 1024]⟩
abbrev S65536x512 : Shape := ⟨2, ![65536, 512]⟩
abbrev S512x1024 : Shape := ⟨2, ![512, 1024]⟩
abbrev S1x1024 : Shape := ⟨2, ![1, 1024]⟩
abbrev S1024x2816 : Shape := ⟨2, ![1024, 2816]⟩
abbrev S2816x1024 : Shape := ⟨2, ![2816, 1024]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x2816 : Shape := ⟨2, ![256, 2816]⟩

abbrev nBuf : Space → Nat
  | .hbm => 8
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S512x1024, .bf16⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnHalfRefIdeal.lean ====
abbrev S65536x1024 : Shape := ⟨2, ![65536, 1024]⟩
abbrev S65536x512 : Shape := ⟨2, ![65536, 512]⟩
abbrev S512x1024 : Shape := ⟨2, ![512, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x2816 : Shape := ⟨2, ![65536, 2816]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S512x1024, .bf16⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S65536x512, .f32⟩
  | .hbm, ⟨8, _⟩ => ⟨S512x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S65536x1024, .f32⟩
  | .hbm, ⟨13, _⟩ => ⟨S65536x1024, .f32⟩
  | .hbm, ⟨14, _⟩ => ⟨S1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S_, .f32⟩
  | .hbm, ⟨35, _⟩ => ⟨S65536x2816, .f32⟩
  | .hbm, ⟨36, _⟩ => ⟨S65536x2816, .f32⟩
  | .hbm, ⟨37, _⟩ => ⟨S_, .f32⟩
  | .hbm, ⟨38, _⟩ => ⟨S65536x2816, .f32⟩
  | .hbm, ⟨39, _⟩ => ⟨S65536x2816, .f32⟩
  | .hbm, ⟨40, _⟩ => ⟨S65536x2816, .f32⟩
  | .hbm, ⟨41, _⟩ => ⟨S65536x2816, .f32⟩
  | .hbm, ⟨42, _⟩ => ⟨S65536x2816, .f32⟩
  | .hbm, ⟨43, _⟩ => ⟨S65536x1024, .f32⟩
  | .hbm, ⟨44, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== SwaProj.lean ====
abbrev S65536x1024 : Shape := ⟨2, ![65536, 1024]⟩
abbrev S1024 : Shape := ⟨1, ![1024]⟩
abbrev S1024x1536 : Shape := ⟨2, ![1024, 1536]⟩
abbrev S64 : Shape := ⟨1, ![64]⟩
abbrev S2048x32 : Shape := ⟨2, ![2048, 32]⟩
abbrev S1x1024 : Shape := ⟨2, ![1, 1024]⟩
abbrev S_ : Shape := ⟨0, ![]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S65536x256 : Shape := ⟨2, ![65536, 256]⟩
abbrev S1024x1024 : Shape := ⟨2, ![1024, 1024]⟩
abbrev S1024x128 : Shape := ⟨2, ![1024, 128]⟩
abbrev S1024x256 : Shape := ⟨2, ![1024, 256]⟩
abbrev S256x1024 : Shape := ⟨2, ![256, 1024]⟩
abbrev S256x128 : Shape := ⟨2, ![256, 128]⟩

abbrev nBuf : Space → Nat
  | .hbm => 70
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1536, .f32⟩
  | .hbm, ⟨3, _⟩ => ⟨S64, .f32⟩
  | .hbm, ⟨4, _⟩ => ⟨S64, .f32⟩
  | .hbm, ⟨5, _⟩ => ⟨S2048x32, .f32⟩
  | .hbm, ⟨6, _⟩ => ⟨S2048x32, .f32⟩
  | .hbm, ⟨7, _⟩ => ⟨S1x1024, .f32⟩
  | .hbm, ⟨8, _⟩ => ⟨S1024x1536, .bf16⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S4x64, .f32⟩
  | .hbm, ⟨14, _⟩ => ⟨S256, .f32⟩
  | .hbm, ⟨15, _⟩ => ⟨S1x256, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S1x64, .f32⟩
  | .hbm, ⟨20, _⟩ => ⟨S4x64, .f32⟩
  | .hbm, ⟨21, _⟩ => ⟨S256, .f32⟩
  | .hbm, ⟨22, _⟩ => ⟨S1x256, .f32⟩
  | .hbm, ⟨23, _⟩ => ⟨S256, .i32⟩
  | .hbm, ⟨24, _⟩ => ⟨S_, .i32⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S_, .i32⟩
  | .hbm, ⟨30, _⟩ => ⟨S256, .i32⟩
  | .hbm, ⟨31, _⟩ => ⟨S256, .i1⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S256, .i1⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S256x1, .i32⟩
  | .hbm, ⟨43, _⟩ => ⟨S1x256, .i32⟩
  | .hbm, ⟨44, _⟩ => ⟨S256x256, .i32⟩
  | .hbm, ⟨45, _⟩ => ⟨S256x256, .i32⟩
  | .hbm, ⟨46, _⟩ => ⟨S256x256, .i1⟩
  | .hbm, ⟨47, _⟩ => ⟨S256x256, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S256x256, .bf16⟩
  | .hbm, ⟨52, _⟩ => ⟨S_, .f32⟩
  | .hbm, ⟨53, _⟩ => ⟨S2048x32, .f32⟩
  | .hbm, ⟨54, _⟩ => ⟨S2048x64, .f32⟩
  | .hbm, ⟨55, _⟩ => ⟨S2048x32, .f32⟩
  | .hbm, ⟨56, _⟩ => ⟨S2048x64, .f32⟩
  | .hbm, ⟨57, _⟩ => ⟨S2048x64, .f32⟩
  | .hbm, ⟨58, _⟩ => ⟨S1x2048x1x64, .f32⟩
  | .hbm, ⟨59, _⟩ => ⟨S1x2048x2x64, .f32⟩
  | .hbm, ⟨60, _⟩ => ⟨S2048x128, .f32⟩
  | .hbm, ⟨61, _⟩ => ⟨S1x2048x1x64, .f32⟩
  | .hbm, ⟨62, _⟩ => ⟨S1x2048x2x64, .f32⟩
  | .hbm, ⟨63, _⟩ => ⟨S2048x128, .f32⟩
  | .hbm, ⟨64, _⟩ => ⟨S1x2048x1x64, .f32⟩
  | .hbm, ⟨65, _⟩ => ⟨S1x2048x2x64, .f32⟩
  | .hbm, ⟨66, _⟩ => ⟨S2048x128, .f32⟩
  | .hbm, ⟨67, _⟩ => ⟨S65536x1024, .bf16⟩
  | .hbm, ⟨68, _⟩ => ⟨S65536x256, .bf16⟩
  | .hbm, ⟨69, _⟩ => ⟨S65536x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39_0 : Ref sig .tc := ⟨.hbm, 67, rfl⟩
abbrev main_v39_1 : Ref sig .tc := ⟨.hbm, 68, rfl⟩
abbrev main_v39_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== SwaProjRefIdeal.lean ====
abbrev S65536x1024 : Shape := ⟨2, ![65536, 1024]⟩
abbrev S1024 : Shape := ⟨1, ![1024]⟩
abbrev S1024x1536 : Shape := ⟨2, ![1024, 1536]⟩
abbrev S64 : Shape := ⟨1, ![64]⟩
abbrev S2048x32 : Shape := ⟨2, ![2048, 32]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1536 : Shape := ⟨2, ![65536, 1536]⟩
abbrev S32x2048x16x64 : Shape := ⟨4, ![32, 2048, 16, 64]⟩
abbrev S65536x256 : Shape := ⟨2, ![65536, 256]⟩
abbrev S32x2048x4x64 : Shape := ⟨4, ![32, 2048, 4, 64]⟩
abbrev S32x2048x16 : Shape := ⟨3, ![32, 2048, 16]⟩
abbrev S32x2048x16x1 : Shape := ⟨4, ![32, 2048, 16, 1]⟩
abbrev S1x1x1x64 : Shape := ⟨4, ![1, 1, 1, 64]⟩
abbrev S32x2048x16x32 : Shape := ⟨4, ![32, 2048, 16, 32]⟩
abbrev S1x2048x1x32 : Shape := ⟨4, ![1, 2048, 1, 32]⟩
abbrev S32x2048x4 : Shape := ⟨3, ![32, 2048, 4]⟩
abbrev S32x2048x4x1 : Shape := ⟨4, ![32, 2048, 4, 1]⟩
abbrev S32x2048x4x32 : Shape := ⟨4, ![32, 2048, 4, 32]⟩

abbrev nBuf : Space → Nat
  | .hbm => 96
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1536, .f32⟩
  | .hbm, ⟨3, _⟩ => ⟨S64, .f32⟩
  | .hbm, ⟨4, _⟩ => ⟨S64, .f32⟩
  | .hbm, ⟨5, _⟩ => ⟨S2048x32, .f32⟩
  | .hbm, ⟨6, _⟩ => ⟨S2048x32, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S65536x1536, .f32⟩
  | .hbm, ⟨24, _⟩ => ⟨S65536x1024, .f32⟩
  | .hbm, ⟨25, _⟩ => ⟨S32x2048x16x64, .f32⟩
  | .hbm, ⟨26, _⟩ => ⟨S65536x256, .f32⟩
  | .hbm, ⟨27, _⟩ => ⟨S32x2048x4x64, .f32⟩
  | .hbm, ⟨28, _⟩ => ⟨S32x2048x16x64, .f32⟩
  | .hbm, ⟨29, _⟩ => ⟨S_, .f32⟩
  | .hbm, ⟨30, _⟩ => ⟨S32x2048x16, .f32⟩
  | .hbm, ⟨31, _⟩ => ⟨S32x2048x16x1, .f32⟩
  | .hbm, ⟨32, _⟩ => ⟨S_, .f32⟩
  | .hbm, ⟨33, _⟩ => ⟨S32x2048x16x1, .f32⟩
  | .hbm, ⟨34, _⟩ => ⟨S32x2048x16x1, .f32⟩
  | .hbm, ⟨35, _⟩ => ⟨S_, .f32⟩
  | .hbm, ⟨36, _⟩ => ⟨S32x2048x16x1, .f32⟩
  | .hbm, ⟨37, _⟩ => ⟨S32x2048x16x1, .f32⟩
  | .hbm, ⟨38, _⟩ => ⟨S32x2048x16x1, .f32⟩
  | .hbm, ⟨39, _⟩ => ⟨S32x2048x16x64, .f32⟩
  | .hbm, ⟨40, _⟩ => ⟨S32x2048x16x64, .f32⟩
  | .hbm, ⟨41, _⟩ => ⟨S1x1x1x64, .f32⟩
  | .hbm, ⟨42, _⟩ => ⟨S32x2048x16x64, .f32⟩
  | .hbm, ⟨43, _⟩ => ⟨S32x2048x16x64, .f32⟩
  | .hbm, ⟨44, _⟩ => ⟨S32x2048x16x32, .f32⟩
  | .hbm, ⟨45, _⟩ => ⟨S32x2048x16x32, .f32⟩
  | .hbm, ⟨46, _⟩ => ⟨S1x2048x1x32, .f32⟩
  | .hbm, ⟨47, _⟩ => ⟨S1x2048x1x32, .f32⟩
  | .hbm, ⟨48, _⟩ => ⟨S32x2048x16x32, .f32⟩
  | .hbm, ⟨49, _⟩ => ⟨S32x2048x16x32, .f32⟩
  | .hbm, ⟨50, _⟩ => ⟨S32x2048x16x32, .f32⟩
  | .hbm, ⟨51, _⟩ => ⟨S32x2048x16x32, .f32⟩
  | .hbm, ⟨52, _⟩ => ⟨S32x2048x16x32, .f32⟩
  | .hbm, ⟨53, _⟩ => ⟨S32x2048x16x32, .f32⟩
  | .hbm, ⟨54, _⟩ => ⟨S32x2048x16x32, .f32⟩
  | .hbm, ⟨55, _⟩ => ⟨S32x2048x16x32, .f32⟩
  | .hbm, ⟨56, _⟩ => ⟨S32x2048x16x32, .f32⟩
  | .hbm, ⟨57, _⟩ => ⟨S32x2048x16x32, .f32⟩
  | .hbm, ⟨58, _⟩ => ⟨S32x2048x16x64, .f32⟩
  | .hbm, ⟨59, _⟩ => ⟨S65536x1024, .f32⟩
  | .hbm, ⟨60, _⟩ => ⟨S32x2048x4x64, .f32⟩
  | .hbm, ⟨61, _⟩ => ⟨S_, .f32⟩
  | .hbm, ⟨62, _⟩ => ⟨S32x2048x4, .f32⟩
  | .hbm, ⟨63, _⟩ => ⟨S32x2048x4x1, .f32⟩
  | .hbm, ⟨64, _⟩ => ⟨S_, .f32⟩
  | .hbm, ⟨65, _⟩ => ⟨S32x2048x4x1, .f32⟩
  | .hbm, ⟨66, _⟩ => ⟨S32x2048x4x1, .f32⟩
  | .hbm, ⟨67, _⟩ => ⟨S_, .f32⟩
  | .hbm, ⟨68, _⟩ => ⟨S32x2048x4x1, .f32⟩
  | .hbm, ⟨69, _⟩ => ⟨S32x2048x4x1, .f32⟩
  | .hbm, ⟨70, _⟩ => ⟨S32x2048x4x1, .f32⟩
  | .hbm, ⟨71, _⟩ => ⟨S32x2048x4x64, .f32⟩
  | .hbm, ⟨72, _⟩ => ⟨S32x2048x4x64, .f32⟩
  | .hbm, ⟨73, _⟩ => ⟨S1x1x1x64, .f32⟩
  | .hbm, ⟨74, _⟩ => ⟨S32x2048x4x64, .f32⟩
  | .hbm, ⟨75, _⟩ => ⟨S32x2048x4x64, .f32⟩
  | .hbm, ⟨76, _⟩ => ⟨S32x2048x4x32, .f32⟩
  | .hbm, ⟨77, _⟩ => ⟨S32x2048x4x32, .f32⟩
  | .hbm, ⟨78, _⟩ => ⟨S1x2048x1x32, .f32⟩
  | .hbm, ⟨79, _⟩ => ⟨S1x2048x1x32, .f32⟩
  | .hbm, ⟨80, _⟩ => ⟨S32x2048x4x32, .f32⟩
  | .hbm, ⟨81, _⟩ => ⟨S32x2048x4x32, .f32⟩
  | .hbm, ⟨82, _⟩ => ⟨S32x2048x4x32, .f32⟩
  | .hbm, ⟨83, _⟩ => ⟨S32x2048x4x32, .f32⟩
  | .hbm, ⟨84, _⟩ => ⟨S32x2048x4x32, .f32⟩
  | .hbm, ⟨85, _⟩ => ⟨S32x2048x4x32, .f32⟩
  | .hbm, ⟨86, _⟩ => ⟨S32x2048x4x32, .f32⟩
  | .hbm, ⟨87, _⟩ => ⟨S32x2048x4x32, .f32⟩
  | .hbm, ⟨88, _⟩ => ⟨S32x2048x4x32, .f32⟩
  | .hbm, ⟨89, _⟩ => ⟨S32x2048x4x32, .f32⟩
  | .hbm, ⟨90, _⟩ => ⟨S32x2048x4x64, .f32⟩
  | .hbm, ⟨91, _⟩ => ⟨S65536x256, .f32⟩
  | .hbm, ⟨92, _⟩ => ⟨S65536x1024, .bf16⟩
  | .hbm, ⟨93, _⟩ => ⟨S65536x256, .bf16⟩
  | .hbm, ⟨94, _⟩ => ⟨S65536x256, .f32⟩
  | .hbm, ⟨95, _⟩ => ⟨S65536x256, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩

abbrev nD : Nat := 1
abbrev τ : Topo := Topo.v7x

variable {F : FTy → Type} [FloatOps F]
-- ==== MlaProj.lean ====
abbrev S65536x1024 : Shape := ⟨2, ![65536, 1024]⟩
abbrev S1024 : Shape := ⟨1, ![1024]⟩
abbrev S1024x384 : Shape := ⟨2, ![1024, 384]⟩
abbrev S384 : Shape := ⟨1, ![384]⟩
abbrev S384x1536 : Shape := ⟨2, ![384, 1536]⟩
abbrev S1024x320 : Shape := ⟨2, ![1024, 320]⟩
abbrev S256 : Shape := ⟨1, ![256]⟩
abbrev S256x2048 : Shape := ⟨2, ![256, 2048]⟩
abbrev S192 : Shape := ⟨1, ![192]⟩
abbrev S2048x32 : Shape := ⟨2, ![2048, 32]⟩
abbrev S_ : Shape := ⟨0, ![]⟩
abbrev S2048x64 : Shape := ⟨2, ![2048, 64]⟩
abbrev S1x2048x1x64 : Shape := ⟨4, ![1, 2048, 1, 64]⟩
abbrev S2048x128 : Shape := ⟨2, ![2048, 128]⟩
abbrev S384x8x192 : Shape := ⟨3, ![384, 8, 192]⟩
abbrev S384x8x128 : Shape := ⟨3, ![384, 8, 128]⟩
abbrev S384x8x64 : Shape := ⟨3, ![384, 8, 64]⟩
abbrev S384x8x32 : Shape := ⟨3, ![384, 8, 32]⟩
abbrev S384x8x256 : Shape := ⟨3, ![384, 8, 256]⟩
abbrev S384x8x384 : Shape := ⟨3, ![384, 8, 384]⟩
abbrev S1024x256 : Shape := ⟨2, ![1024, 256]⟩
abbrev S1024x64 : Shape := ⟨2, ![1024, 64]⟩
abbrev S1024x32 : Shape := ⟨2, ![1024, 32]⟩
abbrev S1024x512 : Shape := ⟨2, ![1024, 512]⟩
abbrev S128 : Shape := ⟨1, ![128]⟩
abbrev S64 : Shape := ⟨1, ![64]⟩
abbrev S32 : Shape := ⟨1, ![32]⟩
abbrev S1x1024 : Shape := ⟨2, ![1, 1024]⟩
abbrev S1x384 : Shape := ⟨2, ![1, 384]⟩
abbrev S384x3072 : Shape := ⟨2, ![384, 3072]⟩
abbrev S1x256 : Shape := ⟨2, ![1, 256]⟩
abbrev S1024x128 : Shape := ⟨2, ![1024, 128]⟩
abbrev S65536x2048 : Shape := ⟨2, ![65536, 2048]⟩
abbrev S1024x1024 : Shape := ⟨2, ![1024, 1024]⟩
abbrev S1024x2048 : Shape := ⟨2, ![1024, 2048]⟩
abbrev S256x1024 : Shape := ⟨2, ![256, 1024]⟩
abbrev S256x128 : Shape := ⟨2, ![256, 128]⟩
abbrev S256x384 : Shape := ⟨2, ![256, 384]⟩
abbrev S384x128 : Shape := ⟨2, ![384, 128]⟩
abbrev S256x3072 : Shape := ⟨2, ![256, 3072]⟩
abbrev S256x512 : Shape := ⟨2, ![256, 512]⟩
abbrev S256x256 : Shape := ⟨2, ![256, 256]⟩
abbrev S256x1 : Shape := ⟨2, ![256, 1]⟩
abbrev S1x128 : Shape := ⟨2, ![1, 128]⟩

abbrev nBuf : Space → Nat
  | .hbm => 86
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x384, .f32⟩
  | .hbm, ⟨3, _⟩ => ⟨S384, .f32⟩
  | .hbm, ⟨4, _⟩ => ⟨S384x1536, .f32⟩
  | .hbm, ⟨5, _⟩ => ⟨S1024x320, .f32⟩
  | .hbm, ⟨6, _⟩ => ⟨S256, .f32⟩
  | .hbm, ⟨7, _⟩ => ⟨S256x2048, .f32⟩
  | .hbm, ⟨8, _⟩ => ⟨S192, .f32⟩
  | .hbm, ⟨9, _⟩ => ⟨S192, .f32⟩
  | .hbm, ⟨10, _⟩ => ⟨S2048x32, .f32⟩
  | .hbm, ⟨11, _⟩ => ⟨S2048x32, .f32⟩
  | .hbm, ⟨12, _⟩ => ⟨S_, .f32⟩
  | .hbm, ⟨13, _⟩ => ⟨S2048x32, .f32⟩
  | .hbm, ⟨14, _⟩ => ⟨S2048x64, .f32⟩
  | .hbm, ⟨15, _⟩ => ⟨S2048x32, .f32⟩
  | .hbm, ⟨16, _⟩ => ⟨S2048x64, .f32⟩
  | .hbm, ⟨17, _⟩ => ⟨S2048x64, .f32⟩
  | .hbm, ⟨18, _⟩ => ⟨S1x2048x1x64, .f32⟩
  | .hbm, ⟨19, _⟩ => ⟨S1x2048x1x64, .f32⟩
  | .hbm, ⟨20, _⟩ => ⟨S2048x64, .f32⟩
  | .hbm, ⟨21, _⟩ => ⟨S1x2048x1x64, .f32⟩
  | .hbm, ⟨22, _⟩ => ⟨S1x2048x1x64, .f32⟩
  | .hbm, ⟨23, _⟩ => ⟨S2048x64, .f32⟩
  | .hbm, ⟨24, _⟩ => ⟨S1x2048x1x64, .f32⟩
  | .hbm, ⟨25, _⟩ => ⟨S1x2048x1x64, .f32⟩
  | .hbm, ⟨26, _⟩ => ⟨S2048x64, .f32⟩
  | .hbm, ⟨27, _⟩ => ⟨S_, .i32⟩
  | .hbm, ⟨28, _⟩ => ⟨S_, .f32⟩
  | .hbm, ⟨29, _⟩ => ⟨S2048x128, .f32⟩
  | .hbm, ⟨30, _⟩ => ⟨S2048x64, .f32⟩
  | .hbm, ⟨31, _⟩ => ⟨S_, .i32⟩
  | .hbm, ⟨32, _⟩ => ⟨S_, .f32⟩
  | .hbm, ⟨33, _⟩ => ⟨S2048x128, .f32⟩
  | .hbm, ⟨34, _⟩ => ⟨S384x8x192, .f32⟩
  | .hbm, ⟨35, _⟩ => ⟨S384x8x128, .f32⟩
  | .hbm, ⟨36, _⟩ => ⟨S384x8x64, .f32⟩
  | .hbm, ⟨37, _⟩ => ⟨S_, .f32⟩
  | .hbm, ⟨38, _⟩ => ⟨S384x8x64, .f32⟩
  | .hbm, ⟨39, _⟩ => ⟨S384x8x32, .f32⟩
  | .hbm, ⟨40, _⟩ => ⟨S384x8x32, .f32⟩
  | .hbm, ⟨41, _⟩ => ⟨S384x8x64, .f32⟩
  | .hbm, ⟨42, _⟩ => ⟨S384x8x256, .f32⟩
  | .hbm, ⟨43, _⟩ => ⟨S384x8x384, .f32⟩
  | .hbm, ⟨44, _⟩ => ⟨S1024x256, .f32⟩
  | .hbm, ⟨45, _⟩ => ⟨S1024x64, .f32⟩
  | .hbm, ⟨46, _⟩ => ⟨S_, .f32⟩
  | .hbm, ⟨47, _⟩ => ⟨S1024x64, .f32⟩
  | .hbm, ⟨48, _⟩ => ⟨S1024x32, .f32⟩
  | .hbm, ⟨49, _⟩ => ⟨S1024x32, .f32⟩
  | .hbm, ⟨50, _⟩ => ⟨S1024x64, .f32⟩
  | .hbm, ⟨51, _⟩ => ⟨S1024x256, .f32⟩
  | .hbm, ⟨52, _⟩ => ⟨S1024x512, .f32⟩
  | .hbm, ⟨53, _⟩ => ⟨S128, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S32, .f32⟩
  | .hbm, ⟨58, _⟩ => ⟨S32, .f32⟩
  | .hbm, ⟨59, _⟩ => ⟨S64, .f32⟩
  | .hbm, ⟨60, _⟩ => ⟨S256, .f32⟩
  | .hbm, ⟨61, _⟩ => ⟨S384, .f32⟩
  | .hbm, ⟨62, _⟩ => ⟨S128, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S32, .f32⟩
  | .hbm, ⟨67, _⟩ => ⟨S32, .f32⟩
  | .hbm, ⟨68, _⟩ => ⟨S64, .f32⟩
  | .hbm, ⟨69, _⟩ => ⟨S256, .f32⟩
  | .hbm, ⟨70, _⟩ => ⟨S384, .f32⟩
  | .hbm, ⟨71, _⟩ => ⟨S1x1024, .f32⟩
  | .hbm, ⟨72, _⟩ => ⟨S1024x384, .bf16⟩
  | .hbm, ⟨73, _⟩ => ⟨S1x384, .f32⟩
  | .hbm, ⟨74, _⟩ => ⟨S384x3072, .f32⟩
  | .hbm, ⟨75, _⟩ => ⟨S384x3072, .bf16⟩
  | .hbm, ⟨76, _⟩ => ⟨S1024x512, .bf16⟩
  | .hbm, ⟨77, _⟩ => ⟨S1x256, .f32⟩
  | .hbm, ⟨78, _⟩ => ⟨S256x2048, .bf16⟩
  | .hbm, ⟨79, _⟩ => ⟨S1x384, .f32⟩
  | .hbm, ⟨80, _⟩ => ⟨S1x384, .f32⟩
  | .hbm, ⟨81, _⟩ => ⟨S_, .bf16⟩
  | .hbm, ⟨82, _⟩ => ⟨S1024x128, .bf16⟩
  | .hbm, ⟨83, _⟩ => ⟨S65536x2048, .bf16⟩
  | .hbm, ⟨84, _⟩ => ⟨S65536x2048, .bf16⟩
  | .hbm, ⟨85, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x384, .bf16⟩
  | .local _ .vmem, ⟨4, _⟩ => ⟨S1x384, .f32⟩
  | .local _ .vmem, ⟨5, _⟩ => ⟨S384x3072, .bf16⟩
  | .local _ .vmem, ⟨6, _⟩ => ⟨S1024x512, .bf16⟩
  | .local _ .vmem, ⟨7, _⟩ => ⟨S1x256, .f32⟩
  | .local _ .vmem, ⟨8, _⟩ => ⟨S256x2048, .bf16⟩
  | .local _ .vmem, ⟨9, _⟩ => ⟨S1x384, .f32⟩
  | .local _ .vmem, ⟨10, _⟩ => ⟨S1x384, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .bf16⟩
  | .local _ .vmem, ⟨16, _⟩ => ⟨S1024x2048, .bf16⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1024x1024, .bf16⟩
  | .local _ .vmem, ⟨21, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_c_0 : Ref sig .tc := ⟨.hbm, 31, rfl⟩
abbrev main_call1_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61_0 : Ref sig .tc := ⟨.hbm, 83, rfl⟩
abbrev main_v61_1 : Ref sig .tc := ⟨.hbm, 84, rfl⟩
abbrev main_v61_2 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MlaProjIdeal.lean ====
variable {F : FTy → Type} [FloatOps F] [Named F]
def κ : String → Option EReal := fun
  | "inv_192" => some ((1 / 192 : ℝ) : EReal)
  | "inv_384" => some ((1 / 384 : ℝ) : EReal)
  | "scale" => some (((Real.sqrt 192)⁻¹ * (Real.log 2)⁻¹ : ℝ) : EReal)
  | _ => none
-- ==== MlaProjRefIdeal.lean ====
abbrev S65536x1024 : Shape := ⟨2, ![65536, 1024]⟩
abbrev S1024 : Shape := ⟨1, ![1024]⟩
abbrev S1024x384 : Shape := ⟨2, ![1024, 384]⟩
abbrev S384 : Shape := ⟨1, ![384]⟩
abbrev S384x1536 : Shape := ⟨2, ![384, 1536]⟩
abbrev S1024x320 : Shape := ⟨2, ![1024, 320]⟩
abbrev S256 : Shape := ⟨1, ![256]⟩
abbrev S256x2048 : Shape := ⟨2, ![256, 2048]⟩
abbrev S192 : Shape := ⟨1, ![192]⟩
abbrev S2048x32 : Shape := ⟨2, ![2048, 32]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x384 : Shape := ⟨2, ![65536, 384]⟩
abbrev S1x384 : Shape := ⟨2, ![1, 384]⟩
abbrev S65536x1536 : Shape := ⟨2, ![65536, 1536]⟩
abbrev S32x2048x8x192 : Shape := ⟨4, ![32, 2048, 8, 192]⟩
abbrev S65536x320 : Shape := ⟨2, ![65536, 320]⟩
abbrev S65536x256 : Shape := ⟨2, ![65536, 256]⟩
abbrev S1x256 : Shape := ⟨2, ![1, 256]⟩
abbrev S65536x2048 : Shape := ⟨2, ![65536, 2048]⟩
abbrev S32x2048x8x256 : Shape := ⟨4, ![32, 2048, 8, 256]⟩
abbrev S65536x64 : Shape := ⟨2, ![65536, 64]⟩
abbrev S32x2048x1x64 : Shape := ⟨4, ![32, 2048, 1, 64]⟩
abbrev S32x2048x8x64 : Shape := ⟨4, ![32, 2048, 8, 64]⟩
abbrev S32x2048x8x128 : Shape := ⟨4, ![32, 2048, 8, 128]⟩
abbrev S32x2048x8 : Shape := ⟨3, ![32, 2048, 8]⟩
abbrev S32x2048x8x1 : Shape := ⟨4, ![32, 2048, 8, 1]⟩
abbrev S1x1x1x192 : Shape := ⟨4, ![1, 1, 1, 192]⟩
abbrev S32x2048x8x32 : Shape := ⟨4, ![32, 2048, 8, 32]⟩
abbrev S1x2048x1x32 : Shape := ⟨4, ![1, 2048, 1, 32]⟩

abbrev nBuf : Space → Nat
  | .hbm => 161
  | .vmem => 0
  | .smem => 0
  | _ => 0

abbrev hbmTy0_0 (i : Nat) : BufTy := match i % 128 with
  | 0 => ⟨S65536x1024, .f32⟩
  | 1 => ⟨S1024, .f32⟩
  | 2 => ⟨S1024x384, .f32⟩
  | 3 => ⟨S384, .f32⟩
  | 4 => ⟨S384x1536, .f32⟩
  | 5 => ⟨S1024x320, .f32⟩
  | 6 => ⟨S256, .f32⟩
  | 7 => ⟨S256x2048, .f32⟩
  | 8 => ⟨S192, .f32⟩
  | 9 => ⟨S192, .f32⟩
  | 10 => ⟨S2048x32, .f32⟩
  | 11 => ⟨S2048x32, .f32⟩
  | 12 => ⟨S65536x1024, .f32⟩
  | 13 => ⟨S_, .f32⟩
  | 14 => ⟨S65536, .f32⟩
  | 15 => ⟨S65536x1, .f32⟩
  | 16 => ⟨S_, .f32⟩
  | 17 => ⟨S65536x1, .f32⟩
  | 18 => ⟨S65536x1, .f32⟩
  | 19 => ⟨S_, .f32⟩
  | 20 => ⟨S65536x1, .f32⟩
  | 21 => ⟨S65536x1, .f32⟩
  | 22 => ⟨S65536x1, .f32⟩
  | 23 => ⟨S65536x1024, .f32⟩
  | 24 => ⟨S65536x1024, .f32⟩
  | 25 => ⟨S1x1024, .f32⟩
  | 26 => ⟨S65536x1024, .f32⟩
  | 27 => ⟨S65536x1024, .f32⟩
  | 28 => ⟨S65536x384, .f32⟩
  | 29 => ⟨S65536x384, .f32⟩
  | 30 => ⟨S_, .f32⟩
  | 31 => ⟨S65536, .f32⟩
  | 32 => ⟨S65536x1, .f32⟩
  | 33 => ⟨S_, .f32⟩
  | 34 => ⟨S65536x1, .f32⟩
  | 35 => ⟨S65536x1, .f32⟩
  | 36 => ⟨S_, .f32⟩
  | 37 => ⟨S65536x1, .f32⟩
  | 38 => ⟨S65536x1, .f32⟩
  | 39 => ⟨S65536x1, .f32⟩
  | 40 => ⟨S65536x384, .f32⟩
  | 41 => ⟨S65536x384, .f32⟩
  | 42 => ⟨S1x384, .f32⟩
  | 43 => ⟨S65536x384, .f32⟩
  | 44 => ⟨S65536x384, .f32⟩
  | 45 => ⟨S65536x1536, .f32⟩
  | 46 => ⟨S32x2048x8x192, .f32⟩
  | 47 => ⟨S65536x320, .f32⟩
  | 48 => ⟨S65536x256, .f32⟩
  | 49 => ⟨S65536x256, .f32⟩
  | 50 => ⟨S_, .f32⟩
  | 51 => ⟨S65536, .f32⟩
  | 52 => ⟨S65536x1, .f32⟩
  | 53 => ⟨S_, .f32⟩
  | 54 => ⟨S65536x1, .f32⟩
  | 55 => ⟨S65536x1, .f32⟩
  | 56 => ⟨S_, .f32⟩
  | 57 => ⟨S65536x1, .f32⟩
  | 58 => ⟨S65536x1, .f32⟩
  | 59 => ⟨S65536x1, .f32⟩
  | 60 => ⟨S65536x256, .f32⟩
  | 61 => ⟨S65536x256, .f32⟩
  | 62 => ⟨S1x256, .f32⟩
  | 63 => ⟨S65536x256, .f32⟩
  | 64 => ⟨S65536x256, .f32⟩
  | 65 => ⟨S65536x2048, .f32⟩
  | 66 => ⟨S32x2048x8x256, .f32⟩
  | 67 => ⟨S65536x64, .f32⟩
  | 68 => ⟨S32x2048x1x64, .f32⟩
  | 69 => ⟨S32x2048x8x64, .f32⟩
  | 70 => ⟨S32x2048x8x128, .f32⟩
  | 71 => ⟨S32x2048x8x192, .f32⟩
  | 72 => ⟨S32x2048x8x192, .f32⟩
  | 73 => ⟨S_, .f32⟩
  | 74 => ⟨S32x2048x8, .f32⟩
  | 75 => ⟨S32x2048x8x1, .f32⟩
  | 76 => ⟨S_, .f32⟩
  | 77 => ⟨S32x2048x8x1, .f32⟩
  | 78 => ⟨S32x2048x8x1, .f32⟩
  | 79 => ⟨S_, .f32⟩
  | 80 => ⟨S32x2048x8x1, .f32⟩
  | 81 => ⟨S32x2048x8x1, .f32⟩
  | 82 => ⟨S32x2048x8x1, .f32⟩
  | 83 => ⟨S32x2048x8x192, .f32⟩
  | 84 => ⟨S32x2048x8x192, .f32⟩
  | 85 => ⟨S1x1x1x192, .f32⟩
  | 86 => ⟨S32x2048x8x192, .f32⟩
  | 87 => ⟨S32x2048x8x192, .f32⟩
  | 88 => ⟨S32x2048x8x192, .f32⟩
  | 89 => ⟨S_, .f32⟩
  | 90 => ⟨S32x2048x8, .f32⟩
  | 91 => ⟨S32x2048x8x1, .f32⟩
  | 92 => ⟨S_, .f32⟩
  | 93 => ⟨S32x2048x8x1, .f32⟩
  | 94 => ⟨S32x2048x8x1, .f32⟩
  | 95 => ⟨S_, .f32⟩
  | 96 => ⟨S32x2048x8x1, .f32⟩
  | 97 => ⟨S32x2048x8x1, .f32⟩
  | 98 => ⟨S32x2048x8x1, .f32⟩
  | 99 => ⟨S32x2048x8x192, .f32⟩
  | 100 => ⟨S32x2048x8x192, .f32⟩
  | 101 => ⟨S1x1x1x192, .f32⟩
  | 102 => ⟨S32x2048x8x192, .f32⟩
  | 103 => ⟨S32x2048x8x192, .f32⟩
  | 104 => ⟨S32x2048x8x128, .f32⟩
  | 105 => ⟨S32x2048x8x64, .f32⟩
  | 106 => ⟨S32x2048x8x32, .f32⟩
  | 107 => ⟨S32x2048x8x32, .f32⟩
  | 108 => ⟨S1x2048x1x32, .f32⟩
  | 109 => ⟨S1x2048x1x32, .f32⟩
  | 110 => ⟨S32x2048x8x32, .f32⟩
  | 111 => ⟨S32x2048x8x32, .f32⟩
  | 112 => ⟨S32x2048x8x32, .f32⟩
  | 113 => ⟨S32x2048x8x32, .f32⟩
  | 114 => ⟨S32x2048x8x32, .f32⟩
  | 115 => ⟨S32x2048x8x32, .f32⟩
  | 116 => ⟨S32x2048x8x32, .f32⟩
  | 117 => ⟨S32x2048x8x32, .f32⟩
  | 118 => ⟨S32x2048x8x32, .f32⟩
  | 119 => ⟨S32x2048x8x32, .f32⟩
  | 120 => ⟨S32x2048x8x64, .f32⟩
  | 121 => ⟨S32x2048x8x192, .f32⟩
  | 122 => ⟨S32x2048x8x128, .f32⟩
  | 123 => ⟨S32x2048x8x64, .f32⟩
  | 124 => ⟨S32x2048x8x32, .f32⟩
  | 125 => ⟨S32x2048x8x32, .f32⟩
  | 126 => ⟨S1x2048x1x32, .f32⟩
  | 127 => ⟨S1x2048x1x32, .f32⟩
  | _ => ⟨S65536x1024, .f32⟩

abbrev hbmTy0_1 (i : Nat) : BufTy := match i % 128 with
  | 0 => ⟨S32x2048x8x32, .f32⟩
  | 1 => ⟨S32x2048x8x32, .f32⟩
  | 2 => ⟨S32x2048x8x32, .f32⟩
  | 3 => ⟨S32x2048x8x32, .f32⟩
  | 4 => ⟨S32x2048x8x32, .f32⟩
  | 5 => ⟨S32x2048x8x32, .f32⟩
  | 6 => ⟨S32x2048x8x32, .f32⟩
  | 7 => ⟨S32x2048x8x32, .f32⟩
  | 8 => ⟨S32x2048x8x32, .f32⟩
  | 9 => ⟨S32x2048x8x32, .f32⟩
  | 10 => ⟨S32x2048x8x64, .f32⟩
  | 11 => ⟨S32x2048x8x192, .f32⟩
  | 12 => ⟨S_, .f32⟩
  | 13 => ⟨S_, .f32⟩
  | 14 => ⟨S32x2048x8x192, .f32⟩
  | 15 => ⟨S32x2048x8x192, .f32⟩
  | 16 => ⟨S_, .f32⟩
  | 17 => ⟨S_, .f32⟩
  | 18 => ⟨S32x2048x8x192, .f32⟩
  | 19 => ⟨S32x2048x8x192, .f32⟩
  | 20 => ⟨S_, .i32⟩
  | 21 => ⟨S_, .f32⟩
  | 22 => ⟨S32x2048x8x256, .f32⟩
  | 23 => ⟨S65536x2048, .f32⟩
  | 24 => ⟨S_, .i32⟩
  | 25 => ⟨S_, .f32⟩
  | 26 => ⟨S32x2048x8x256, .f32⟩
  | 27 => ⟨S65536x2048, .f32⟩
  | 28 => ⟨S32x2048x8x128, .f32⟩
  | 29 => ⟨S65536x1024, .f32⟩
  | 30 => ⟨S65536x2048, .bf16⟩
  | 31 => ⟨S65536x2048, .bf16⟩
  | 32 => ⟨S65536x1024, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_14 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_15 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_c : Ref sig .tc := ⟨.hbm, 148, rfl⟩
abbrev main_call0_v0 : Ref sig .tc := ⟨.hbm, 149, rfl⟩
abbrev main_v119 : Ref sig .tc := ⟨.hbm, 150, rfl⟩
abbrev main_v120 : Ref sig .tc := ⟨.hbm, 151, rfl⟩
abbrev main_c_16 : Ref sig .tc := ⟨.hbm, 152, rfl⟩
abbrev main_call1_v0 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩

abbrev nD : Nat := 1
abbrev τ : Topo := Topo.v7x

variable {F : FTy → Type} [FloatOps F]
-- ==== Proof.AttnBlock.lean ====
/- One visit of the attention kernel: what it writes, from its blocks of queries, keys and values. -/
module
public import proofs.«01_k».proof.Proof.Gen.KernelIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- One row of attention in the kernel's form. -/
def attnRow (q : Fin 256 → EReal) (K : Fin 2048 → Fin 256 → EReal) (v : Fin 2048 → EReal) : EReal :=
  Ideal.div
    (∑ j : Fin 2048, Ideal.exp2 ((∑ d, q d * K j d) - Finset.univ.fold max ⊥ fun i => ∑ d, q d * K i d) * v j)
    (∑ j : Fin 2048, Ideal.exp2 ((∑ d, q d * K j d) - Finset.univ.fold max ⊥ fun i => ∑ d, q d * K i d) * 1)

/-- One head's tile of the kernel, entry by entry: the row of attention, when `w` holds the values in its first 128 columns and ones after them. -/
theorem tile_at (q : FVec Ideal S1x256x256 .bf16) (k : FVec Ideal S1x2048x256 .bf16) (w : FVec Ideal S1x2048x256 .bf16)
    (r : Fin 256) (e : Fin 128) (v : Fin 2048 → EReal) (hv : ∀ j, w (ix3 0 j ⟨e, by omega⟩) = v j)
    (h1 : ∀ j, w (ix3 0 j ⟨128 + e, by omega⟩) = 1) :
    k0_pay11 (F := Ideal) (k0_pay7 (F := Ideal) q k) w (ix3 0 r e)
      = attnRow (fun d => q (ix3 0 r d)) (fun j d => k (ix3 0 j d)) v := by
  pointwise [k0_pay11, k0_pay7]
  simp only [hv, h1, attnRow]
  rfl

/-- What is stored in the scratch array: for each of the two heads the values, and beside them ones. -/
abbrev scrPieces (V : FVec Ideal S1x2048x256 .bf16) : List (View.Piece (Elt Ideal) S2x2048x256 .bf16) :=
  [⟨Rect.unit ![1, 0, 128] ![1, 2048, 128] inb_S2x2048x256_S1x2048x128_1_0_128, k0_pay6 (F := Ideal)⟩,
   ⟨Rect.unit ![1, 0, 0] ![1, 2048, 128] inb_S2x2048x256_S1x2048x128_1_0_0,
      k0_pay5 (F := Ideal) (View.ld (S := S1x2048x256) (e' := .bf16) V (Rect.unit (s := S1x2048x256) ![0, 0, 128] ![1, 2048, 128] inb_S1x2048x256_S1x2048x128_0_0_128))⟩,
   ⟨Rect.unit ![0, 0, 128] ![1, 2048, 128] inb_S2x2048x256_S1x2048x128_0_0_128, k0_pay4 (F := Ideal)⟩,
   ⟨Rect.unit ![0, 0, 0] ![1, 2048, 128] inb_S2x2048x256_S1x2048x128_0_0_0,
      k0_pay3 (F := Ideal) (View.ld (S := S1x2048x256) (e' := .bf16) V (Rect.unit (s := S1x2048x256) ![0, 0, 0] ![1, 2048, 128] inb_S1x2048x256_S1x2048x128_0_0_0))⟩]

/-- An entry of the scratch array: a value in the first 128 columns, one after them. -/
theorem scr_at (V : FVec Ideal S1x2048x256 .bf16) (y : S2x2048x256.Idx) :
    View.canon (scrPieces V) y = (if h : (y 2).val < 128 then V (ix3 0 (y 1) ⟨(y 0).val * 128 + (y 2).val, by
      have := (y 0).isLt; simp at this; omega⟩) else (1 : EReal)) := by
  unfold scrPieces
  canon_tiles x h
  · have e : ¬ (y 2).val < 128 := by omega
    rw [dif_neg e]
    pointwise [k0_pay6]
  · have e : (y 2).val < 128 := by omega
    rw [dif_pos e]
    pointwise [k0_pay5]
    blk_ext
  · have e : ¬ (y 2).val < 128 := by omega
    rw [dif_neg e]
    pointwise [k0_pay4]
  · have e : (y 2).val < 128 := by omega
    rw [dif_pos e]
    pointwise [k0_pay3]
    blk_ext

/-- An entry among the first 128 columns, at given coordinates. -/
theorem scr_val (V : FVec Ideal S1x2048x256 .bf16) (y : S2x2048x256.Idx) (j : Fin 2048) (e : Fin 256) (h : (y 2).val < 128)
    (hj : (y 1).val = j.val) (he : (y 0).val * 128 + (y 2).val = e.val) : View.canon (scrPieces V) y = V (ix3 0 j e) := by
  rw [scr_at, dif_pos h]
  blk_ext

/-- An entry after the first 128 columns. -/
theorem scr_one (V : FVec Ideal S1x2048x256 .bf16) (y : S2x2048x256.Idx) (h : 128 ≤ (y 2).val) :
    View.canon (scrPieces V) y = (1 : EReal) := by
  rw [scr_at, dif_neg (by omega)]

/-- What one visit writes: entry `(0, i, u)` of the written block, from the blocks of queries, keys and values. -/
def blkOut (Q K : FVec Ideal S1x2048x512 .bf16) (V : FVec Ideal S1x2048x256 .bf16) (y : S1x2048x256.Idx) : EReal :=
  attnRow (fun d => Q (ix3 0 (y 1) ⟨(y 2).val / 128 * 256 + d, by have : (y 2).val < 256 := (y 2).isLt; omega⟩))
    (fun j d => K (ix3 0 j ⟨(y 2).val / 128 * 256 + d, by have : (y 2).val < 256 := (y 2).isLt; omega⟩)) (fun j => V (ix3 0 j (y 2)))

/-- One store of a visit is a part of `blkOut`. -/
theorem piece (Q K : FVec Ideal S1x2048x512 .bf16) (V : FVec Ideal S1x2048x256 .bf16)
    (q : FVec Ideal S1x256x256 .bf16) (k : FVec Ideal S1x2048x256 .bf16) (w : FVec Ideal S1x2048x256 .bf16)
    (x : S1x256x128.Idx) (y : S1x2048x256.Idx)
    (hq : ∀ d : Fin 256, q (ix3 0 (x 1) d) = Q (ix3 0 (y 1) ⟨(y 2).val / 128 * 256 + d, by have : (y 2).val < 256 := (y 2).isLt; omega⟩))
    (hk : ∀ (j : Fin 2048) (d : Fin 256), k (ix3 0 j d) = K (ix3 0 j ⟨(y 2).val / 128 * 256 + d, by have : (y 2).val < 256 := (y 2).isLt; omega⟩))
    (hw : ∀ j : Fin 2048, w (ix3 0 j ⟨(x 2).val, by have : (x 2).val < 128 := (x 2).isLt; omega⟩) = V (ix3 0 j (y 2)))
    (h1 : ∀ j : Fin 2048, w (ix3 0 j ⟨128 + (x 2).val, by have : (x 2).val < 128 := (x 2).isLt; omega⟩) = 1) :
    k0_pay11 (F := Ideal) (k0_pay7 (F := Ideal) q k) w x = blkOut Q K V y := by
  have hx : x = ix3 0 (x 1) (x 2) := by blk_ext
  rw [hx]
  refine (tile_at q k w (x 1) (x 2) (fun j => V (ix3 0 j (y 2))) hw h1).trans ?_
  unfold blkOut
  simp only [hq, hk]

/-- What a visit leaves in its result block. -/
theorem blk (m : (ℓ : Loc nD τ sig) → Buf (Elt Ideal) ℓ) (c : Dev nD) (t : Fin (cfgs 0).N) :
    outsAt0 m c t = blkOut (iblk m c 0 t) (iblk m c 1 t) (iblk m c 2 t) := by
  funext y
  unfold outsAt0
  frame_out
  canon_tiles x h
  all_goals
    refine piece _ _ _ _ _ _ x y (fun d => ?_) (fun j d => ?_) (fun j => ?_) (fun j => ?_)
    · pointwise
      blk_ext
    · pointwise
      blk_ext
    · refine (congrFun (View.readCov_eq_canon' _ _ _) _).trans (scr_val (iblk m c 2 t) _ _ _ ?_ ?_ ?_)
      all_goals (simp [LoadRect.idx]; try omega)
    · refine (congrFun (View.readCov_eq_canon' _ _ _) _).trans (scr_one (iblk m c 2 t) _ ?_)
      simp [LoadRect.idx]
end Cert.KernelIdeal.Value
-- ==== Proof.AttnFinal.lean ====
/- The attention kernel: its result array after the whole run. -/
module
public import proofs.«01_k».proof.Proof.AttnBlock
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The kernel's result array: entry `(b, i, u)` is the row of attention of head `u / 128`. -/
def OUT (Q K : FVec Ideal S32x2048x2048 .bf16) (V : FVec Ideal S32x2048x1024 .bf16) : FVec Ideal S32x2048x1024 .bf16 := fun i =>
  attnRow (fun d => Q (ix3 (i 0) (i 1) ⟨(i 2).val / 128 * 256 + d, by have : (i 2).val < 1024 := (i 2).isLt; omega⟩))
    (fun j d => K (ix3 (i 0) j ⟨(i 2).val / 128 * 256 + d, by have : (i 2).val < 1024 := (i 2).isLt; omega⟩))
    (fun j => V (ix3 (i 0) j (i 2)))

/-- The block each visit works on: sequence `t / 4`, pair of heads `t % 4`. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The kernel's result array after the whole run. -/
theorem final (m : (ℓ : Loc nD τ sig) → Buf (Elt Ideal) ℓ) (c : Dev nD) : (dats m 0 c).arrAt 3 (cfgs 0).N
    = OUT (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, blk]
  unfold blkOut OUT
  congr 1
  all_goals funext d
  · blk_point [iblk, V, idx t]
  · funext e
    blk_point [iblk, V, idx t]
  · blk_point [iblk, V, idx t]
end Cert.KernelIdeal.Value
-- ==== Proof.AttnMath.lean ====
/- The arithmetic of softmax on the extended reals: the kernel's form and the formula's are one number. -/
module
public import Idealize.ShloMosaic.PureOps.Ideal
public import Idealize.ShloMosaic.Lib.IdealHost
@[expose] public section
noncomputable section
open Idealize.ShloMosaic
namespace Cert.Attn

/-- The `max` fold of a nonempty family is one of its members, and the largest. -/
theorem fold_max_attained {n : ℕ} [NeZero n] (f : Fin n → EReal) :
    ∃ i, Finset.univ.fold max ⊥ f = f i ∧ ∀ j, f j ≤ f i := by
  obtain ⟨i, -, h⟩ := Finset.exists_max_image Finset.univ f ⟨0, Finset.mem_univ _⟩
  exact ⟨i, le_antisymm (Finset.fold_max_le _ |>.2 ⟨bot_le, fun j hj => h j hj⟩)
    (Finset.le_fold_max _ |>.2 (.inr ⟨i, Finset.mem_univ _, le_rfl⟩)), fun j => h j (Finset.mem_univ _)⟩

/-- The `max` fold of a family is its largest member. -/
theorem fold_max_eq {n : ℕ} (f : Fin n → EReal) (i : Fin n) (h : ∀ j, f j ≤ f i) : Finset.univ.fold max ⊥ f = f i :=
  le_antisymm (Finset.fold_max_le _ |>.2 ⟨bot_le, fun j _ => h j⟩)
    (Finset.le_fold_max _ |>.2 (.inr ⟨i, Finset.mem_univ _, le_rfl⟩))

/-- A nonnegative real factor distributes over a sum of extended reals. -/
theorem sum_mul_real {n : ℕ} (f : Fin n → EReal) (c : ℝ) (hc : 0 ≤ c) : (∑ j, f j) * (c : EReal) = ∑ j, f j * (c : EReal) := by
  suffices h : ∀ s : Finset (Fin n), (∑ j ∈ s, f j) * (c : EReal) = ∑ j ∈ s, f j * (c : EReal) from h _
  intro s
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- A sum of real numbers, as an extended real. -/
theorem coe_sum {n : ℕ} (f : Fin n → ℝ) : ((∑ j, f j : ℝ) : EReal) = ∑ j, (f j : EReal) := by
  suffices h : ∀ s : Finset (Fin n), ((∑ j ∈ s, f j : ℝ) : EReal) = ∑ j ∈ s, (f j : EReal) from h _
  intro s
  induction s using Finset.induction_on with
  | empty => simp
  | insert a s ha ih => rw [Finset.sum_insert ha, Finset.sum_insert ha, EReal.coe_add, ih]

/-- A scalar product of rows of finite numbers is finite. -/
theorem dot_real {n : ℕ} (a b : Fin n → EReal) (ha : ∀ d, a d ≠ ⊥ ∧ a d ≠ ⊤) (hb : ∀ d, b d ≠ ⊥ ∧ b d ≠ ⊤) :
    ∃ r : ℝ, ∑ d, a d * b d = (r : EReal) := by
  refine ⟨∑ d, (a d).toReal * (b d).toReal, ?_⟩
  rw [coe_sum]
  refine Finset.sum_congr rfl fun d _ => ?_
  rw [EReal.coe_mul, EReal.coe_toReal (ha d).2 (ha d).1, EReal.coe_toReal (hb d).2 (hb d).1]

/-- Softmax in base two with the division after the product with the values, and softmax in base e of the logits times
    `log 2` before that product: one number, when the logits are finite. The values are arbitrary. -/
theorem softmax_eq {n : ℕ} [NeZero n] (S v : Fin n → EReal) (hS : ∀ j, ∃ r : ℝ, S j = (r : EReal)) :
    Ideal.div (∑ j, Ideal.exp2 (S j - Finset.univ.fold max ⊥ S) * v j) (∑ j, Ideal.exp2 (S j - Finset.univ.fold max ⊥ S) * 1)
    = ∑ j, v j * Ideal.div
        (Ideal.exp (S j * ((Real.log 2 : ℝ) : EReal) - max ⊥ (Finset.univ.fold max ⊥ fun x => S x * ((Real.log 2 : ℝ) : EReal))))
        (∑ i, Ideal.exp (S i * ((Real.log 2 : ℝ) : EReal) - max ⊥ (Finset.univ.fold max ⊥ fun x => S x * ((Real.log 2 : ℝ) : EReal)))) := by
  choose s hs using hS
  obtain rfl : S = fun j => (s j : EReal) := funext hs
  clear hs
  obtain ⟨i, hi, hle⟩ := fold_max_attained fun j => (s j : EReal)
  have hl : 0 < Real.log 2 := Real.log_pos (by norm_num)
  have hle' : ∀ j, s j ≤ s i := fun j => by exact_mod_cast hle j
  have hi' : (Finset.univ.fold max ⊥ fun x => (s x : EReal) * ((Real.log 2 : ℝ) : EReal)) = (s i : EReal) * ((Real.log 2 : ℝ) : EReal) :=
    fold_max_eq _ i fun j => by
      rw [← EReal.coe_mul, ← EReal.coe_mul]
      exact_mod_cast mul_le_mul_of_nonneg_right (hle' j) hl.le
  rw [hi, hi', max_eq_right bot_le]
  have e1 : ∀ j, Ideal.exp2 ((s j : EReal) - (s i : EReal)) = ((Real.exp ((s j - s i) * Real.log 2) : ℝ) : EReal) := fun j => by
    rw [← EReal.coe_sub, Ideal.exp2_coe, Real.rpow_eq_pow, Real.rpow_def_of_pos (by norm_num), mul_comm]
  have e2 : ∀ j, Ideal.exp ((s j : EReal) * ((Real.log 2 : ℝ) : EReal) - (s i : EReal) * ((Real.log 2 : ℝ) : EReal))
      = ((Real.exp ((s j - s i) * Real.log 2) : ℝ) : EReal) := fun j => by
    rw [← EReal.coe_mul, ← EReal.coe_mul, ← EReal.coe_sub, Ideal.exp_coe, sub_mul]
  simp only [e1, e2, mul_one, ← coe_sum]
  have hD : 0 < ∑ j, Real.exp ((s j - s i) * Real.log 2) :=
    Finset.sum_pos (fun j _ => Real.exp_pos _) ⟨0, Finset.mem_univ _⟩
  simp only [Ideal.div_coe hD.ne']
  rw [sum_mul_real _ _ (one_div_nonneg.2 hD.le)]
  refine Finset.sum_congr rfl fun j _ => ?_
  rw [mul_comm _ (v j), mul_assoc]

/-- The bit pattern of minus infinity reads as the least extended real. -/
theorem neg_inf : Ideal.ofBits FTy.f32 4286578688#32 = ⊥ := by
  simp [Ideal.ofBits, Ideal.ieee]

/-- The bit pattern of infinity reads as the largest extended real. -/
theorem inf_bf16 : Ideal.ofBits FTy.bf16 0x7F80#16 = ⊤ := by
  simp [Ideal.ofBits, Ideal.ieee]

/-- The logarithm of the constant two. -/
theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee, -EReal.coe_mul]; norm_num
  rw [h, Ideal.log_coe, if_neg (by norm_num)]

end Cert.Attn
-- ==== Proof.AttnRef.lean ====
/- The attention reference's result, entry by entry. -/
module
public import proofs.«01_k».proof.Proof.Gen.ReferenceIdeal.Run
public import Idealize.ShloMosaic.Lib.Pipeline.ValueKit
public import Idealize.ShloMosaic.Lib.Pointwise
public import proofs.«01_k».proof.Proof.AttnMath
@[expose] public section
set_option maxRecDepth 16384
noncomputable section
open Idealize.ShloMosaic Idealize.ShloMosaic.TcCoe Idealize.SL.Sem
namespace Cert.ReferenceIdeal.Value
open Cert.ReferenceIdeal Cert.ReferenceIdeal.Gen

/-- The reference's logits: the scalar products of queries and keys, times `log 2`. -/
def logits (Q K : FVec Ideal S32x2048x2048 .bf16) : FVec Ideal S32x8x2048x2048 .f32 :=
  mulf (Host.dotGeneral dot_S32x2048x8x256_S32x2048x8x256_S32x8x2048x2048_3_3_1_1_02_02 none
      (shapeCast _ (extf .f32 Q bitsLt_bf16_f32) shapeCasts_S32x2048x2048_S32x2048x8x256)
      (shapeCast _ (extf .f32 K bitsLt_bf16_f32) shapeCasts_S32x2048x2048_S32x2048x8x256))
    (broadcastInDim S32x8x2048x2048 ![] bcast_S_S32x8x2048x2048 (Host.log (constant S_ .f32 0x40000000#32)))

/-- The largest logit of each row. -/
def top (s : FVec Ideal S32x8x2048x2048 .f32) : FVec Ideal S32x8x2048 .f32 :=
  Host.reduce FloatOps.maximumf s (constant S_ .f32 0xFF800000#32) reducesTo_S32x8x2048x2048_S32x8x2048_d3 h_S_

/-- The exponentials of the logits less the row's largest, `t`. -/
def expo (s : FVec Ideal S32x8x2048x2048 .f32) (t : FVec Ideal S32x8x2048 .f32) : FVec Ideal S32x8x2048x2048 .f32 :=
  Host.exp (subf s (broadcastInDim S32x8x2048x2048 ![0, 1, 2, 3] bcast_S32x8x2048x1_S32x8x2048x2048_0_1_2_3
    (broadcastInDim S32x8x2048x1 ![0, 1, 2] bcast_S32x8x2048_S32x8x2048x1_0_1_2
      (maximumf (broadcastInDim S32x8x2048 ![] bcast_S_S32x8x2048 (constant S_ .f32 0xFF800000#32)) t))))

/-- The sum of each row. -/
def tot (e : FVec Ideal S32x8x2048x2048 .f32) : FVec Ideal S32x8x2048 .f32 :=
  Host.reduceAdd e (constant S_ .f32 0x00000000#32) reducesTo_S32x8x2048x2048_S32x8x2048_d3 h_S_

/-- The numbers `e` over their row's sum, `t`. -/
def over (e : FVec Ideal S32x8x2048x2048 .f32) (t : FVec Ideal S32x8x2048 .f32) : FVec Ideal S32x8x2048x2048 .f32 :=
  Host.divf e (broadcastInDim S32x8x2048x2048 ![0, 1, 2, 3] bcast_S32x8x2048x1_S32x8x2048x2048_0_1_2_3
    (broadcastInDim S32x8x2048x1 ![0, 1, 2] bcast_S32x8x2048_S32x8x2048x1_0_1_2 t))

/-- The softmax of the logits along the keys. -/
def probs (s : FVec Ideal S32x8x2048x2048 .f32) : FVec Ideal S32x8x2048x2048 .f32 :=
  over (expo s (top s)) (tot (expo s (top s)))

/-- The reference's result, as a term of its three arguments. -/
def REF (Q K : FVec Ideal S32x2048x2048 .bf16) (V : FVec Ideal S32x2048x1024 .bf16) : FVec Ideal S32x2048x1024 .bf16 :=
  truncf .bf16 (shapeCast _ (transpose S32x2048x8x128 [0, 3, 1, 2]
    (Host.dotGeneral dot_S32x2048x8x128_S32x8x2048x2048_S32x8x128x2048_1_3_3_2_02_01 none
      (shapeCast _ (extf .f32 V bitsLt_bf16_f32) shapeCasts_S32x2048x1024_S32x2048x8x128) (probs (logits Q K)))
    transposes_S32x8x128x2048_S32x2048x8x128_0_3_1_2) shapeCasts_S32x2048x8x128_S32x2048x1024) bitsLt_bf16_f32

/-- An entry of the logits. -/
theorem logits_at (Q K : FVec Ideal S32x2048x2048 .bf16) (b : Fin 32) (h : Fin 8) (i j : Fin 2048) :
    logits Q K (ix4 b h i j) = (∑ d : Fin 256, Q (ix3 b i ⟨h * 256 + d, by omega⟩) * K (ix3 b j ⟨h * 256 + d, by omega⟩))
      * ((Real.log 2 : ℝ) : EReal) := by
  pointwise [logits]
  rw [Cert.Attn.log_two]

/-- A row's largest logit. -/
theorem top_at (s : FVec Ideal S32x8x2048x2048 .f32) (b : Fin 32) (h : Fin 8) (i : Fin 2048) :
    top s (ix3 b h i) = Finset.univ.fold max ⊥ (fun x => s (ix4 b h i x)) := by
  pointwise [top]
  rw [Cert.Attn.neg_inf]

/-- An entry of the exponentials. -/
theorem expo_at (s : FVec Ideal S32x8x2048x2048 .f32) (t : FVec Ideal S32x8x2048 .f32) (b : Fin 32) (h : Fin 8) (i j : Fin 2048) :
    expo s t (ix4 b h i j) = Ideal.exp (s (ix4 b h i j) - max ⊥ (t (ix3 b h i))) := by
  pointwise [expo]
  rw [Cert.Attn.neg_inf]

/-- A row's sum. -/
theorem tot_at (e : FVec Ideal S32x8x2048x2048 .f32) (b : Fin 32) (h : Fin 8) (i : Fin 2048) :
    tot e (ix3 b h i) = ∑ x, e (ix4 b h i x) := by
  pointwise [tot]

/-- An entry of the quotients. -/
theorem over_at (e : FVec Ideal S32x8x2048x2048 .f32) (t : FVec Ideal S32x8x2048 .f32) (b : Fin 32) (h : Fin 8) (i j : Fin 2048) :
    over e t (ix4 b h i j) = Ideal.div (e (ix4 b h i j)) (t (ix3 b h i)) := by
  pointwise [over]

/-- An entry of the softmax. -/
theorem probs_at (s : FVec Ideal S32x8x2048x2048 .f32) (b : Fin 32) (h : Fin 8) (i j : Fin 2048) :
    probs s (ix4 b h i j)
      = Ideal.div (Ideal.exp (s (ix4 b h i j) - max ⊥ (Finset.univ.fold max ⊥ fun x => s (ix4 b h i x))))
          (∑ x, Ideal.exp (s (ix4 b h i x) - max ⊥ (Finset.univ.fold max ⊥ fun x => s (ix4 b h i x)))) := by
  unfold probs
  rw [over_at, tot_at]
  simp only [expo_at, top_at]

/-- An entry of the reference's result: the values weighted by the softmax. -/
theorem ref_at (Q K : FVec Ideal S32x2048x2048 .bf16) (V : FVec Ideal S32x2048x1024 .bf16) (b : Fin 32) (i : Fin 2048) (u : Fin 1024) :
    REF Q K V (ix3 b i u) = ∑ j : Fin 2048, V (ix3 b j u) * probs (logits Q K) (ix4 b ⟨u / 128, by omega⟩ i j) := by
  pointwise [REF]

end Cert.ReferenceIdeal.Value
-- ==== Proof.AttnClaim.lean ====
/- The attention: the kernel's result array and the reference's are the same array when the queries and keys are finite. -/
module
public import proofs.«01_k».proof.Defs
public import proofs.«01_k».proof.Proof.AttnFinal
public import proofs.«01_k».proof.Proof.AttnRef
public import proofs.«01_k».proof.Proof.Gen.Pre_finite_qk
@[expose] public section
set_option maxRecDepth 16384
noncomputable section
open Idealize.ShloMosaic Idealize.ShloMosaic.TcCoe Idealize.SL.Sem
namespace Cert.Attn
open Cert.KernelIdeal

/-- A number whose absolute value is below infinity is finite. -/
theorem finite_of_abs_lt (x : EReal) (h : max x (-x) < ⊤) : x ≠ ⊥ ∧ x ≠ ⊤ := by
  constructor
  · rintro rfl; simp at h
  · rintro rfl; simp at h

/-- Two bits whose conjunction is one are both one. -/
theorem and_one (a b : BitVec 1) (h : IntOp.andi a b = 1#1) : a = 1#1 ∧ b = 1#1 := by
  revert h; revert a b; decide

/-- The same, from the comparison the precondition makes. -/
theorem finite_of_cmp (x : EReal) (h : FloatOps.cmpf (F := Ideal) (φ := .bf16) CmpFPredicate.olt
    (FloatOps.absf (F := Ideal) (φ := .bf16) x) (Ideal.ofBits FTy.bf16 32640#16) = 1#1) : x ≠ ⊥ ∧ x ≠ ⊤ := by
  rw [inf_bf16] at h
  refine finite_of_abs_lt x ?_
  by_contra hn
  simp [FloatOps.cmpf, Ideal.cmp, FloatOps.absf, hn] at h

/-- The precondition says that every entry of the queries and of the keys is a finite number. -/
theorem pre_at (Q K : FVec Ideal S32x2048x2048 .bf16) (V : FVec Ideal S32x2048x1024 .bf16)
    (h : letI := Cert.Pre_finite_qk.Gen.facts; Cert.Pre_finite_qk.fn (F := Ideal) Q K V = fun _ => 1#1) (i : S32x2048x2048.Idx) :
    (Q i ≠ ⊥ ∧ Q i ≠ ⊤) ∧ (K i ≠ ⊥ ∧ K i ≠ ⊤) := by
  have e := congrFun h i
  dsimp only [Cert.Pre_finite_qk.fn] at e
  simp [andi, cmpf, Host.absf, broadcastInDim, constant] at e
  obtain ⟨e₁, e₂⟩ := and_one _ _ e
  exact ⟨finite_of_cmp _ e₁, finite_of_cmp _ e₂⟩

/-- The kernel's result is the reference's, when queries and keys are finite. -/
theorem out_eq (Q K : FVec Ideal S32x2048x2048 .bf16) (V : FVec Ideal S32x2048x1024 .bf16)
    (hQ : ∀ i, Q i ≠ ⊥ ∧ Q i ≠ ⊤) (hK : ∀ i, K i ≠ ⊥ ∧ K i ≠ ⊤) :
    Cert.KernelIdeal.Value.OUT Q K V = Cert.ReferenceIdeal.Value.REF Q K V := by
  funext i
  obtain ⟨b, r, u, rfl⟩ : ∃ b r u, i = ix3 b r u := ⟨i 0, i 1, i 2, by blk_ext⟩
  rw [Cert.ReferenceIdeal.Value.ref_at]
  simp only [Cert.ReferenceIdeal.Value.probs_at, Cert.ReferenceIdeal.Value.logits_at]
  exact softmax_eq _ _ fun j => dot_real _ _ (fun d => hQ _) (fun d => hK _)

end Cert.Attn
-- ==== Proof.FfnRow.lean ====
/- One row of the feed-forward block, as the mathematics has it: what the kernel's blocks and the reference's arrays
   are both shown to hold. -/
module
public import Idealize.ShloMosaic.Lib.Pipeline.ValueKit
public import Idealize.ShloMosaic.Lib.Pointwise
@[expose] public section
noncomputable section
open Idealize.ShloMosaic
namespace Cert.FfnRow

/-- The residual row `x` plus the output projection of the attention row `o`. -/
def resid {k : ℕ} (x : Fin 1024 → EReal) (o : Fin k → EReal) (wo : Fin k → Fin 1024 → EReal) (n : Fin 1024) : EReal :=
  x n + ∑ d, o d * wo d n

/-- The row `r` over its root mean square, before the gain. -/
def unit (r : Fin 1024 → EReal) (n : Fin 1024) : EReal :=
  r n * Ideal.rsqrt (Ideal.div (∑ d, r d * r d) (Ideal.ofBits .f32 0x44800000#32) + Ideal.ofBits .f32 0x358637BD#32)

/-- The gated hidden entry `f` of the normalised row `h`: `silu (h · wg) * (h · wu)`. -/
def gated (h : Fin 1024 → EReal) (wg wu : Fin 1024 → Fin 2816 → EReal) (f : Fin 2816) : EReal :=
  (∑ d, h d * wg d f) * Ideal.logistic (∑ d, h d * wg d f) * ∑ d, h d * wu d f

/-- The whole block's row: the residual row `r` plus its SwiGLU through gain `g` and weights `wg`, `wu`, `wd`. -/
def row (r g : Fin 1024 → EReal) (wg wu : Fin 1024 → Fin 2816 → EReal) (wd : Fin 2816 → Fin 1024 → EReal) (n : Fin 1024) : EReal :=
  r n + ∑ f, gated (fun d => unit r d * g d) wg wu f * wd f n

end Cert.FfnRow
-- ==== Proof.FfnBlock.lean ====
/- The feed-forward kernel, attention width 1024: what one visit writes. -/
module
public import proofs.«01_k».proof.Proof.Gen.FfnIdeal.Value
public import proofs.«01_k».proof.Proof.FfnRow
@[expose] public section
set_option maxRecDepth 16384
noncomputable section
open Idealize.ShloMosaic Idealize.ShloMosaic.TcCoe Idealize.SL.Sem
open Idealize.ShloMosaic.Pipeline (Dat)
namespace Cert.FfnIdeal.Value
open Cert.FfnIdeal Cert.FfnIdeal.Gen Cert.FfnRow

/-- A half block's residual rows. -/
theorem head_at (x : FVec Ideal S256x1024 .f32) (o : FVec Ideal S256x1024 .bf16) (wo : FVec Ideal S1024x1024 .bf16)
    (i : Fin 256) (n : Fin 1024) :
    k0_pay4 (F := Ideal) x o wo (ix2 i n) = resid (fun n => x (ix2 i n)) (fun d => o (ix2 i d)) (fun d n => wo (ix2 d n)) n := by
  pointwise [k0_pay4]
  rfl

/-- A half block's rows over their root mean square. -/
theorem unit_at (x : FVec Ideal S256x1024 .f32) (o : FVec Ideal S256x1024 .bf16) (wo : FVec Ideal S1024x1024 .bf16)
    (i : Fin 256) (n : Fin 1024) :
    k0_pay6 (F := Ideal) x o wo (ix2 i n) = unit (fun n => k0_pay4 (F := Ideal) x o wo (ix2 i n)) n := by
  pointwise [k0_pay6]
  rfl

/-- A half block's results from its residual rows and its rows over their root mean square. -/
theorem tail_at (r : FVec Ideal S256x1024 .f32) (g : FVec Ideal S1x1024 .f32) (u : FVec Ideal S256x1024 .f32)
    (wg wu : FVec Ideal S1024x2816 .bf16) (wd : FVec Ideal S2816x1024 .bf16) (i : Fin 256) (n : Fin 1024)
    (hu : ∀ d, u (ix2 i d) = unit (fun n => r (ix2 i n)) d) :
    k0_pay2 (F := Ideal) r g u wg wu wd (ix2 i n) = row (fun n => r (ix2 i n)) (fun n => g (ix2 0 n)) (fun d f => wg (ix2 d f))
      (fun d f => wu (ix2 d f)) (fun f n => wd (ix2 f n)) n := by
  pointwise [k0_pay2]
  simp only [hu]
  rfl

/-- Entry `y` of an array of rows: the block's row applied to row `y 0` of the residual stream and of the attention. -/
def out (X : FVec Ideal S512x1024 .f32) (O : FVec Ideal S512x1024 .bf16) (W : FVec Ideal S1024x1024 .bf16) (G : FVec Ideal S1x1024 .f32)
    (WG WU : FVec Ideal S1024x2816 .bf16) (WD : FVec Ideal S2816x1024 .bf16) (y : S512x1024.Idx) : EReal :=
  row (resid (fun n => X (ix2 (y 0) n)) (fun d => O (ix2 (y 0) d)) fun d n => W (ix2 d n)) (fun n => G (ix2 0 n)) (fun d f => WG (ix2 d f))
    (fun d f => WU (ix2 d f)) (fun f n => WD (ix2 f n)) (y 1)

/-- One of the two stores of a visit, entry by entry: row `i 0` of the half block is row `y 0` of the block. -/
theorem half_at (x : FVec Ideal S256x1024 .f32) (o : FVec Ideal S256x1024 .bf16) (w : FVec Ideal S1024x1024 .bf16) (g : FVec Ideal S1x1024 .f32)
    (wg wu : FVec Ideal S1024x2816 .bf16) (wd : FVec Ideal S2816x1024 .bf16)
    (X : FVec Ideal S512x1024 .f32) (O : FVec Ideal S512x1024 .bf16) (i : S256x1024.Idx) (y : S512x1024.Idx)
    (hx : ∀ n, x (ix2 (i 0) n) = X (ix2 (y 0) n)) (ho : ∀ d, o (ix2 (i 0) d) = O (ix2 (y 0) d)) (hy : (i 1).val = (y 1).val) :
    k0_pay2 (F := Ideal) (k0_pay4 (F := Ideal) x o w) g (k0_pay6 (F := Ideal) x o w) wg wu wd i = out X O w g wg wu wd y := by
  have hi : i = ix2 (i 0) (i 1) := by blk_ext
  rw [hi]
  refine (tail_at _ g _ wg wu wd (i 0) (i 1) fun d => unit_at x o w (i 0) d).trans ?_
  unfold out
  have e : (fun n => k0_pay4 (F := Ideal) x o w (ix2 (i 0) n)) = resid (fun n => X (ix2 (y 0) n)) (fun d => O (ix2 (y 0) d)) fun d n => w (ix2 d n) := by
    funext n
    refine (head_at x o w (i 0) n).trans ?_
    simp only [hx, ho]
  rw [e]
  exact congrArg _ (Fin.ext hy)

/-- A visit's block: both halves are the block's rows. -/
theorem blk (X : FVec Ideal S512x1024 .f32) (O : FVec Ideal S512x1024 .bf16) (W : FVec Ideal S1024x1024 .bf16) (G : FVec Ideal S1x1024 .f32)
    (WG WU : FVec Ideal S1024x2816 .bf16) (WD : FVec Ideal S2816x1024 .bf16) :
    out0_7 (F := Ideal) X O W G WG WU WD = out X O W G WG WU WD := by
  funext y
  unfold out0_7
  frame_out
  canon_tiles x h
  all_goals
    refine half_at _ _ _ _ _ _ _ X O x y (fun n => ?_) (fun d => ?_) ?_
    · pointwise
      blk_ext
    · pointwise
      blk_ext
    · omega

end Cert.FfnIdeal.Value
-- ==== Proof.FfnFinal.lean ====
/- The feed-forward kernel, attention width 1024: its result array after the whole run. -/
module
public import proofs.«01_k».proof.Proof.FfnBlock
@[expose] public section
set_option maxRecDepth 16384
noncomputable section
open Idealize.ShloMosaic Idealize.ShloMosaic.TcCoe Idealize.SL.Sem
open Idealize.ShloMosaic.Pipeline (Dat)
namespace Cert.FfnIdeal.Value
open Cert.FfnIdeal Cert.FfnIdeal.Gen Cert.FfnRow

/-- The result array, entry by entry. -/
def OUT (X : FVec Ideal S65536x1024 .f32) (O : FVec Ideal S65536x1024 .bf16) (W : FVec Ideal S1024x1024 .bf16) (G : FVec Ideal S1x1024 .f32)
    (WG WU : FVec Ideal S1024x2816 .bf16) (WD : FVec Ideal S2816x1024 .bf16) : FVec Ideal S65536x1024 .f32 := fun y =>
  row (resid (fun n => X (ix2 (y 0) n)) (fun d => O (ix2 (y 0) d)) fun d n => W (ix2 d n)) (fun n => G (ix2 0 n)) (fun d f => WG (ix2 d f))
    (fun d f => WU (ix2 d f)) (fun f n => WD (ix2 f n)) (y 1)

/-- Visit `t` reads and writes the `t`-th 512 rows; the weights are read whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- After the run the result array holds the block's rows. -/
theorem final (m : (ℓ : Loc nD τ sig) → Buf (Elt Ideal) ℓ) (c : Dev nD) : (dats m 0 c).arrAt 7 (cfgs 0).N
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7, blk]
  unfold out OUT
  congr 1
  · congr 1
    · funext n
      blk_point [iblk, V, idx t]
    · funext d
      blk_point [iblk, V, idx t]
    · funext d n
      blk_point [iblk, V, idx t]
  · funext n
    blk_point [iblk, V, idx t]
  · funext d f
    blk_point [iblk, V, idx t]
  · funext d f
    blk_point [iblk, V, idx t]
  · funext d f
    blk_point [iblk, V, idx t]
  · apply Fin.ext
    simp [idx t]
end Cert.FfnIdeal.Value
-- ==== Proof.FfnRef.lean ====
/- The feed-forward reference, attention width 1024: its result is, entry by entry, the block's row. -/
module
public import proofs.«01_k».proof.Proof.Gen.FfnRefIdeal.Run
public import proofs.«01_k».proof.Proof.FfnRow
@[expose] public section
set_option maxRecDepth 16384
noncomputable section
open Idealize.ShloMosaic Idealize.ShloMosaic.TcCoe Idealize.SL.Sem
namespace Cert.FfnRefIdeal.Value
open Cert.FfnRefIdeal Cert.FfnRefIdeal.Gen Cert.FfnRow

/-- The residual stream plus the output projection. -/
def stream (X : FVec Ideal S65536x1024 .f32) (O : FVec Ideal S65536x1024 .bf16) (W : FVec Ideal S1024x1024 .bf16) : FVec Ideal S65536x1024 .f32 :=
  addf X (Host.dotGeneral dot_S65536x1024_S1024x1024_S65536x1024_1_0_0_1_n_n none (extf .f32 O bitsLt_bf16_f32) (extf .f32 W bitsLt_bf16_f32))

/-- RMS normalisation of each row, with gain. -/
def normed (r : FVec Ideal S65536x1024 .f32) (G : FVec Ideal S1x1024 .f32) : FVec Ideal S65536x1024 .f32 :=
  mulf (mulf r (broadcastInDim S65536x1024 ![0, 1] bcast_S65536x1_S65536x1024_0_1 (Host.rsqrt (addf (Host.divf
    (broadcastInDim S65536x1 ![0] bcast_S65536_S65536x1_0 (Host.reduceAdd (mulf r r) (constant S_ .f32 0x00000000#32) reducesTo_S65536x1024_S65536_d1 h_S_))
    (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 (shapeCast _ G shapeCasts_S1x1024_S1024)))

/-- A product with the gate's or the up projection's weights. -/
def wide (h : FVec Ideal S65536x1024 .f32) (W : FVec Ideal S1024x2816 .bf16) : FVec Ideal S65536x2816 .f32 :=
  Host.dotGeneral dot_S65536x1024_S1024x2816_S65536x2816_1_0_0_1_n_n none h (extf .f32 W bitsLt_bf16_f32)

/-- `silu` of the one times the other. -/
def gate (a b : FVec Ideal S65536x2816 .f32) : FVec Ideal S65536x2816 .f32 :=
  mulf (mulf a (Host.divf (broadcastInDim S65536x2816 ![] bcast_S_S65536x2816 (constant S_ .f32 0x3F800000#32))
    (addf (broadcastInDim S65536x2816 ![] bcast_S_S65536x2816 (constant S_ .f32 0x3F800000#32)) (Host.exp (Host.negf a))))) b

/-- The SwiGLU's residual sum, from the residual stream `r`. -/
def tail (r : FVec Ideal S65536x1024 .f32) (G : FVec Ideal S1x1024 .f32)
    (WG WU : FVec Ideal S1024x2816 .bf16) (WD : FVec Ideal S2816x1024 .bf16) : FVec Ideal S65536x1024 .f32 :=
  addf r (Host.dotGeneral dot_S65536x2816_S2816x1024_S65536x1024_1_0_0_1_n_n none
    (gate (wide (normed r G) WG) (wide (normed r G) WU)) (extf .f32 WD bitsLt_bf16_f32))

/-- An entry of the residual stream. -/
theorem stream_at (X : FVec Ideal S65536x1024 .f32) (O : FVec Ideal S65536x1024 .bf16) (W : FVec Ideal S1024x1024 .bf16) (i : Fin 65536) (n : Fin 1024) :
    stream X O W (ix2 i n) = resid (fun n => X (ix2 i n)) (fun d => O (ix2 i d)) (fun d n => W (ix2 d n)) n := by
  pointwise [stream]
  rfl

/-- An entry of the normalised rows. -/
theorem normed_at (r : FVec Ideal S65536x1024 .f32) (G : FVec Ideal S1x1024 .f32) (i : Fin 65536) (n : Fin 1024) :
    normed r G (ix2 i n) = unit (fun n => r (ix2 i n)) n * G (ix2 0 n) := by
  pointwise [normed]
  rfl

/-- An entry of such a product. -/
theorem wide_at (h : FVec Ideal S65536x1024 .f32) (W : FVec Ideal S1024x2816 .bf16) (i : Fin 65536) (f : Fin 2816) :
    wide h W (ix2 i f) = ∑ d, h (ix2 i d) * W (ix2 d f) := by
  pointwise [wide]

/-- An entry of the gated product. -/
theorem gate_at (a b : FVec Ideal S65536x2816 .f32) (i : Fin 65536) (f : Fin 2816) :
    gate a b (ix2 i f) = a (ix2 i f) * Ideal.logistic (a (ix2 i f)) * b (ix2 i f) := by
  pointwise [gate]
  rfl

/-- The reference's SwiGLU, entry by entry, from its residual stream. -/
theorem tail_at (r : FVec Ideal S65536x1024 .f32) (G : FVec Ideal S1x1024 .f32)
    (WG WU : FVec Ideal S1024x2816 .bf16) (WD : FVec Ideal S2816x1024 .bf16) (i : Fin 65536) (n : Fin 1024) :
    tail r G WG WU WD (ix2 i n) = row (fun n => r (ix2 i n)) (fun n => G (ix2 0 n)) (fun d f => WG (ix2 d f))
      (fun d f => WU (ix2 d f)) (fun f n => WD (ix2 f n)) n := by
  pointwise [tail]
  simp only [gate_at, wide_at, normed_at]
  rfl

end Cert.FfnRefIdeal.Value
-- ==== Proof.FfnHalfBlock.lean ====
/- The feed-forward kernel, attention width 512: what one visit writes. -/
module
public import proofs.«01_k».proof.Proof.Gen.FfnHalfIdeal.Value
public import proofs.«01_k».proof.Proof.FfnBlock
@[expose] public section
set_option maxRecDepth 16384
noncomputable section
open Idealize.ShloMosaic Idealize.ShloMosaic.TcCoe Idealize.SL.Sem
open Idealize.ShloMosaic.Pipeline (Dat)
namespace Cert.FfnHalfIdeal.Value
open Cert.FfnHalfIdeal Cert.FfnHalfIdeal.Gen Cert.FfnRow

/-- A half block's residual rows. -/
theorem head_at (x : FVec Ideal S256x1024 .f32) (o : FVec Ideal S256x512 .bf16) (wo : FVec Ideal S512x1024 .bf16)
    (i : Fin 256) (n : Fin 1024) :
    k0_pay4 (F := Ideal) x o wo (ix2 i n) = resid (fun n => x (ix2 i n)) (fun d => o (ix2 i d)) (fun d n => wo (ix2 d n)) n := by
  pointwise [k0_pay4]
  rfl

/-- A half block's rows over their root mean square. -/
theorem unit_at (x : FVec Ideal S256x1024 .f32) (o : FVec Ideal S256x512 .bf16) (wo : FVec Ideal S512x1024 .bf16)
    (i : Fin 256) (n : Fin 1024) :
    k0_pay6 (F := Ideal) x o wo (ix2 i n) = unit (fun n => k0_pay4 (F := Ideal) x o wo (ix2 i n)) n := by
  pointwise [k0_pay6]
  rfl

/-- Entry `y` of an array of rows: the block's row applied to row `y 0` of the residual stream and of the attention. -/
def out (X : FVec Ideal S512x1024 .f32) (O : FVec Ideal S512x512 .bf16) (W : FVec Ideal S512x1024 .bf16) (G : FVec Ideal S1x1024 .f32)
    (WG WU : FVec Ideal S1024x2816 .bf16) (WD : FVec Ideal S2816x1024 .bf16) (y : S512x1024.Idx) : EReal :=
  row (resid (fun n => X (ix2 (y 0) n)) (fun d => O (ix2 (y 0) d)) fun d n => W (ix2 d n)) (fun n => G (ix2 0 n)) (fun d f => WG (ix2 d f))
    (fun d f => WU (ix2 d f)) (fun f n => WD (ix2 f n)) (y 1)

/-- One of the two stores of a visit, entry by entry: row `i 0` of the half block is row `y 0` of the block. -/
theorem half_at (x : FVec Ideal S256x1024 .f32) (o : FVec Ideal S256x512 .bf16) (w : FVec Ideal S512x1024 .bf16) (g : FVec Ideal S1x1024 .f32)
    (wg wu : FVec Ideal S1024x2816 .bf16) (wd : FVec Ideal S2816x1024 .bf16)
    (X : FVec Ideal S512x1024 .f32) (O : FVec Ideal S512x512 .bf16) (i : S256x1024.Idx) (y : S512x1024.Idx)
    (hx : ∀ n, x (ix2 (i 0) n) = X (ix2 (y 0) n)) (ho : ∀ d, o (ix2 (i 0) d) = O (ix2 (y 0) d)) (hy : (i 1).val = (y 1).val) :
    k0_pay2 (F := Ideal) (k0_pay4 (F := Ideal) x o w) g (k0_pay6 (F := Ideal) x o w) wg wu wd i = out X O w g wg wu wd y := by
  have hi : i = ix2 (i 0) (i 1) := by blk_ext
  rw [hi]
  refine (Cert.FfnIdeal.Value.tail_at _ g _ wg wu wd (i 0) (i 1) fun d => unit_at x o w (i 0) d).trans ?_
  unfold out
  have e : (fun n => k0_pay4 (F := Ideal) x o w (ix2 (i 0) n)) = resid (fun n => X (ix2 (y 0) n)) (fun d => O (ix2 (y 0) d)) fun d n => w (ix2 d n) := by
    funext n
    refine (head_at x o w (i 0) n).trans ?_
    simp only [hx, ho]
  rw [e]
  exact congrArg _ (Fin.ext hy)

/-- A visit's block: both halves are the block's rows. -/
theorem blk (X : FVec Ideal S512x1024 .f32) (O : FVec Ideal S512x512 .bf16) (W : FVec Ideal S512x1024 .bf16) (G : FVec Ideal S1x1024 .f32)
    (WG WU : FVec Ideal S1024x2816 .bf16) (WD : FVec Ideal S2816x1024 .bf16) :
    out0_7 (F := Ideal) X O W G WG WU WD = out X O W G WG WU WD := by
  funext y
  unfold out0_7
  frame_out
  canon_tiles x h
  all_goals
    refine half_at _ _ _ _ _ _ _ X O x y (fun n => ?_) (fun d => ?_) ?_
    · pointwise
      blk_ext
    · pointwise
      blk_ext
    · omega

end Cert.FfnHalfIdeal.Value
-- ==== Proof.FfnHalfFinal.lean ====
/- The feed-forward kernel, attention width 512: its result array after the whole run. -/
module
public import proofs.«01_k».proof.Proof.FfnHalfBlock
@[expose] public section
set_option maxRecDepth 16384
noncomputable section
open Idealize.ShloMosaic Idealize.ShloMosaic.TcCoe Idealize.SL.Sem
open Idealize.ShloMosaic.Pipeline (Dat)
namespace Cert.FfnHalfIdeal.Value
open Cert.FfnHalfIdeal Cert.FfnHalfIdeal.Gen Cert.FfnRow

/-- The result array, entry by entry. -/
def OUT (X : FVec Ideal S65536x1024 .f32) (O : FVec Ideal S65536x512 .bf16) (W : FVec Ideal S512x1024 .bf16) (G : FVec Ideal S1x1024 .f32)
    (WG WU : FVec Ideal S1024x2816 .bf16) (WD : FVec Ideal S2816x1024 .bf16) : FVec Ideal S65536x1024 .f32 := fun y =>
  row (resid (fun n => X (ix2 (y 0) n)) (fun d => O (ix2 (y 0) d)) fun d n => W (ix2 d n)) (fun n => G (ix2 0 n)) (fun d f => WG (ix2 d f))
    (fun d f => WU (ix2 d f)) (fun f n => WD (ix2 f n)) (y 1)

/-- Visit `t` reads and writes the `t`-th 512 rows; the weights are read whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- After the run the result array holds the block's rows. -/
theorem final (m : (ℓ : Loc nD τ sig) → Buf (Elt Ideal) ℓ) (c : Dev nD) : (dats m 0 c).arrAt 7 (cfgs 0).N
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7, blk]
  unfold out OUT
  congr 1
  · congr 1
    · funext n
      blk_point [iblk, V, idx t]
    · funext d
      blk_point [iblk, V, idx t]
    · funext d n
      blk_point [iblk, V, idx t]
  · funext n
    blk_point [iblk, V, idx t]
  · funext d f
    blk_point [iblk, V, idx t]
  · funext d f
    blk_point [iblk, V, idx t]
  · funext d f
    blk_point [iblk, V, idx t]
  · apply Fin.ext
    simp [idx t]
end Cert.FfnHalfIdeal.Value
-- ==== Proof.FfnHalfRef.lean ====
/- The feed-forward reference, attention width 512: only the residual stream differs from the other width. -/
module
public import proofs.«01_k».proof.Proof.Gen.FfnHalfRefIdeal.Run
public import proofs.«01_k».proof.Proof.FfnRef
@[expose] public section
set_option maxRecDepth 16384
noncomputable section
open Idealize.ShloMosaic Idealize.ShloMosaic.TcCoe Idealize.SL.Sem
namespace Cert.FfnHalfRefIdeal.Value
open Cert.FfnHalfRefIdeal Cert.FfnHalfRefIdeal.Gen Cert.FfnRow

/-- The residual stream plus the output projection. -/
def stream (X : FVec Ideal S65536x1024 .f32) (O : FVec Ideal S65536x512 .bf16) (W : FVec Ideal S512x1024 .bf16) : FVec Ideal S65536x1024 .f32 :=
  addf X (Host.dotGeneral dot_S65536x512_S512x1024_S65536x1024_1_0_0_1_n_n none (extf .f32 O bitsLt_bf16_f32) (extf .f32 W bitsLt_bf16_f32))

/-- An entry of it. -/
theorem stream_at (X : FVec Ideal S65536x1024 .f32) (O : FVec Ideal S65536x512 .bf16) (W : FVec Ideal S512x1024 .bf16) (i : Fin 65536) (n : Fin 1024) :
    stream X O W (ix2 i n) = resid (fun n => X (ix2 i n)) (fun d => O (ix2 i d)) (fun d n => W (ix2 d n)) n := by
  pointwise [stream]
  rfl

end Cert.FfnHalfRefIdeal.Value
-- ==== Proof.FfnClaim.lean ====
/- The feed-forward kernel's result array is the reference's, at both attention widths. -/
module
public import proofs.«01_k».proof.Proof.FfnFinal
public import proofs.«01_k».proof.Proof.FfnRef
public import proofs.«01_k».proof.Proof.FfnHalfFinal
public import proofs.«01_k».proof.Proof.FfnHalfRef
@[expose] public section
set_option maxRecDepth 16384
noncomputable section
open Idealize.ShloMosaic Idealize.ShloMosaic.TcCoe Idealize.SL.Sem
namespace Cert.FfnRow

/-- Attention width 1024: the same array from the same arguments. -/
theorem out_eq (X : FVec Ideal Cert.FfnIdeal.S65536x1024 .f32) (O : FVec Ideal Cert.FfnIdeal.S65536x1024 .bf16) (W : FVec Ideal Cert.FfnIdeal.S1024x1024 .bf16)
    (G : FVec Ideal Cert.FfnIdeal.S1x1024 .f32) (WG WU : FVec Ideal Cert.FfnIdeal.S1024x2816 .bf16) (WD : FVec Ideal Cert.FfnIdeal.S2816x1024 .bf16) :
    Cert.FfnIdeal.Value.OUT X O W G WG WU WD = Cert.FfnRefIdeal.Value.tail (Cert.FfnRefIdeal.Value.stream X O W) G WG WU WD := by
  funext y
  have hy : y = ix2 (y 0) (y 1) := by blk_ext
  rw [hy]
  refine Eq.trans ?_ (Cert.FfnRefIdeal.Value.tail_at _ G WG WU WD (y 0) (y 1)).symm
  exact congrArg (fun r => row r _ _ _ _ _) (funext fun n => (Cert.FfnRefIdeal.Value.stream_at X O W (y 0) n).symm)

/-- Attention width 512: likewise. -/
theorem half_out_eq (X : FVec Ideal Cert.FfnIdeal.S65536x1024 .f32) (O : FVec Ideal Cert.FfnHalfIdeal.S65536x512 .bf16) (W : FVec Ideal Cert.FfnHalfIdeal.S512x1024 .bf16)
    (G : FVec Ideal Cert.FfnIdeal.S1x1024 .f32) (WG WU : FVec Ideal Cert.FfnIdeal.S1024x2816 .bf16) (WD : FVec Ideal Cert.FfnIdeal.S2816x1024 .bf16) :
    Cert.FfnHalfIdeal.Value.OUT X O W G WG WU WD = Cert.FfnRefIdeal.Value.tail (Cert.FfnHalfRefIdeal.Value.stream X O W) G WG WU WD := by
  funext y
  have hy : y = ix2 (y 0) (y 1) := by blk_ext
  rw [hy]
  refine Eq.trans ?_ (Cert.FfnRefIdeal.Value.tail_at _ G WG WU WD (y 0) (y 1)).symm
  exact congrArg (fun r => row r _ _ _ _ _) (funext fun n => (Cert.FfnHalfRefIdeal.Value.stream_at X O W (y 0) n).symm)

end Cert.FfnRow
-- ==== Proof.ProjMath.lean ====
/- The arithmetic the projection kernels share: a row over its root mean square, a product with a weight matrix, the
   normalisation of each 64-wide head and the rotary embedding, once as the kernels lay it out and once as the formulas read. -/
module
public import proofs.«01_k».proof.Proof.FfnRow
@[expose] public section
noncomputable section
open Idealize.ShloMosaic Idealize.ShloMosaic.TcCoe
namespace Cert.ProjMath
open Cert.FfnRow

/-- Column `j` of a row's projection: the row over its root mean square, times the gain, times the weights. -/
def proj {n : ℕ} (x g : Fin 1024 → EReal) (w : Fin 1024 → Fin n → EReal) (j : Fin n) : EReal :=
  ∑ d, unit x d * g d * w d j

/-- A projection reads its row, its gain and its column of the weights. -/
theorem proj_congr {n : ℕ} {x x' g g' : Fin 1024 → EReal} {w w' : Fin 1024 → Fin n → EReal} {j j' : Fin n} (hx : ∀ k, x k = x' k) (hg : ∀ k, g k = g' k)
    (hw : ∀ d, w d j = w' d j') : proj x g w j = proj x' g' w' j' := by
  unfold proj
  rw [funext hx, funext hg]
  exact Finset.sum_congr rfl fun d _ => congrArg _ (hw d)

/-- Lane `j` of a 256-wide chunk over the square roots of the entries of `gm` applied to its squares, times the gain. -/
def lanes (t : Fin 256 → EReal) (gm : Fin 256 → Fin 256 → EReal) (g : Fin 256 → EReal) (j : Fin 256) : EReal :=
  t j * Ideal.rsqrt (∑ k, t k * t k * gm k j + Ideal.ofBits .f32 0x358637BD#32) * g j

/-- The lane `k` places after lane `j` in the same group of 128, cyclically. -/
def turn (k : ℕ) (j : Fin 256) : Fin 256 := ⟨j.val / 128 * 128 + (j.val % 128 + k) % 128, by omega⟩

/-- The lane of a group of 128 that lane `j` is. -/
def low (j : Fin 256) : Fin 128 := ⟨j.val % 128, by omega⟩

/-- A rotation of 128-wide groups of lanes: each lane by one table, plus the lane 32 places on by a second, plus the lane
    96 places on by a third. -/
def rot (v : Fin 256 → EReal) (c s1 s2 : Fin 128 → EReal) (j : Fin 256) : EReal :=
  v j * c (low j) + v (turn 32 j) * s1 (low j) + v (turn 96 j) * s2 (low j)

/-- Entry `e` of a 64-wide head over its root mean square, times the gain. -/
def head (t g : Fin 64 → EReal) (e : Fin 64) : EReal :=
  t e * Ideal.rsqrt (Ideal.div (∑ k, t k * t k) (Ideal.ofBits .f32 0x42800000#32) + Ideal.ofBits .f32 0x358637BD#32) * g e

/-- The rotary embedding of a 64-wide head: the first 32 entries and the last 32 are the two halves of 32 rotated pairs. -/
def rope (h : Fin 64 → EReal) (c s : Fin 32 → EReal) (e : Fin 64) : EReal :=
  if p : e.val < 32 then h e * c ⟨e.val, p⟩ - h ⟨e.val + 32, by omega⟩ * s ⟨e.val, p⟩
  else h e * c ⟨e.val - 32, by omega⟩ + h ⟨e.val - 32, by omega⟩ * s ⟨e.val - 32, by omega⟩

/-- `64`, from its bits. -/
theorem bits64 : Ideal.ofBits .f32 0x42800000#32 = ((64 : ℝ) : EReal) := by
  simp [Ideal.ofBits, Ideal.ieee, -EReal.coe_mul]; norm_num

/-- A quotient by `64` is a product with the quotient of `1`. -/
theorem div64 (x : EReal) : Ideal.div x (Ideal.ofBits .f32 0x42800000#32) = x * Ideal.div 1 (Ideal.ofBits .f32 0x42800000#32) := by
  have h : ((64 : ℝ) : EReal) ≠ 0 := by exact_mod_cast (by norm_num : (64 : ℝ) ≠ 0)
  rw [bits64]
  simp only [Ideal.div, if_neg h, one_mul]

/-- The quotient of `1` by `64` is not negative. -/
theorem div64_nonneg : 0 ≤ Ideal.div 1 (Ideal.ofBits .f32 0x42800000#32) := by
  have h : ((64 : ℝ) : EReal) ≠ 0 := by exact_mod_cast (by norm_num : (64 : ℝ) ≠ 0)
  rw [bits64]
  simp only [Ideal.div, if_neg h, one_mul]
  exact EReal.inv_nonneg_of_nonneg (by exact_mod_cast (by norm_num : (0 : ℝ) ≤ 64))

/-- A square is not negative. -/
theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- A common factor leaves a sum of terms that are not negative. -/
theorem sum_mul {ι : Type} (s : Finset ι) (f : ι → EReal) (c : EReal) (h : ∀ i, 0 ≤ f i) : ∑ i ∈ s, f i * c = (∑ i ∈ s, f i) * c := by
  classical
  induction s using Finset.induction_on with
  | empty => simp
  | insert a s ha ih =>
    rw [Finset.sum_insert ha, Finset.sum_insert ha, ih, EReal.right_distrib_of_nonneg (h a) (Finset.sum_nonneg fun i _ => h i)]

/-- A sum over 256 lanes that keeps one block of 64 is the sum over that block. -/
theorem sum_block (f : Fin 256 → EReal) (b : ℕ) (hb : b < 4) :
    (∑ k : Fin 256, if k.val / 64 = b then f k else 0) = ∑ e : Fin 64, f ⟨b * 64 + e.val, by omega⟩ := by
  rw [← Finset.sum_filter]
  refine Finset.sum_bij' (fun k _ => (⟨k.val % 64, by omega⟩ : Fin 64)) (fun e _ => (⟨b * 64 + e.val, by omega⟩ : Fin 256)) ?_ ?_ ?_ ?_ ?_
  · intro k _; exact Finset.mem_univ _
  · intro e _
    simp only [Finset.mem_filter, Finset.mem_univ, true_and]
    omega
  · intro k hk
    simp only [Finset.mem_filter, Finset.mem_univ, true_and] at hk
    exact Fin.ext (by dsimp only; omega)
  · intro e _
    exact Fin.ext (by dsimp only; omega)
  · intro k hk
    simp only [Finset.mem_filter, Finset.mem_univ, true_and] at hk
    exact congrArg f (Fin.ext (by dsimp only; omega))

/-- The kernels' normalisation of a chunk, through the averaging matrix, is each head's own. -/
theorem lanes_eq (t : Fin 256 → EReal) (gm : Fin 256 → Fin 256 → EReal) (g : Fin 256 → EReal) (g' : Fin 64 → EReal)
    (hm : ∀ k l : Fin 256, gm k l = if k.val / 64 = l.val / 64 then Ideal.div 1 (Ideal.ofBits .f32 0x42800000#32) else 0)
    (hg : ∀ k, g k = g' ⟨k.val % 64, by omega⟩) (j : Fin 256) :
    lanes t gm g j = head (fun e => t ⟨j.val / 64 * 64 + e.val, by omega⟩) g' ⟨j.val % 64, by omega⟩ := by
  unfold lanes head
  rw [div64, ← sum_mul Finset.univ _ _ fun e => sq_nonneg _, ← sum_block (fun k => t k * t k * Ideal.div 1 (Ideal.ofBits .f32 0x42800000#32)) (j.val / 64) (by omega)]
  simp only [hm, hg, mul_ite, mul_zero]
  rw [show (⟨j.val / 64 * 64 + j.val % 64, by omega⟩ : Fin 256) = j from Fin.ext (by dsimp only; omega)]

/-- The kernels' rotation of 128 lanes by three tables is the rotary embedding of each head. -/
theorem rot_eq_rope (v : Fin 256 → EReal) (c s1 s2 : Fin 128 → EReal) (cos sin : Fin 32 → EReal)
    (hc : ∀ l, c l = cos ⟨l.val % 32, by omega⟩) (h1 : ∀ l, s1 l = if l.val % 64 < 32 then -sin ⟨l.val % 32, by omega⟩ else 0)
    (h2 : ∀ l, s2 l = if l.val % 64 < 32 then 0 else sin ⟨l.val % 32, by omega⟩) (j : Fin 256) :
    rot v c s1 s2 j = rope (fun e => v ⟨j.val / 64 * 64 + e.val, by omega⟩) cos sin ⟨j.val % 64, by omega⟩ := by
  have e : (low j).val % 64 = j.val % 64 := by simp only [low]; omega
  have e' : (low j).val % 32 = j.val % 32 := by simp only [low]; omega
  have ej : (⟨j.val / 64 * 64 + j.val % 64, by omega⟩ : Fin 256) = j := Fin.ext (by dsimp only; omega)
  unfold rot rope
  rw [hc, h1, h2]
  simp only [e, e']
  by_cases p : j.val % 64 < 32
  · have em : (⟨j.val % 32, by omega⟩ : Fin 32) = ⟨j.val % 64, p⟩ := Fin.ext (by dsimp only; omega)
    have et : turn 32 j = ⟨j.val / 64 * 64 + (j.val % 64 + 32), by omega⟩ := Fin.ext (by simp only [turn]; omega)
    rw [if_pos p, if_pos p, dif_pos p, mul_zero, add_zero, mul_neg, sub_eq_add_neg, em, et, ej]
  · have em : (⟨j.val % 32, by omega⟩ : Fin 32) = ⟨j.val % 64 - 32, by omega⟩ := Fin.ext (by dsimp only; omega)
    have et : turn 96 j = ⟨j.val / 64 * 64 + (j.val % 64 - 32), by omega⟩ := Fin.ext (by simp only [turn]; omega)
    rw [if_neg p, if_neg p, dif_neg p, mul_zero, add_zero, em, et, ej]

end Cert.ProjMath
-- ==== Proof.SwaProjBlock.lean ====
/- The projection kernel of the sliding-window layers: what one visit writes. -/
module
public import proofs.«01_k».proof.Proof.Gen.SwaProjIdeal.Value
public import proofs.«01_k».proof.Proof.ProjMath
@[expose] public section
set_option maxRecDepth 16384
noncomputable section
open Idealize.ShloMosaic Idealize.ShloMosaic.TcCoe Idealize.SL.Sem
open Idealize.ShloMosaic.Pipeline (Dat)
namespace Cert.SwaProjIdeal.Value
open Cert.SwaProjIdeal Cert.SwaProjIdeal.Gen Cert.FfnRow Cert.ProjMath

/-- Rows over their root mean square, times the gain. -/
theorem normed_at (x : FVec Ideal S256x1024 .f32) (an : FVec Ideal S1x1024 .f32) (i : Fin 256) (n : Fin 1024) :
    k0_pay4 (F := Ideal) x an (ix2 i n) = unit (fun n => x (ix2 i n)) n * an (ix2 0 n) := by
  pointwise [k0_pay4]
  rfl

/-- One 256-wide chunk of a row's projection. -/
theorem chunk_at (x : FVec Ideal S256x1024 .f32) (an : FVec Ideal S1x1024 .f32) (w : FVec Ideal S1024x256 .bf16) (i j : Fin 256) :
    k0_pay5 (F := Ideal) x an w (ix2 i j) = proj (fun n => x (ix2 i n)) (fun n => an (ix2 0 n)) (fun d j => w (ix2 d j)) j := by
  pointwise [k0_pay5]
  simp only [normed_at]
  rfl

/-- A chunk's lanes after the normalisation. -/
theorem lanes_at (gm : FVec Ideal S256x256 .bf16) (t : FVec Ideal S256x256 .f32) (g : FVec Ideal S1x256 .f32) (i j : Fin 256) :
    k0_pay11 (F := Ideal) gm t g (ix2 i j) = lanes (fun k => t (ix2 i k)) (fun k j => gm (ix2 k j)) (fun j => g (ix2 0 j)) j := by
  pointwise [k0_pay11]
  rfl

/-- A rotated lane, its two partners named by their places. -/
theorem rot_eq (v : Fin 256 → EReal) (c s1 s2 : Fin 128 → EReal) (j j1 j2 : Fin 256) (l : Fin 128)
    (h1 : j1.val = (turn 32 j).val) (h2 : j2.val = (turn 96 j).val) (hl : l.val = j.val % 128) :
    v j * c l + v j1 * s1 l + v j2 * s2 l = rot v c s1 s2 j := by
  unfold rot
  rw [Fin.ext h1, Fin.ext h2, show l = low j from Fin.ext hl]

/-- The first 128 lanes of a chunk after the rotation. -/
theorem left_at (gm : FVec Ideal S256x256 .bf16) (t : FVec Ideal S256x256 .f32) (c s1 s2 : FVec Ideal S256x128 .f32) (g : FVec Ideal S1x256 .f32)
    (i : Fin 256) (j : Fin 128) :
    k0_pay12 (F := Ideal) gm t c s1 s2 g (ix2 i j) = rot (fun k => k0_pay11 (F := Ideal) gm t g (ix2 i k)) (fun j => c (ix2 i j)) (fun j => s1 (ix2 i j))
      (fun j => s2 (ix2 i j)) ⟨j.val, by omega⟩ := by
  pointwise [k0_pay12]
  exact rot_eq (fun k => k0_pay11 (F := Ideal) gm t g (ix2 i k)) (fun j => c (ix2 i j)) (fun j => s1 (ix2 i j)) (fun j => s2 (ix2 i j)) _ _ _ _
    (by simp only [turn]; omega) (by simp only [turn]; omega) (by dsimp only; omega)

/-- The last 128 lanes of a chunk after the rotation. -/
theorem right_at (gm : FVec Ideal S256x256 .bf16) (t : FVec Ideal S256x256 .f32) (c s1 s2 : FVec Ideal S256x128 .f32) (g : FVec Ideal S1x256 .f32)
    (i : Fin 256) (j : Fin 128) :
    k0_pay13 (F := Ideal) gm t c s1 s2 g (ix2 i j) = rot (fun k => k0_pay11 (F := Ideal) gm t g (ix2 i k)) (fun j => c (ix2 i j)) (fun j => s1 (ix2 i j))
      (fun j => s2 (ix2 i j)) ⟨128 + j.val, by omega⟩ := by
  pointwise [k0_pay13]
  exact rot_eq (fun k => k0_pay11 (F := Ideal) gm t g (ix2 i k)) (fun j => c (ix2 i j)) (fun j => s1 (ix2 i j)) (fun j => s2 (ix2 i j)) _ _ _ _
    (by simp only [turn]; omega) (by simp only [turn]; omega) (by dsimp only; omega)

/-- Entry `y` of a window of rotated heads, from the block's rows, a gain, and the columns of the weights from `o` on. -/
def heads {n : ℕ} (o : ℕ) (ho : o + n ≤ 1536) (hn : n % 256 = 0) (X : FVec Ideal S1024x1024 .f32) (A : FVec Ideal S1x1024 .f32) (W : FVec Ideal S1024x1536 .bf16)
    (G : FVec Ideal S1x256 .f32) (GM : FVec Ideal S256x256 .bf16) (C S1 S2 : FVec Ideal S1024x128 .f32) (i : Fin 1024) (j : Fin n) : EReal :=
  rot (lanes (proj (fun n => X (ix2 i n)) (fun n => A (ix2 0 n)) fun d (k : Fin 256) => W (ix2 d ⟨o + (j.val / 256 * 256 + k.val), by omega⟩))
      (fun k l => GM (ix2 k l)) fun k => G (ix2 0 k)) (fun k => C (ix2 i k)) (fun k => S1 (ix2 i k)) (fun k => S2 (ix2 i k)) ⟨j.val % 256, by omega⟩

/-- A rotated lane of a chunk computed from a sub-block's loads is the window's entry, when the loads are the block's rows. -/
theorem tile_heads {n : ℕ} (o : ℕ) (ho : o + n ≤ 1536) (hn : n % 256 = 0) (X : FVec Ideal S1024x1024 .f32) (A : FVec Ideal S1x1024 .f32)
    (W : FVec Ideal S1024x1536 .bf16) (G : FVec Ideal S1x256 .f32) (GM : FVec Ideal S256x256 .bf16) (C S1 S2 : FVec Ideal S1024x128 .f32)
    (x : FVec Ideal S256x1024 .f32) (w : FVec Ideal S1024x256 .bf16) (c s1 s2 : FVec Ideal S256x128 .f32) (i l : Fin 256) (y0 : Fin 1024) (y1 : Fin n)
    (hx : ∀ k, x (ix2 i k) = X (ix2 y0 k)) (hw : ∀ d k, w (ix2 d k) = W (ix2 d ⟨o + (y1.val / 256 * 256 + k.val), by omega⟩))
    (hc : ∀ k, c (ix2 i k) = C (ix2 y0 k)) (h1 : ∀ k, s1 (ix2 i k) = S1 (ix2 y0 k)) (h2 : ∀ k, s2 (ix2 i k) = S2 (ix2 y0 k))
    (hl : l.val = y1.val % 256) :
    rot (fun k => k0_pay11 (F := Ideal) (k0_pay3 (F := Ideal) GM) (k0_pay5 (F := Ideal) x A w) G (ix2 i k)) (fun j => k0_pay8 (F := Ideal) c (ix2 i j))
      (fun j => k0_pay9 (F := Ideal) s1 (ix2 i j)) (fun j => k0_pay10 (F := Ideal) s2 (ix2 i j)) l = heads o ho hn X A W G GM C S1 S2 y0 y1 := by
  have e0 : k0_pay3 (F := Ideal) GM = GM := by funext y; pointwise [k0_pay3]; blk_ext
  have e1 : ∀ v : FVec Ideal S256x128 .f32, k0_pay8 (F := Ideal) v = v := fun v => by funext y; pointwise [k0_pay8]; blk_ext
  have e2 : ∀ v : FVec Ideal S256x128 .f32, k0_pay9 (F := Ideal) v = v := fun v => by funext y; pointwise [k0_pay9]; blk_ext
  have e3 : ∀ v : FVec Ideal S256x128 .f32, k0_pay10 (F := Ideal) v = v := fun v => by funext y; pointwise [k0_pay10]; blk_ext
  simp only [e0, e1, e2, e3, lanes_at, chunk_at, hx, hw, hc, h1, h2]
  unfold heads
  rw [show l = ⟨y1.val % 256, by omega⟩ from Fin.ext hl]

/-- One store of a window of rotated heads, the first 128 lanes of a chunk. -/
theorem left_heads {n : ℕ} (o : ℕ) (ho : o + n ≤ 1536) (hn : n % 256 = 0) (X : FVec Ideal S1024x1024 .f32) (A : FVec Ideal S1x1024 .f32)
    (W : FVec Ideal S1024x1536 .bf16) (G : FVec Ideal S1x256 .f32) (GM : FVec Ideal S256x256 .bf16) (C S1 S2 : FVec Ideal S1024x128 .f32)
    (x : FVec Ideal S256x1024 .f32) (w : FVec Ideal S1024x256 .bf16) (c s1 s2 : FVec Ideal S256x128 .f32) (i : S256x128.Idx) (y0 : Fin 1024) (y1 : Fin n)
    (hx : ∀ k, x (ix2 (i 0) k) = X (ix2 y0 k)) (hw : ∀ d k, w (ix2 d k) = W (ix2 d ⟨o + (y1.val / 256 * 256 + k.val), by omega⟩))
    (hc : ∀ k, c (ix2 (i 0) k) = C (ix2 y0 k)) (h1 : ∀ k, s1 (ix2 (i 0) k) = S1 (ix2 y0 k)) (h2 : ∀ k, s2 (ix2 (i 0) k) = S2 (ix2 y0 k))
    (hy : (i 1).val = y1.val % 256) :
    k0_pay12 (F := Ideal) (k0_pay3 (F := Ideal) GM) (k0_pay5 (F := Ideal) x A w) (k0_pay8 (F := Ideal) c) (k0_pay9 (F := Ideal) s1) (k0_pay10 (F := Ideal) s2) G i
      = heads o ho hn X A W G GM C S1 S2 y0 y1 := by
  have hi : i = ix2 (i 0) (i 1) := by blk_ext
  rw [hi]
  exact (left_at _ _ _ _ _ _ (i 0) (i 1)).trans (tile_heads o ho hn X A W G GM C S1 S2 x w c s1 s2 (i 0) _ y0 y1 hx hw hc h1 h2 hy)

/-- One store of a window of rotated heads, the last 128 lanes of a chunk. -/
theorem right_heads {n : ℕ} (o : ℕ) (ho : o + n ≤ 1536) (hn : n % 256 = 0) (X : FVec Ideal S1024x1024 .f32) (A : FVec Ideal S1x1024 .f32)
    (W : FVec Ideal S1024x1536 .bf16) (G : FVec Ideal S1x256 .f32) (GM : FVec Ideal S256x256 .bf16) (C S1 S2 : FVec Ideal S1024x128 .f32)
    (x : FVec Ideal S256x1024 .f32) (w : FVec Ideal S1024x256 .bf16) (c s1 s2 : FVec Ideal S256x128 .f32) (i : S256x128.Idx) (y0 : Fin 1024) (y1 : Fin n)
    (hx : ∀ k, x (ix2 (i 0) k) = X (ix2 y0 k)) (hw : ∀ d k, w (ix2 d k) = W (ix2 d ⟨o + (y1.val / 256 * 256 + k.val), by omega⟩))
    (hc : ∀ k, c (ix2 (i 0) k) = C (ix2 y0 k)) (h1 : ∀ k, s1 (ix2 (i 0) k) = S1 (ix2 y0 k)) (h2 : ∀ k, s2 (ix2 (i 0) k) = S2 (ix2 y0 k))
    (hy : 128 + (i 1).val = y1.val % 256) :
    k0_pay13 (F := Ideal) (k0_pay3 (F := Ideal) GM) (k0_pay5 (F := Ideal) x A w) (k0_pay8 (F := Ideal) c) (k0_pay9 (F := Ideal) s1) (k0_pay10 (F := Ideal) s2) G i
      = heads o ho hn X A W G GM C S1 S2 y0 y1 := by
  have hi : i = ix2 (i 0) (i 1) := by blk_ext
  rw [hi]
  exact (right_at _ _ _ _ _ _ (i 0) (i 1)).trans (tile_heads o ho hn X A W G GM C S1 S2 x w c s1 s2 (i 0) _ y0 y1 hx hw hc h1 h2 hy)

/-- One store of the values. -/
theorem value_at (X : FVec Ideal S1024x1024 .f32) (A : FVec Ideal S1x1024 .f32) (W : FVec Ideal S1024x1536 .bf16)
    (x : FVec Ideal S256x1024 .f32) (w : FVec Ideal S1024x256 .bf16) (i : S256x256.Idx) (y0 : Fin 1024) (y1 : Fin 256)
    (hx : ∀ k, x (ix2 (i 0) k) = X (ix2 y0 k)) (hw : ∀ d k, w (ix2 d k) = W (ix2 d ⟨1280 + k.val, by omega⟩)) (hy : (i 1).val = y1.val) :
    k0_pay2 (F := Ideal) (k0_pay5 (F := Ideal) x A w) i = proj (fun n => X (ix2 y0 n)) (fun n => A (ix2 0 n))
      (fun d (k : Fin 256) => W (ix2 d ⟨1280 + k.val, by omega⟩)) y1 := by
  have hi : i = ix2 (i 0) (i 1) := by blk_ext
  rw [hi]
  refine (chunk_at x A w (i 0) (i 1)).trans ?_
  simp only [hx, hw]
  exact congrArg _ (Fin.ext hy)

set_option maxHeartbeats 4000000 in
/-- A visit's block of queries. -/
theorem blk_q (X : FVec Ideal S1024x1024 .f32) (A : FVec Ideal S1x1024 .f32) (W : FVec Ideal S1024x1536 .bf16) (GQ GK : FVec Ideal S1x256 .f32)
    (GM : FVec Ideal S256x256 .bf16) (C S1 S2 : FVec Ideal S1024x128 .f32) :
    out0_9 (F := Ideal) X A W GQ GK GM C S1 S2 = fun y => heads (n := 1024) 0 (by omega) (by omega) X A W GQ GM C S1 S2 (y 0) (y 1) := by
  funext y
  unfold_out out0_9
  frame_out
  canon_tiles x h
  all_goals first
    | have hy : (x 1).val = (y 1).val % 256 := by omega
      refine left_heads 0 _ _ X A W GQ GM C S1 S2 _ _ _ _ _ x (y 0) (y 1) (fun n => ?_) (fun d k => ?_) (fun k => ?_) (fun k => ?_) (fun k => ?_) hy
    | have hy : 128 + (x 1).val = (y 1).val % 256 := by omega
      refine right_heads 0 _ _ X A W GQ GM C S1 S2 _ _ _ _ _ x (y 0) (y 1) (fun n => ?_) (fun d k => ?_) (fun k => ?_) (fun k => ?_) (fun k => ?_) hy
  all_goals
    pointwise
    blk_ext

set_option maxHeartbeats 4000000 in
/-- A visit's block of keys. -/
theorem blk_k (X : FVec Ideal S1024x1024 .f32) (A : FVec Ideal S1x1024 .f32) (W : FVec Ideal S1024x1536 .bf16) (GQ GK : FVec Ideal S1x256 .f32)
    (GM : FVec Ideal S256x256 .bf16) (C S1 S2 : FVec Ideal S1024x128 .f32) :
    out0_10 (F := Ideal) X A W GQ GK GM C S1 S2 = fun y => heads (n := 256) 1024 (by omega) (by omega) X A W GK GM C S1 S2 (y 0) (y 1) := by
  funext y
  unfold_out out0_10
  frame_out
  canon_tiles x h
  all_goals first
    | have hy : (x 1).val = (y 1).val % 256 := by omega
      refine left_heads 1024 _ _ X A W GK GM C S1 S2 _ _ _ _ _ x (y 0) (y 1) (fun n => ?_) (fun d k => ?_) (fun k => ?_) (fun k => ?_) (fun k => ?_) hy
    | have hy : 128 + (x 1).val = (y 1).val % 256 := by omega
      refine right_heads 1024 _ _ X A W GK GM C S1 S2 _ _ _ _ _ x (y 0) (y 1) (fun n => ?_) (fun d k => ?_) (fun k => ?_) (fun k => ?_) (fun k => ?_) hy
  all_goals
    pointwise
    blk_ext

/-- A visit's block of values: the last 256 columns of the projection. -/
theorem blk_v (X : FVec Ideal S1024x1024 .f32) (A : FVec Ideal S1x1024 .f32) (W : FVec Ideal S1024x1536 .bf16) (GQ GK : FVec Ideal S1x256 .f32)
    (GM : FVec Ideal S256x256 .bf16) (C S1 S2 : FVec Ideal S1024x128 .f32) :
    out0_11 (F := Ideal) X A W GQ GK GM C S1 S2 = fun y => proj (fun n => X (ix2 (y 0) n)) (fun n => A (ix2 0 n))
      (fun d (k : Fin 256) => W (ix2 d ⟨1280 + k.val, by omega⟩)) (y 1) := by
  funext y
  unfold_out out0_11
  frame_out
  canon_tiles x h
  all_goals
    refine value_at X A W _ _ x (y 0) (y 1) (fun n => ?_) (fun d k => ?_) ?_
    · pointwise
      blk_ext
    · pointwise
      blk_ext
    · omega

end Cert.SwaProjIdeal.Value
-- ==== Proof.SwaProjHost.lean ====
/- The projection kernel of the sliding-window layers: what the host hands it. -/
module
public import proofs.«01_k».proof.Proof.SwaProjBlock
@[expose] public section
set_option maxRecDepth 16384
noncomputable section
open Idealize.ShloMosaic Idealize.ShloMosaic.TcCoe Idealize.SL.Sem
open Idealize.ShloMosaic.Pipeline (Dat)
namespace Cert.SwaProjIdeal.Value
open Cert.SwaProjIdeal Cert.SwaProjIdeal.Gen Cert.FfnRow Cert.ProjMath

variable (m : (ℓ : Loc nD τ sig) → Buf (Elt Ideal) ℓ) (c : Dev nD)

/-- The 64-wide block each of 256 lanes lies in, as the host computes it: a division that rounds down. -/
def lane64 : (⟨S256, .i32⟩ : BufTy).Contents (Elt Ideal) :=
  select
    (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

/-- A lane's block is its number over 64. -/
theorem lane64_at (k : Fin 256) : lane64 (ix1 k) = BitVec.ofNat 32 (k.val / 64) := by
  pointwise [lane64]
  revert k
  decide +kernel

/-- The averaging matrix: `1/64` between two lanes of one block, `0` elsewhere. -/
def avg : FVec Ideal S256x256 .bf16 :=
  truncf .bf16 (Host.divf (uitofp (F := Ideal) .f32 (cmpi .eq
      (broadcastInDim S256x256 ![0, 1] bcast_S256x1_S256x256_0_1 (broadcastInDim S256x1 ![0] bcast_S256_S256x1_0 lane64))
      (broadcastInDim S256x256 ![0, 1] bcast_S1x256_S256x256_0_1 (broadcastInDim S1x256 ![1] bcast_S256_S1x256_1 lane64))))
    (broadcastInDim S256x256 ![] bcast_S_S256x256 (constant S_ .f32 0x42800000#32))) bitsLt_bf16_f32

/-- An entry of the averaging matrix. -/
theorem avg_at (k l : Fin 256) : avg (ix2 k l) = if k.val / 64 = l.val / 64 then Ideal.div 1 (Ideal.ofBits .f32 0x42800000#32) else 0 := by
  pointwise [avg]
  rw [lane64_at, lane64_at, WordCmp.cmpi_eq_ofNat (by omega) (by omega)]
  have hu : ∀ b : BitVec 1, FloatOps.uitofp (F := Ideal) FTy.f32 b = ((b.toNat : ℝ) : EReal) := fun _ => rfl
  rw [hu]
  by_cases p : k.val / 64 = l.val / 64
  · simp [p]
  · rw [div64]
    simp [p]

/-- A table of zeros. -/
def zeros : FVec Ideal S2048x32 .f32 := broadcastInDim S2048x32 ![] bcast_S_S2048x32 (constant S_ .f32 0x00000000#32)

/-- An entry of the zeros. -/
theorem zeros_at (i : S2048x32.Idx) : zeros i = 0 := by
  pointwise [zeros]

/-- A table of 32 lanes twice side by side, in two copies: 128 lanes. -/
def twice (a b : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1)
      shapeCasts_S2048x64_S1x2048x1x64)) shapeCasts_S1x2048x2x64_S2048x128

/-- An entry of the doubled table. -/
theorem twice_at (a b : FVec Ideal S2048x32 .f32) (k : Fin 2048) (l : Fin 128) :
    twice a b (ix2 k l) = if l.val % 64 < 32 then a (ix2 k ⟨l.val % 32, by omega⟩) else b (ix2 k ⟨l.val % 32, by omega⟩) := by
  pointwise [twice]
  split
  · exact congrArg a (congrArg (ix2 k) (Fin.ext (by dsimp only; omega)))
  · exact congrArg b (congrArg (ix2 k) (Fin.ext (by dsimp only; omega)))

/-- A gain of one head in four copies, as the host lays it out. -/
def four (g : FVec Ideal S64 .f32) : FVec Ideal S1x256 .f32 :=
  shapeCast S1x256 (shapeCast S256 (broadcastInDim S4x64 ![0, 1] bcast_S1x64_S4x64_0_1
    (shapeCast S1x64 (mulf g (broadcastInDim S64 ![] bcast_S_S64 (constant S_ .f32 0x3F800000#32))) shapeCasts_S64_S1x64)) shapeCasts_S4x64_S256) shapeCasts_S256_S1x256

/-- An entry of the four copies. -/
theorem four_at (g : FVec Ideal S64 .f32) (k : Fin 256) : four g (ix2 0 k) = g (ix1 ⟨k.val % 64, by omega⟩) := by
  pointwise [four]

set_option maxHeartbeats 4000000 in
/-- The kernel's gain of the rows: the argument as one row. -/
theorem an_eq : (V m c main_v0 : FVec Ideal S1x1024 .f32) = shapeCast S1x1024 (m ((c : Thread nD τ).loc main_arg1)) shapeCasts_S1024_S1x1024 := by
  show StableHlo.after (List.flatten [hostOps0, hostOps0_1, hostOps0_2]) _ (Proc.devRef .tc main_v0) = _
  simp only [List.flatten_cons, List.flatten_nil, List.append_nil, List.cons_append, List.nil_append]
  after_results_simp <;> rfl

set_option maxHeartbeats 4000000 in
/-- The kernel's weights: the argument. -/
theorem w_eq : (V m c main_v1 : FVec Ideal S1024x1536 .bf16) = (m ((c : Thread nD τ).loc main_arg2)) := by
  show StableHlo.after (List.flatten [hostOps0, hostOps0_1, hostOps0_2]) _ (Proc.devRef .tc main_v1) = _
  simp only [List.flatten_cons, List.flatten_nil, List.append_nil, List.cons_append, List.nil_append]
  after_results_simp <;> rfl

set_option maxHeartbeats 4000000 in
/-- The kernel's gain of the queries. -/
theorem gq_eq : (V m c main_v7 : FVec Ideal S1x256 .f32) = four (m ((c : Thread nD τ).loc main_arg3)) := by
  show StableHlo.after (List.flatten [hostOps0, hostOps0_1, hostOps0_2]) _ (Proc.devRef .tc main_v7) = _
  simp only [List.flatten_cons, List.flatten_nil, List.append_nil, List.cons_append, List.nil_append]
  after_results_simp <;> rfl

set_option maxHeartbeats 4000000 in
/-- The kernel's gain of the keys. -/
theorem gk_eq : (V m c main_v13 : FVec Ideal S1x256 .f32) = four (m ((c : Thread nD τ).loc main_arg4)) := by
  show StableHlo.after (List.flatten [hostOps0, hostOps0_1, hostOps0_2]) _ (Proc.devRef .tc main_v13) = _
  simp only [List.flatten_cons, List.flatten_nil, List.append_nil, List.cons_append, List.nil_append]
  after_results_simp <;> rfl

set_option maxHeartbeats 4000000 in
/-- The kernel's averaging matrix. -/
theorem gm_eq : (V m c main_v24 : FVec Ideal S256x256 .bf16) = avg := by
  show StableHlo.after (List.flatten [hostOps0, hostOps0_1, hostOps0_2]) _ (Proc.devRef .tc main_v24) = _
  simp only [List.flatten_cons, List.flatten_nil, List.append_nil, List.cons_append, List.nil_append]
  after_results_simp <;> rfl

set_option maxHeartbeats 4000000 in
/-- The kernel's first table: the cosines. -/
theorem cos_eq : (V m c main_v32 : FVec Ideal S2048x128 .f32) = twice (m ((c : Thread nD τ).loc main_arg5)) (m ((c : Thread nD τ).loc main_arg5)) := by
  show StableHlo.after (List.flatten [hostOps0, hostOps0_1, hostOps0_2]) _ (Proc.devRef .tc main_v32) = _
  simp only [List.flatten_cons, List.flatten_nil, List.append_nil, List.cons_append, List.nil_append]
  after_results_simp <;> rfl

set_option maxHeartbeats 4000000 in
/-- The kernel's second table: the sines' opposites in the first half of each head. -/
theorem sin1_eq : (V m c main_v35 : FVec Ideal S2048x128 .f32) = twice (Host.negf (m ((c : Thread nD τ).loc main_arg6))) zeros := by
  show StableHlo.after (List.flatten [hostOps0, hostOps0_1, hostOps0_2]) _ (Proc.devRef .tc main_v35) = _
  simp only [List.flatten_cons, List.flatten_nil, List.append_nil, List.cons_append, List.nil_append]
  after_results_simp <;> rfl

set_option maxHeartbeats 4000000 in
/-- The kernel's third table: the sines in the second half of each head. -/
theorem sin2_eq : (V m c main_v38 : FVec Ideal S2048x128 .f32) = twice zeros (m ((c : Thread nD τ).loc main_arg6)) := by
  show StableHlo.after (List.flatten [hostOps0, hostOps0_1, hostOps0_2]) _ (Proc.devRef .tc main_v38) = _
  simp only [List.flatten_cons, List.flatten_nil, List.append_nil, List.cons_append, List.nil_append]
  after_results_simp <;> rfl

end Cert.SwaProjIdeal.Value
-- ==== Proof.SwaProjFinal.lean ====
/- The projection kernel of the sliding-window layers: its result arrays after the whole run. -/
module
public import proofs.«01_k».proof.Proof.SwaProjHost
@[expose] public section
set_option maxRecDepth 16384
noncomputable section
open Idealize.ShloMosaic Idealize.ShloMosaic.TcCoe Idealize.SL.Sem
open Idealize.ShloMosaic.Pipeline (Dat)
namespace Cert.SwaProjIdeal.Value
open Cert.SwaProjIdeal Cert.SwaProjIdeal.Gen Cert.FfnRow Cert.ProjMath

/-- Entry `(i, j)` of the array of rotated heads: head `j / 64` of row `i`'s projection, from column `o` of the weights on,
    over its root mean square, times its gain, rotated by the row's position `i % 2048` in its sequence. -/
def HEADS {n : ℕ} (o : ℕ) (ho : o + n ≤ 1536) (hn : n % 256 = 0) (X : FVec Ideal S65536x1024 .f32) (A : FVec Ideal S1024 .f32) (W : FVec Ideal S1024x1536 .f32)
    (G : FVec Ideal S64 .f32) (C S : FVec Ideal S2048x32 .f32) (i : Fin 65536) (j : Fin n) : EReal :=
  rope (head (proj (fun n => X (ix2 i n)) (fun n => A (ix1 n)) fun d (e : Fin 64) => W (ix2 d ⟨o + (j.val / 64 * 64 + e.val), by omega⟩)) fun e => G (ix1 e))
    (fun l => C (ix2 ⟨i.val % 2048, by omega⟩ l)) (fun l => S (ix2 ⟨i.val % 2048, by omega⟩ l)) ⟨j.val % 64, by omega⟩

/-- The kernel's heads are the formulas', when its inputs are laid out as the host lays them out. -/
theorem heads_eq {n : ℕ} (o : ℕ) (ho : o + n ≤ 1536) (hn : n % 256 = 0) (X : FVec Ideal S65536x1024 .f32) (A : FVec Ideal S1024 .f32)
    (W : FVec Ideal S1024x1536 .f32) (G : FVec Ideal S64 .f32) (C S : FVec Ideal S2048x32 .f32)
    (x : FVec Ideal S1024x1024 .f32) (a : FVec Ideal S1x1024 .f32) (w : FVec Ideal S1024x1536 .bf16) (g : FVec Ideal S1x256 .f32)
    (gm : FVec Ideal S256x256 .bf16) (c s1 s2 : FVec Ideal S1024x128 .f32) (i : Fin 1024) (r : Fin 65536) (j j' : Fin n)
    (hx : ∀ k, x (ix2 i k) = X (ix2 r k)) (ha : ∀ k, a (ix2 0 k) = A (ix1 k)) (hw : ∀ d k, w (ix2 d k) = W (ix2 d k))
    (hg : ∀ k, g (ix2 0 k) = four G (ix2 0 k)) (hm : ∀ k l, gm (ix2 k l) = avg (ix2 k l))
    (hc : ∀ k, c (ix2 i k) = twice C C (ix2 ⟨r.val % 2048, by omega⟩ k)) (h1 : ∀ k, s1 (ix2 i k) = twice (Host.negf S) zeros (ix2 ⟨r.val % 2048, by omega⟩ k))
    (h2 : ∀ k, s2 (ix2 i k) = twice zeros S (ix2 ⟨r.val % 2048, by omega⟩ k)) (hj : j.val = j'.val) :
    heads o ho hn x a w g gm c s1 s2 i j = HEADS o ho hn X A W G C S r j' := by
  obtain rfl : j = j' := Fin.ext hj
  unfold heads HEADS
  rw [rot_eq_rope _ _ _ _ (fun l => C (ix2 ⟨r.val % 2048, by omega⟩ l)) (fun l => S (ix2 ⟨r.val % 2048, by omega⟩ l))
    (fun l => by rw [hc, twice_at]; simp) (fun l => by rw [h1, twice_at, zeros_at]; rfl) (fun l => by rw [h2, twice_at, zeros_at])]
  congr 1
  · funext e
    refine (lanes_eq _ _ _ (fun e => G (ix1 e)) (fun k l => (hm k l).trans (avg_at k l)) (fun k => (hg k).trans (four_at G k)) _).trans ?_
    rw [show (⟨(j.val % 256 / 64 * 64 + e.val) % 64, by omega⟩ : Fin 64) = e from Fin.ext (by dsimp only; omega)]
    refine congrFun (congrArg (fun f => head f fun e => G (ix1 e)) (funext fun x => ?_)) e
    unfold proj
    simp only [hx, ha, hw]
    refine Finset.sum_congr rfl fun d _ => congrArg (_ * W ·) (congrArg (ix2 d) (Fin.ext ?_))
    dsimp only
    omega
  · exact Fin.ext (by dsimp only; omega)

/-- Visit `t` reads and writes the `t`-th 1024 rows, and reads the half of the position tables its rows' positions lie in. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val % 2, 0]
    ∧ win0_7.index t = ![t.val % 2, 0] ∧ win0_8.index t = ![t.val % 2, 0] ∧ win0_9.index t = ![t.val, 0] ∧ win0_10.index t = ![t.val, 0]
    ∧ win0_11.index t = ![t.val, 0] :=
  (by decide +kernel : ∀ t : Fin grid0.N, _)

section
variable (m : (ℓ : Loc nD τ sig) → Buf (Elt Ideal) ℓ) (c : Dev nD) (t : Fin cfg0.N)

/-- The kernel's block of rows. -/
theorem in_x (i k : Fin 1024) (r : Fin 65536) (hr : r.val = t.val * 1024 + i.val) : (iblk m c 0 t : FVec Ideal S1024x1024 .f32) (ix2 i k) = (m ((c : Thread nD τ).loc main_arg0)) (ix2 r k) := by
  blk_point [iblk, idx t]

/-- The kernel's gain of the rows. -/
theorem in_an (k : Fin 1024) : (iblk m c 1 t : FVec Ideal S1x1024 .f32) (ix2 0 k) = (m ((c : Thread nD τ).loc main_arg1)) (ix1 k) := by
  show (V m c main_v0 : FVec Ideal S1x1024 .f32) ((win0_1.blk t).view.emb (ix2 0 k)) = _
  rw [an_eq, show (win0_1.blk t).view.emb (ix2 0 k) = ix2 0 k by blk_ext [idx t]]
  pointwise

/-- The kernel's weights. -/
theorem in_w (d : Fin 1024) (k : Fin 1536) : (iblk m c 2 t : FVec Ideal S1024x1536 .bf16) (ix2 d k) = (m ((c : Thread nD τ).loc main_arg2)) (ix2 d k) := by
  blk_point [iblk, idx t, w_eq]

/-- The kernel's gain of the queries. -/
theorem in_gq (k : Fin 256) : (iblk m c 3 t : FVec Ideal S1x256 .f32) (ix2 0 k) = four (m ((c : Thread nD τ).loc main_arg3)) (ix2 0 k) := by
  show (V m c main_v7 : FVec Ideal S1x256 .f32) ((win0_3.blk t).view.emb (ix2 0 k)) = _
  rw [gq_eq, show (win0_3.blk t).view.emb (ix2 0 k) = ix2 0 k by blk_ext [idx t]]

/-- The kernel's gain of the keys. -/
theorem in_gk (k : Fin 256) : (iblk m c 4 t : FVec Ideal S1x256 .f32) (ix2 0 k) = four (m ((c : Thread nD τ).loc main_arg4)) (ix2 0 k) := by
  show (V m c main_v13 : FVec Ideal S1x256 .f32) ((win0_4.blk t).view.emb (ix2 0 k)) = _
  rw [gk_eq, show (win0_4.blk t).view.emb (ix2 0 k) = ix2 0 k by blk_ext [idx t]]

/-- The kernel's averaging matrix. -/
theorem in_gm (k l : Fin 256) : (iblk m c 5 t : FVec Ideal S256x256 .bf16) (ix2 k l) = avg (ix2 k l) := by
  show (V m c main_v24 : FVec Ideal S256x256 .bf16) ((win0_5.blk t).view.emb (ix2 k l)) = _
  rw [gm_eq, show (win0_5.blk t).view.emb (ix2 k l) = ix2 k l by blk_ext [idx t]]

/-- The kernel's block of the cosines. -/
theorem in_cos (i : Fin 1024) (k : Fin 128) (r : Fin 65536) (hr : r.val = t.val * 1024 + i.val) :
    (iblk m c 6 t : FVec Ideal S1024x128 .f32) (ix2 i k) = twice (m ((c : Thread nD τ).loc main_arg5)) (m ((c : Thread nD τ).loc main_arg5)) (ix2 ⟨r.val % 2048, by omega⟩ k) := by
  show (V m c main_v32 : FVec Ideal S2048x128 .f32) ((win0_6.blk t).view.emb (ix2 i k)) = _
  rw [cos_eq, show (win0_6.blk t).view.emb (ix2 i k) = ix2 ⟨r.val % 2048, by omega⟩ k by blk_ext [idx t]]

/-- The kernel's block of the second table. -/
theorem in_sin1 (i : Fin 1024) (k : Fin 128) (r : Fin 65536) (hr : r.val = t.val * 1024 + i.val) :
    (iblk m c 7 t : FVec Ideal S1024x128 .f32) (ix2 i k) = twice (Host.negf (m ((c : Thread nD τ).loc main_arg6))) zeros (ix2 ⟨r.val % 2048, by omega⟩ k) := by
  show (V m c main_v35 : FVec Ideal S2048x128 .f32) ((win0_7.blk t).view.emb (ix2 i k)) = _
  rw [sin1_eq, show (win0_7.blk t).view.emb (ix2 i k) = ix2 ⟨r.val % 2048, by omega⟩ k by blk_ext [idx t]]

/-- The kernel's block of the third table. -/
theorem in_sin2 (i : Fin 1024) (k : Fin 128) (r : Fin 65536) (hr : r.val = t.val * 1024 + i.val) :
    (iblk m c 8 t : FVec Ideal S1024x128 .f32) (ix2 i k) = twice zeros (m ((c : Thread nD τ).loc main_arg6)) (ix2 ⟨r.val % 2048, by omega⟩ k) := by
  show (V m c main_v38 : FVec Ideal S2048x128 .f32) ((win0_8.blk t).view.emb (ix2 i k)) = _
  rw [sin2_eq, show (win0_8.blk t).view.emb (ix2 i k) = ix2 ⟨r.val % 2048, by omega⟩ k by blk_ext [idx t]]

end

/-- After the run the first result array holds the rotated heads of the queries. -/
theorem final_q (m : (ℓ : Loc nD τ sig) → Buf (Elt Ideal) ℓ) (c : Dev nD) : (dats m 0 c).arrAt 9 (cfgs 0).N
    = fun y : S65536x1024.Idx => HEADS (n := 1024) 0 (by omega) (by omega) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (y 0) (y 1) := by
  refine (dats m 0 c).arrAt_eq_of_covers 9 _ (by decide +kernel) fun t _ y => ?_
  blk_simp
  rw [after0_9, blk_q]
  refine heads_eq _ _ _ _ _ _ _ _ _ _ _ _ _ _ _ _ _ (y 0) _ (y 1) _ (fun k => in_x m c t _ k _ ?_) (in_an m c t) (in_w m c t) (in_gq m c t) (in_gm m c t)
    (fun k => in_cos m c t _ k _ ?_) (fun k => in_sin1 m c t _ k _ ?_) (fun k => in_sin2 m c t _ k _ ?_) ?_
  all_goals simp [idx t]

/-- After the run the second result array holds the rotated heads of the keys. -/
theorem final_k (m : (ℓ : Loc nD τ sig) → Buf (Elt Ideal) ℓ) (c : Dev nD) : (dats m 0 c).arrAt 10 (cfgs 0).N
    = fun y : S65536x256.Idx => HEADS (n := 256) 1024 (by omega) (by omega) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (y 0) (y 1) := by
  refine (dats m 0 c).arrAt_eq_of_covers 10 _ (by decide +kernel) fun t _ y => ?_
  blk_simp
  rw [after0_10, blk_k]
  refine heads_eq _ _ _ _ _ _ _ _ _ _ _ _ _ _ _ _ _ (y 0) _ (y 1) _ (fun k => in_x m c t _ k _ ?_) (in_an m c t) (in_w m c t) (in_gk m c t) (in_gm m c t)
    (fun k => in_cos m c t _ k _ ?_) (fun k => in_sin1 m c t _ k _ ?_) (fun k => in_sin2 m c t _ k _ ?_) ?_
  all_goals simp [idx t]

/-- After the run the third result array holds the last 256 columns of the projection. -/
theorem final_v (m : (ℓ : Loc nD τ sig) → Buf (Elt Ideal) ℓ) (c : Dev nD) : (dats m 0 c).arrAt 11 (cfgs 0).N
    = fun y : S65536x256.Idx => proj (fun n => (m ((c : Thread nD τ).loc main_arg0)) (ix2 (y 0) n)) (fun n => (m ((c : Thread nD τ).loc main_arg1)) (ix1 n)) (fun d (k : Fin 256) => (m ((c : Thread nD τ).loc main_arg2)) (ix2 d ⟨1280 + k.val, by omega⟩)) (y 1) := by
  refine (dats m 0 c).arrAt_eq_of_covers 11 _ (by decide +kernel) fun t _ y => ?_
  blk_simp
  rw [after0_11, blk_v]
  refine proj_congr (fun k => in_x m c t _ k _ ?_) (in_an m c t) (fun d => (in_w m c t d _).trans (congrArg _ (congrArg (ix2 d) (Fin.ext ?_))))
  all_goals simp [idx t]
end Cert.SwaProjIdeal.Value
-- ==== Proof.SwaProjRef.lean ====
/- The projection reference of the sliding-window layers: its results, entry by entry. -/
module
public import proofs.«01_k».proof.Proof.Gen.SwaProjRefIdeal.Run
public import proofs.«01_k».proof.Proof.ProjMath
@[expose] public section
set_option maxRecDepth 16384
noncomputable section
open Idealize.ShloMosaic Idealize.ShloMosaic.TcCoe Idealize.SL.Sem
namespace Cert.SwaProjRefIdeal.Value
open Cert.SwaProjRefIdeal Cert.SwaProjRefIdeal.Gen Cert.FfnRow Cert.ProjMath

/-- RMS normalisation of each row, with gain. -/
def normed (r : FVec Ideal S65536x1024 .f32) (G : FVec Ideal S1024 .f32) : FVec Ideal S65536x1024 .f32 :=
  mulf (mulf r (broadcastInDim S65536x1024 ![0, 1] bcast_S65536x1_S65536x1024_0_1 (Host.rsqrt (addf (Host.divf
    (broadcastInDim S65536x1 ![0] bcast_S65536_S65536x1_0 (Host.reduceAdd (mulf r r) (constant S_ .f32 0x00000000#32) reducesTo_S65536x1024_S65536_d1 h_S_))
    (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 G))

/-- An entry of the normalised rows. -/
theorem normed_at (r : FVec Ideal S65536x1024 .f32) (G : FVec Ideal S1024 .f32) (i : Fin 65536) (n : Fin 1024) :
    normed r G (ix2 i n) = unit (fun n => r (ix2 i n)) n * G (ix1 n) := by
  pointwise [normed]
  rfl

/-- The projection of the rows. -/
def rows (X : FVec Ideal S65536x1024 .f32) (A : FVec Ideal S1024 .f32) (W : FVec Ideal S1024x1536 .f32) : FVec Ideal S65536x1536 .f32 :=
  Host.dotGeneral dot_S65536x1024_S1024x1536_S65536x1536_1_0_0_1_n_n none (normed X A) W

/-- An entry of the projection. -/
theorem rows_at (X : FVec Ideal S65536x1024 .f32) (A : FVec Ideal S1024 .f32) (W : FVec Ideal S1024x1536 .f32) (i : Fin 65536) (j : Fin 1536) :
    rows X A W (ix2 i j) = proj (fun n => X (ix2 i n)) (fun n => A (ix1 n)) (fun d k => W (ix2 d k)) j := by
  pointwise [rows]
  simp only [normed_at]
  rfl

/-- The queries as heads: batch, position, head, lane. -/
def split16 (r : FVec Ideal S65536x1536 .f32) : FVec Ideal S32x2048x16x64 .f32 :=
  shapeCast S32x2048x16x64 (extractStridedSlice S65536x1024 ![0, 0] r slices_S65536x1536_S65536x1024_0_0) shapeCasts_S65536x1024_S32x2048x16x64

/-- An entry of the queries as heads. -/
theorem split16_at (r : FVec Ideal S65536x1536 .f32) (b : Fin 32) (s : Fin 2048) (h : Fin 16) (e : Fin 64) :
    split16 r (ix4 b s h e) = r (ix2 ⟨b.val * 2048 + s.val, by omega⟩ ⟨0 + (h.val * 64 + e.val), by omega⟩) := by
  pointwise [split16]
  blk_ext

/-- RMS normalisation of each of the queries' heads, with gain. -/
def normed16 (r : FVec Ideal S32x2048x16x64 .f32) (G : FVec Ideal S64 .f32) : FVec Ideal S32x2048x16x64 .f32 :=
  mulf (mulf r (broadcastInDim S32x2048x16x64 ![0, 1, 2, 3] bcast_S32x2048x16x1_S32x2048x16x64_0_1_2_3 (Host.rsqrt (addf (Host.divf
    (broadcastInDim S32x2048x16x1 ![0, 1, 2] bcast_S32x2048x16_S32x2048x16x1_0_1_2 (Host.reduceAdd (mulf r r) (constant S_ .f32 0x00000000#32) reducesTo_S32x2048x16x64_S32x2048x16_d3 h_S_))
    (broadcastInDim S32x2048x16x1 ![] bcast_S_S32x2048x16x1 (constant S_ .f32 0x42800000#32))) (broadcastInDim S32x2048x16x1 ![] bcast_S_S32x2048x16x1 (constant S_ .f32 0x358637BD#32))))))
    (broadcastInDim S32x2048x16x64 ![0, 1, 2, 3] bcast_S1x1x1x64_S32x2048x16x64_0_1_2_3 (broadcastInDim S1x1x1x64 ![3] bcast_S64_S1x1x1x64_3 G))

/-- An entry of the queries' normalised heads. -/
theorem normed16_at (r : FVec Ideal S32x2048x16x64 .f32) (G : FVec Ideal S64 .f32) (b : Fin 32) (s : Fin 2048) (h : Fin 16) (e : Fin 64) :
    normed16 r G (ix4 b s h e) = head (fun e => r (ix4 b s h e)) (fun e => G (ix1 e)) e := by
  pointwise [normed16]
  rfl

/-- A table of angles, for each of the queries' heads. -/
def table16 (C : FVec Ideal S2048x32 .f32) : FVec Ideal S32x2048x16x32 .f32 :=
  broadcastInDim S32x2048x16x32 ![0, 1, 2, 3] bcast_S1x2048x1x32_S32x2048x16x32_0_1_2_3 (broadcastInDim S1x2048x1x32 ![1, 3] bcast_S2048x32_S1x2048x1x32_1_3 C)

/-- The rotary embedding of the queries' heads. -/
def rope16 (t : FVec Ideal S32x2048x16x64 .f32) (C S : FVec Ideal S2048x32 .f32) : FVec Ideal S32x2048x16x64 .f32 :=
  concatenate S32x2048x16x64 3
    [⟨S32x2048x16x32, subf (mulf (extractStridedSlice S32x2048x16x32 ![0, 0, 0, 0] t slices_S32x2048x16x64_S32x2048x16x32_0_0_0_0) (table16 C))
      (mulf (extractStridedSlice S32x2048x16x32 ![0, 0, 0, 32] t slices_S32x2048x16x64_S32x2048x16x32_0_0_0_32) (table16 S))⟩,
    ⟨S32x2048x16x32, addf (mulf (extractStridedSlice S32x2048x16x32 ![0, 0, 0, 32] t slices_S32x2048x16x64_S32x2048x16x32_0_0_0_32) (table16 C))
      (mulf (extractStridedSlice S32x2048x16x32 ![0, 0, 0, 0] t slices_S32x2048x16x64_S32x2048x16x32_0_0_0_0) (table16 S))⟩]
    concatenates_S32x2048x16x32_S32x2048x16x32_S32x2048x16x64_d3

/-- An entry of the queries' rotated heads. -/
theorem rope16_at (t : FVec Ideal S32x2048x16x64 .f32) (C S : FVec Ideal S2048x32 .f32) (b : Fin 32) (s : Fin 2048) (h : Fin 16) (e : Fin 64) :
    rope16 t C S (ix4 b s h e) = rope (fun e => t (ix4 b s h e)) (fun l => C (ix2 s l)) (fun l => S (ix2 s l)) e := by
  pointwise [rope16, table16]
  unfold rope
  by_cases p : e.val < 32
  · rw [dif_pos p, dif_pos p]
    simp only [Nat.add_comm 32]
  · rw [dif_neg p, dif_neg p, show (⟨32 + (e.val - 32), by omega⟩ : Fin 64) = e from Fin.ext (by dsimp only; omega)]

/-- The queries: heads of the projection, normalised, rotated and laid side by side. -/
def out16 (r : FVec Ideal S65536x1536 .f32) (G : FVec Ideal S64 .f32) (C S : FVec Ideal S2048x32 .f32) : FVec Ideal S65536x1024 .bf16 :=
  truncf .bf16 (shapeCast S65536x1024 (rope16 (normed16 (split16 r) G) C S) shapeCasts_S32x2048x16x64_S65536x1024) bitsLt_bf16_f32

/-- An entry of the queries. -/
theorem out16_at (r : FVec Ideal S65536x1536 .f32) (G : FVec Ideal S64 .f32) (C S : FVec Ideal S2048x32 .f32) (i : Fin 65536) (j : Fin 1024) :
    out16 r G C S (ix2 i j) = rope (head (fun e => r (ix2 i ⟨0 + (j.val / 64 * 64 + e.val), by omega⟩)) fun e => G (ix1 e))
      (fun l => C (ix2 ⟨i.val % 2048, by omega⟩ l)) (fun l => S (ix2 ⟨i.val % 2048, by omega⟩ l)) ⟨j.val % 64, by omega⟩ := by
  have hi : (⟨i.val / 2048 * 2048 + i.val % 2048, by omega⟩ : Fin 65536) = i := Fin.ext (by dsimp only; omega)
  pointwise [out16]
  rw [rope16_at]
  simp only [normed16_at, split16_at, hi, Nat.zero_add]

/-- The keys as heads: batch, position, head, lane. -/
def split4 (r : FVec Ideal S65536x1536 .f32) : FVec Ideal S32x2048x4x64 .f32 :=
  shapeCast S32x2048x4x64 (extractStridedSlice S65536x256 ![0, 1024] r slices_S65536x1536_S65536x256_0_1024) shapeCasts_S65536x256_S32x2048x4x64

/-- An entry of the keys as heads. -/
theorem split4_at (r : FVec Ideal S65536x1536 .f32) (b : Fin 32) (s : Fin 2048) (h : Fin 4) (e : Fin 64) :
    split4 r (ix4 b s h e) = r (ix2 ⟨b.val * 2048 + s.val, by omega⟩ ⟨1024 + (h.val * 64 + e.val), by omega⟩) := by
  pointwise [split4]
  blk_ext

/-- RMS normalisation of each of the keys' heads, with gain. -/
def normed4 (r : FVec Ideal S32x2048x4x64 .f32) (G : FVec Ideal S64 .f32) : FVec Ideal S32x2048x4x64 .f32 :=
  mulf (mulf r (broadcastInDim S32x2048x4x64 ![0, 1, 2, 3] bcast_S32x2048x4x1_S32x2048x4x64_0_1_2_3 (Host.rsqrt (addf (Host.divf
    (broadcastInDim S32x2048x4x1 ![0, 1, 2] bcast_S32x2048x4_S32x2048x4x1_0_1_2 (Host.reduceAdd (mulf r r) (constant S_ .f32 0x00000000#32) reducesTo_S32x2048x4x64_S32x2048x4_d3 h_S_))
    (broadcastInDim S32x2048x4x1 ![] bcast_S_S32x2048x4x1 (constant S_ .f32 0x42800000#32))) (broadcastInDim S32x2048x4x1 ![] bcast_S_S32x2048x4x1 (constant S_ .f32 0x358637BD#32))))))
    (broadcastInDim S32x2048x4x64 ![0, 1, 2, 3] bcast_S1x1x1x64_S32x2048x4x64_0_1_2_3 (broadcastInDim S1x1x1x64 ![3] bcast_S64_S1x1x1x64_3 G))

/-- An entry of the keys' normalised heads. -/
theorem normed4_at (r : FVec Ideal S32x2048x4x64 .f32) (G : FVec Ideal S64 .f32) (b : Fin 32) (s : Fin 2048) (h : Fin 4) (e : Fin 64) :
    normed4 r G (ix4 b s h e) = head (fun e => r (ix4 b s h e)) (fun e => G (ix1 e)) e := by
  pointwise [normed4]
  rfl

/-- A table of angles, for each of the keys' heads. -/
def table4 (C : FVec Ideal S2048x32 .f32) : FVec Ideal S32x2048x4x32 .f32 :=
  broadcastInDim S32x2048x4x32 ![0, 1, 2, 3] bcast_S1x2048x1x32_S32x2048x4x32_0_1_2_3 (broadcastInDim S1x2048x1x32 ![1, 3] bcast_S2048x32_S1x2048x1x32_1_3 C)

/-- The rotary embedding of the keys' heads. -/
def rope4 (t : FVec Ideal S32x2048x4x64 .f32) (C S : FVec Ideal S2048x32 .f32) : FVec Ideal S32x2048x4x64 .f32 :=
  concatenate S32x2048x4x64 3
    [⟨S32x2048x4x32, subf (mulf (extractStridedSlice S32x2048x4x32 ![0, 0, 0, 0] t slices_S32x2048x4x64_S32x2048x4x32_0_0_0_0) (table4 C))
      (mulf (extractStridedSlice S32x2048x4x32 ![0, 0, 0, 32] t slices_S32x2048x4x64_S32x2048x4x32_0_0_0_32) (table4 S))⟩,
    ⟨S32x2048x4x32, addf (mulf (extractStridedSlice S32x2048x4x32 ![0, 0, 0, 32] t slices_S32x2048x4x64_S32x2048x4x32_0_0_0_32) (table4 C))
      (mulf (extractStridedSlice S32x2048x4x32 ![0, 0, 0, 0] t slices_S32x2048x4x64_S32x2048x4x32_0_0_0_0) (table4 S))⟩]
    concatenates_S32x2048x4x32_S32x2048x4x32_S32x2048x4x64_d3

/-- An entry of the keys' rotated heads. -/
theorem rope4_at (t : FVec Ideal S32x2048x4x64 .f32) (C S : FVec Ideal S2048x32 .f32) (b : Fin 32) (s : Fin 2048) (h : Fin 4) (e : Fin 64) :
    rope4 t C S (ix4 b s h e) = rope (fun e => t (ix4 b s h e)) (fun l => C (ix2 s l)) (fun l => S (ix2 s l)) e := by
  pointwise [rope4, table4]
  unfold rope
  by_cases p : e.val < 32
  · rw [dif_pos p, dif_pos p]
    simp only [Nat.add_comm 32]
  · rw [dif_neg p, dif_neg p, show (⟨32 + (e.val - 32), by omega⟩ : Fin 64) = e from Fin.ext (by dsimp only; omega)]

/-- The keys: heads of the projection, normalised, rotated and laid side by side. -/
def out4 (r : FVec Ideal S65536x1536 .f32) (G : FVec Ideal S64 .f32) (C S : FVec Ideal S2048x32 .f32) : FVec Ideal S65536x256 .bf16 :=
  truncf .bf16 (shapeCast S65536x256 (rope4 (normed4 (split4 r) G) C S) shapeCasts_S32x2048x4x64_S65536x256) bitsLt_bf16_f32

/-- An entry of the keys. -/
theorem out4_at (r : FVec Ideal S65536x1536 .f32) (G : FVec Ideal S64 .f32) (C S : FVec Ideal S2048x32 .f32) (i : Fin 65536) (j : Fin 256) :
    out4 r G C S (ix2 i j) = rope (head (fun e => r (ix2 i ⟨1024 + (j.val / 64 * 64 + e.val), by omega⟩)) fun e => G (ix1 e))
      (fun l => C (ix2 ⟨i.val % 2048, by omega⟩ l)) (fun l => S (ix2 ⟨i.val % 2048, by omega⟩ l)) ⟨j.val % 64, by omega⟩ := by
  have hi : (⟨i.val / 2048 * 2048 + i.val % 2048, by omega⟩ : Fin 65536) = i := Fin.ext (by dsimp only; omega)
  pointwise [out4]
  rw [rope4_at]
  simp only [normed4_at, split4_at, hi, Nat.zero_add]

/-- The values: the projection's last 256 columns. -/
def outv (r : FVec Ideal S65536x1536 .f32) : FVec Ideal S65536x256 .bf16 :=
  truncf .bf16 (extractStridedSlice S65536x256 ![0, 1280] r slices_S65536x1536_S65536x256_0_1280) bitsLt_bf16_f32

/-- An entry of the values. -/
theorem outv_at (r : FVec Ideal S65536x1536 .f32) (i : Fin 65536) (j : Fin 256) : outv r (ix2 i j) = r (ix2 i ⟨1280 + j.val, by omega⟩) := by
  pointwise [outv]
  blk_ext

end Cert.SwaProjRefIdeal.Value
-- ==== Proof.SwaProjClaim.lean ====
/- The projection of the sliding-window layers: the kernel's three result arrays and the reference's are the same arrays. -/
module
public import proofs.«01_k».proof.Proof.SwaProjFinal
public import proofs.«01_k».proof.Proof.SwaProjRef
@[expose] public section
set_option maxRecDepth 16384
noncomputable section
open Idealize.ShloMosaic Idealize.ShloMosaic.TcCoe Idealize.SL.Sem
namespace Cert.SwaProj.Value
open Cert.SwaProjIdeal Cert.SwaProjIdeal.Value Cert.SwaProjRefIdeal.Value Cert.ProjMath

variable (X : FVec Ideal S65536x1024 .f32) (A : FVec Ideal S1024 .f32) (W : FVec Ideal S1024x1536 .f32) (G : FVec Ideal S64 .f32) (C S : FVec Ideal S2048x32 .f32)

/-- The kernel's formula of the heads, over the reference's projection. -/
theorem heads_rows {n : ℕ} (o : ℕ) (ho : o + n ≤ 1536) (hn : n % 256 = 0) (i : Fin 65536) (j : Fin n) : HEADS o ho hn X A W G C S i j
    = rope (head (fun e => rows X A W (ix2 i ⟨o + (j.val / 64 * 64 + e.val), by omega⟩)) fun e => G (ix1 e))
      (fun l => C (ix2 ⟨i.val % 2048, by omega⟩ l)) (fun l => S (ix2 ⟨i.val % 2048, by omega⟩ l)) ⟨j.val % 64, by omega⟩ := by
  unfold HEADS
  simp only [rows_at]
  rfl

/-- The queries: the kernel's formula is the reference's array. -/
theorem q_eq : (fun y : S65536x1024.Idx => HEADS (n := 1024) 0 (by omega) (by omega) X A W G C S (y 0) (y 1)) = out16 (rows X A W) G C S := by
  funext y
  have hy : y = ix2 (y 0) (y 1) := by blk_ext
  rw [hy]
  refine Eq.trans ?_ (out16_at (rows X A W) G C S (y 0) (y 1)).symm
  exact heads_rows X A W G C S _ _ _ (y 0) (y 1)

/-- The keys: likewise. -/
theorem k_eq : (fun y : S65536x256.Idx => HEADS (n := 256) 1024 (by omega) (by omega) X A W G C S (y 0) (y 1)) = out4 (rows X A W) G C S := by
  funext y
  have hy : y = ix2 (y 0) (y 1) := by blk_ext
  rw [hy]
  refine Eq.trans ?_ (out4_at (rows X A W) G C S (y 0) (y 1)).symm
  exact heads_rows X A W G C S _ _ _ (y 0) (y 1)

/-- The values: likewise. -/
theorem v_eq : (fun y : S65536x256.Idx => proj (fun n => X (ix2 (y 0) n)) (fun n => A (ix1 n)) (fun d (k : Fin 256) => W (ix2 d ⟨1280 + k.val, by omega⟩)) (y 1))
    = outv (rows X A W) := by
  funext y
  have hy : y = ix2 (y 0) (y 1) := by blk_ext
  rw [hy]
  refine Eq.trans ?_ (outv_at (rows X A W) (y 0) (y 1)).symm
  exact (rows_at X A W (y 0) ⟨1280 + (y 1).val, _⟩).symm

end Cert.SwaProj.Value
-- ==== Proof.MlaMath.lean ====
/- The arithmetic of the latent-attention projections: rows through low-rank products, and the normalisation and rotary
   embedding of a 192-wide head, once as the kernel lays it out and once as the formulas read. -/
module
public import proofs.«01_k».proof.Proof.ProjMath
@[expose] public section
noncomputable section
open Idealize.ShloMosaic Idealize.ShloMosaic.TcCoe
namespace Cert.MlaMath
open Cert.ProjMath

/-- The small number added under the root. -/
abbrev eps : EReal := Ideal.ofBits .f32 0x358637BD#32

/-- Entry `j` of `t` over its root mean square, times the gain; `b` is the number of entries. -/
def rms {n : ℕ} (b : EReal) (t g : Fin n → EReal) (j : Fin n) : EReal :=
  t j * Ideal.rsqrt (Ideal.div (∑ k, t k * t k) b + eps) * g j

/-- A row times a matrix. -/
def lin {n k : ℕ} (t : Fin n → EReal) (w : Fin n → Fin k → EReal) (j : Fin k) : EReal := ∑ d, t d * w d j

/-- The normalised row `x` times a matrix. -/
def first {k : ℕ} (x a : Fin 1024 → EReal) (w : Fin 1024 → Fin k → EReal) : Fin k → EReal :=
  lin (rms (Ideal.ofBits .f32 0x44800000#32) x a) w

/-- A row through a 384-wide bottleneck: the queries. -/
def qrow {k : ℕ} (x a : Fin 1024 → EReal) (wa : Fin 1024 → Fin 384 → EReal) (an : Fin 384 → EReal) (wb : Fin 384 → Fin k → EReal) : Fin k → EReal :=
  lin (rms (Ideal.ofBits .f32 0x43C00000#32) (first x a wa) an) wb

/-- A row through a 256-wide bottleneck: keys and values. -/
def kvrow {k : ℕ} (x a : Fin 1024 → EReal) (wa : Fin 1024 → Fin 256 → EReal) (an : Fin 256 → EReal) (wb : Fin 256 → Fin k → EReal) : Fin k → EReal :=
  lin (rms (Ideal.ofBits .f32 0x43800000#32) (first x a wa) an) wb

/-- One over the root of the mean over 192 entries whose squares sum to `s`. -/
def inv (s : EReal) : EReal := Ideal.rsqrt (s * (((1 / 192 : ℝ)) : EReal) + eps)

/-- The factor of the queries: one over the root of 192 and the logarithm of 2. -/
def sc : EReal := (((Real.sqrt 192)⁻¹ * (Real.log 2)⁻¹ : ℝ) : EReal)

/-- The 128 lanes of `t` from place `o` on. -/
def part {n : ℕ} (t : Fin n → EReal) (o : ℕ) (h : o + 128 ≤ n) (l : Fin 128) : EReal := t ⟨o + l.val, by omega⟩

/-- A head as the kernel lays it out: 128 lanes `qa` without embedding, then 128 lanes `qb` with their partners `qp`, each with
    its part of the gain, all times `r`. -/
def lanes (qa qb qp ga gb gp c s : Fin 128 → EReal) (r : EReal) (e : Fin 256) : EReal :=
  if p : e.val < 128 then qa ⟨e.val, p⟩ * r * ga ⟨e.val, p⟩
  else (qb ⟨e.val - 128, by omega⟩ * gb ⟨e.val - 128, by omega⟩ * c ⟨e.val - 128, by omega⟩
    + qp ⟨e.val - 128, by omega⟩ * gp ⟨e.val - 128, by omega⟩ * s ⟨e.val - 128, by omega⟩) * r

/-- A head as the formulas read: normalised, its last 64 entries through the rotary embedding, filled up with zeros to 256. -/
def rotated (t g : Fin 192 → EReal) (cos sin : Fin 32 → EReal) (e : Fin 256) : EReal :=
  if p : e.val < 128 then rms (Ideal.ofBits .f32 0x43400000#32) t g ⟨e.val, by omega⟩
  else if p : e.val < 192 then rope (fun k => rms (Ideal.ofBits .f32 0x43400000#32) t g ⟨128 + k.val, by omega⟩) cos sin ⟨e.val - 128, by omega⟩
  else 0

/-- A query head as the kernel computes it, from a row of eight heads of 384 lanes. -/
def kq (t : Fin 3072 → EReal) (g : Fin 384 → EReal) (c s : Fin 128 → EReal) (j : Fin 2048) : EReal :=
  lanes (part t (j.val / 256 * 384) (by omega)) (part t (j.val / 256 * 384 + 128) (by omega)) (part t (j.val / 256 * 384 + 256) (by omega))
    (part g 0 (by omega)) (part g 128 (by omega)) (part g 256 (by omega)) c s
    (inv (∑ l, (part t (j.val / 256 * 384) (by omega) l * part t (j.val / 256 * 384) (by omega) l
      + part t (j.val / 256 * 384 + 128) (by omega) l * part t (j.val / 256 * 384 + 128) (by omega) l)) * sc) ⟨j.val % 256, by omega⟩

/-- A key head as the kernel computes it, from a row of eight heads of 256 lanes and the 512 lanes the heads share. -/
def kk (t : Fin 2048 → EReal) (u : Fin 512 → EReal) (g : Fin 384 → EReal) (c s : Fin 128 → EReal) (j : Fin 2048) : EReal :=
  lanes (part t (j.val / 256 * 256) (by omega)) (part u 256 (by omega)) (part u 384 (by omega))
    (part g 0 (by omega)) (part g 128 (by omega)) (part g 256 (by omega)) c s
    (inv ((∑ l, part t (j.val / 256 * 256) (by omega) l * part t (j.val / 256 * 256) (by omega) l)
      + ∑ l, part u 256 (by omega) l * part u 256 (by omega) l)) ⟨j.val % 256, by omega⟩

/-- `1024`, from its bits. -/
theorem bits1024 : Ideal.ofBits .f32 0x44800000#32 = ((1024 : ℝ) : EReal) := by
  simp [Ideal.ofBits, Ideal.ieee, -EReal.coe_mul]; norm_num

/-- `384`, from its bits. -/
theorem bits384 : Ideal.ofBits .f32 0x43C00000#32 = ((384 : ℝ) : EReal) := by
  simp [Ideal.ofBits, Ideal.ieee, -EReal.coe_mul]; norm_num

/-- `256`, from its bits. -/
theorem bits256 : Ideal.ofBits .f32 0x43800000#32 = ((256 : ℝ) : EReal) := by
  simp [Ideal.ofBits, Ideal.ieee, -EReal.coe_mul]; norm_num

/-- `192`, from its bits. -/
theorem bits192 : Ideal.ofBits .f32 0x43400000#32 = ((192 : ℝ) : EReal) := by
  simp [Ideal.ofBits, Ideal.ieee, -EReal.coe_mul]; norm_num

/-- `2`, from its bits. -/
theorem bits2 : Ideal.ofBits .f32 0x40000000#32 = ((2 : ℝ) : EReal) := by
  simp [Ideal.ofBits, Ideal.ieee, -EReal.coe_mul]; norm_num

/-- One, from its bits. -/
theorem bits1 : Ideal.ofBits .bf16 0x3F80#16 = 1 := by
  simp [Ideal.ofBits, Ideal.ieee, -EReal.coe_mul]; norm_num

/-- The reciprocal of `1024`, from its bits. -/
theorem bits1024_inv : Ideal.ofBits .f32 0x3A800000#32 = ((1 / 1024 : ℝ) : EReal) := by
  simp [Ideal.ofBits, Ideal.ieee, -EReal.coe_mul]; norm_num

/-- The reciprocal of `256`, from its bits. -/
theorem bits256_inv : Ideal.ofBits .f32 0x3B800000#32 = ((1 / 256 : ℝ) : EReal) := by
  simp [Ideal.ofBits, Ideal.ieee, -EReal.coe_mul]; norm_num

/-- The small number is above zero. -/
theorem eps_pos : 0 < eps := by
  unfold eps
  simp [Ideal.ofBits, Ideal.ieee, -EReal.coe_mul]

/-- A quotient by `1024` is a product. -/
theorem div1024 (x : EReal) : Ideal.div x (Ideal.ofBits .f32 0x44800000#32) = x * Ideal.ofBits .f32 0x3A800000#32 := by
  rw [bits1024, bits1024_inv, Ideal.div_coe (by norm_num : (1024 : ℝ) ≠ 0)]

/-- A quotient by `384` is a product. -/
theorem div384 (x : EReal) : Ideal.div x (Ideal.ofBits .f32 0x43C00000#32) = x * ((1 / 384 : ℝ) : EReal) := by
  rw [bits384, Ideal.div_coe (by norm_num : (384 : ℝ) ≠ 0)]

/-- A quotient by `256` is a product. -/
theorem div256 (x : EReal) : Ideal.div x (Ideal.ofBits .f32 0x43800000#32) = x * Ideal.ofBits .f32 0x3B800000#32 := by
  rw [bits256, bits256_inv, Ideal.div_coe (by norm_num : (256 : ℝ) ≠ 0)]

/-- A quotient by `192` is a product. -/
theorem div192 (x : EReal) : Ideal.div x (Ideal.ofBits .f32 0x43400000#32) = x * ((1 / 192 : ℝ) : EReal) := by
  rw [bits192, Ideal.div_coe (by norm_num : (192 : ℝ) ≠ 0)]

/-- The quotients by the root of 192 and by the logarithm of 2 are one product. -/
theorem div_sc (x : EReal) : Ideal.div (Ideal.div x (Ideal.sqrt (Ideal.ofBits .f32 0x43400000#32))) (Ideal.log (Ideal.ofBits .f32 0x40000000#32)) = x * sc := by
  have h1 : Real.sqrt 192 ≠ 0 := by positivity
  have h2 : Real.log 2 ≠ 0 := (Real.log_pos (by norm_num)).ne'
  rw [bits192, bits2, Ideal.sqrt_coe, Ideal.log_coe, if_neg (by norm_num), if_neg (by norm_num), Ideal.div_coe h1, Ideal.div_coe h2, mul_assoc, sc,
    ← EReal.coe_mul, one_div, one_div]

/-- One over the root of a positive number is neither negative nor infinite. -/
theorem rsqrt_real {y : EReal} (h : 0 < y) : 0 ≤ Ideal.rsqrt y ∧ Ideal.rsqrt y ≠ ⊤ := by
  induction y using EReal.rec with
  | bot => simp at h
  | top => simp
  | coe r =>
    have hr : 0 < r := by exact_mod_cast h
    rw [Ideal.rsqrt_coe, if_neg (not_lt.mpr hr.le), if_neg hr.ne']
    exact ⟨by exact_mod_cast (inv_nonneg.mpr (Real.sqrt_nonneg r)), EReal.coe_ne_top _⟩

/-- The root's reciprocal of a mean of squares is neither negative nor infinite. -/
theorem inv_real {s : EReal} (h : 0 ≤ s) : 0 ≤ inv s ∧ inv s ≠ ⊤ :=
  rsqrt_real (lt_of_lt_of_le eps_pos (le_add_of_nonneg_left (mul_nonneg h (by exact_mod_cast (by norm_num : (0 : ℝ) ≤ 1 / 192)))))

/-- A sum over a head's 192 entries, from 128 lanes and 128 more of which the last 64 are zero. -/
theorem sum_head (t : Fin 192 → EReal) (qa qb : Fin 128 → EReal) (ha : ∀ l, qa l = t ⟨l.val, by omega⟩)
    (hb : ∀ l, qb l = if p : l.val < 64 then t ⟨128 + l.val, by omega⟩ else 0) :
    (∑ l, qa l * qa l) + ∑ l, qb l * qb l = ∑ k, t k * t k := by
  have e1 := @Fin.sum_univ_add EReal _ 128 64 fun k => t k * t k
  have e2 := @Fin.sum_univ_add EReal _ 64 64 fun k => qb k * qb k
  rw [show (∑ k, t k * t k) = _ from e1, show (∑ l, qb l * qb l) = _ from e2]
  have e3 : ∀ i : Fin 64, qb (Fin.natAdd 64 i) = 0 := fun i => by rw [hb, dif_neg (by simp)]
  have e4 : ∀ i : Fin 64, qb (Fin.castAdd 64 i) = t (Fin.natAdd 128 i) := fun i => by
    rw [hb, dif_pos (by simp)]
    exact congrArg t (Fin.ext (by simp))
  simp only [e3, e4, mul_zero, Finset.sum_const_zero, add_zero, ha]
  rfl

/-- The common factor of a head leaves its lanes. -/
theorem lanes_mul (qa qb qp ga gb gp c s : Fin 128 → EReal) (r k : EReal) (e : Fin 256) :
    lanes qa qb qp ga gb gp c s (r * k) e = lanes qa qb qp ga gb gp c s r e * k := by
  unfold lanes
  split
  · ac_rfl
  · ac_rfl

/-- The kernel's head is the formulas' head. -/
theorem lanes_eq (t g : Fin 192 → EReal) (cos sin : Fin 32 → EReal) (qa qb qp ga gb gp c s : Fin 128 → EReal)
    (ha : ∀ l, qa l = t ⟨l.val, by omega⟩) (hb : ∀ l, qb l = if p : l.val < 64 then t ⟨128 + l.val, by omega⟩ else 0)
    (hp : ∀ l, qp l = if p : l.val < 64 then t ⟨128 + (l.val + 32) % 64, by omega⟩ else 0)
    (ga' : ∀ l, ga l = g ⟨l.val, by omega⟩) (gb' : ∀ l, gb l = if p : l.val < 64 then g ⟨128 + l.val, by omega⟩ else 0)
    (gp' : ∀ l, gp l = if p : l.val < 64 then g ⟨128 + (l.val + 32) % 64, by omega⟩ else 0)
    (hc : ∀ l, l.val < 64 → c l = cos ⟨l.val % 32, by omega⟩)
    (hs : ∀ l, l.val < 64 → s l = if l.val < 32 then -sin ⟨l.val % 32, by omega⟩ else sin ⟨l.val % 32, by omega⟩)
    (e : Fin 256) : lanes qa qb qp ga gb gp c s (inv (∑ k, t k * t k)) e = rotated t g cos sin e := by
  have hr : ∀ j, rms (Ideal.ofBits .f32 0x43400000#32) t g j = t j * inv (∑ k, t k * t k) * g j := fun j => by
    unfold rms inv
    rw [div192]
  obtain ⟨h0, h1⟩ := inv_real (Finset.sum_nonneg fun k (_ : k ∈ Finset.univ) => sq_nonneg (t k))
  unfold lanes rotated
  split
  · rw [hr, ha, ga']
  · next p =>
    rw [EReal.right_distrib_of_nonneg_of_ne_top h0 h1]
    split
    · next p' =>
      have q : e.val - 128 < 64 := by omega
      rw [hb, hp, gb', gp', hc _ q, hs _ q, dif_pos q, dif_pos q, dif_pos q, dif_pos q]
      unfold rope
      simp only [hr]
      by_cases u : e.val - 128 < 32
      · rw [if_pos u, dif_pos u, mul_neg, neg_mul, ← sub_eq_add_neg]
        rw [show (⟨(e.val - 128) % 32, by omega⟩ : Fin 32) = ⟨e.val - 128, u⟩ from Fin.ext (by dsimp only; omega),
          show (⟨128 + (e.val - 128 + 32) % 64, by omega⟩ : Fin 192) = ⟨128 + (e.val - 128 + 32), by omega⟩ from Fin.ext (by dsimp only; omega)]
        congr 1 <;> ac_rfl
      · rw [if_neg u, dif_neg u]
        rw [show (⟨(e.val - 128) % 32, by omega⟩ : Fin 32) = ⟨e.val - 128 - 32, by omega⟩ from Fin.ext (by dsimp only; omega),
          show (⟨128 + (e.val - 128 + 32) % 64, by omega⟩ : Fin 192) = ⟨128 + (e.val - 128 - 32), by omega⟩ from Fin.ext (by dsimp only; omega)]
        congr 1 <;> ac_rfl
    · next p' =>
      have q : ¬ e.val - 128 < 64 := by omega
      rw [hb, hp, dif_neg q, dif_neg q]
      simp only [zero_mul, add_zero]

end Cert.MlaMath
-- ==== Proof.MlaProjBlock.lean ====
/- The projection kernel of the latent-attention layers: what one visit writes. -/
module
public import proofs.«01_k».proof.Proof.Gen.MlaProjIdeal.Value
public import proofs.«01_k».proof.Proof.MlaMath
@[expose] public section
set_option maxRecDepth 16384
noncomputable section
open Idealize.ShloMosaic Idealize.ShloMosaic.TcCoe Idealize.SL.Sem
open Idealize.ShloMosaic.Pipeline (Dat)
namespace Cert.MlaProjIdeal.Value
open Cert.MlaProjIdeal Cert.MlaProjIdeal.Gen Cert.MlaMath

/-- The constant named for the mean over 384 entries. -/
theorem inv_384 : Named.named (F := Ideal) (φ := .f32) κ "inv_384" 0x3B2AAAAB#32 = ((1 / 384 : ℝ) : EReal) :=
  IdealRules.named_const.ideal_named_scalar _ _ _ _ rfl

/-- The constant named for the mean over 192 entries. -/
theorem inv_192 : Named.named (F := Ideal) (φ := .f32) κ "inv_192" 0x3BAAAAAB#32 = ((1 / 192 : ℝ) : EReal) :=
  IdealRules.named_const.ideal_named_scalar _ _ _ _ rfl

/-- The constant named for the factor of the queries. -/
theorem scale_sc : Named.named (F := Ideal) (φ := .f32) κ "scale" 0x3DD53B95#32 = sc :=
  IdealRules.named_const.ideal_named_scalar _ _ _ _ rfl

/-- Rows over their root mean square, times the gain. -/
theorem normed_at (x : FVec Ideal S256x1024 .f32) (a : FVec Ideal S1x1024 .f32) (o : FVec Ideal S1024x128 .bf16) (i : Fin 256) (n : Fin 1024)
    (ho : ∀ k l, o (ix2 k l) = 1) :
    k0_pay16 (F := Ideal) x (k0_pay14 (F := Ideal) a) (k0_pay15 (F := Ideal) x) o (ix2 i n)
      = rms (Ideal.ofBits .f32 0x44800000#32) (fun n => x (ix2 i n)) (fun n => a (ix2 0 n)) n := by
  pointwise [k0_pay16, k0_pay14, k0_pay15]
  simp only [ho, mul_one, dite_eq_ite, ite_self]
  unfold rms
  rw [div1024]

/-- The product of the normalised rows with the queries' first weights. -/
def low (x : FVec Ideal S256x1024 .f32) (a : FVec Ideal S1x1024 .f32) (o : FVec Ideal S1024x128 .bf16) (w : FVec Ideal S1024x384 .bf16) : FVec Ideal S256x384 .f32 :=
  matmul dot_S256x1024_S1024x384_S256x384_1_0_0_1_n_n none (k0_pay16 (F := Ideal) x (k0_pay14 (F := Ideal) a) (k0_pay15 (F := Ideal) x) o)
    (shapeCast S1024x384 w shapeCasts_S1024x384_S1024x384) (constant S256x384 .f32 0x00000000#32)

/-- An entry of the queries' bottleneck. -/
theorem low_at (x : FVec Ideal S256x1024 .f32) (a : FVec Ideal S1x1024 .f32) (o : FVec Ideal S1024x128 .bf16) (w : FVec Ideal S1024x384 .bf16)
    (i : Fin 256) (j : Fin 384) (ho : ∀ k l, o (ix2 k l) = 1) :
    low x a o w (ix2 i j) = first (fun n => x (ix2 i n)) (fun n => a (ix2 0 n)) (fun d j => w (ix2 d j)) j := by
  pointwise [low]
  simp only [normed_at _ _ _ _ _ ho]
  rfl

/-- The queries' bottleneck over its root mean square, times the gain. -/
def mid (t : FVec Ideal S256x384 .f32) (g : FVec Ideal S1x384 .f32) (o : FVec Ideal S384x128 .bf16) : FVec Ideal S256x384 .bf16 :=
  truncf .bf16 (mulf (mulf t (let r : FVec Ideal S256x128 .f32 := rsqrt (addf (mulf
      (matmul dot_S256x384_S384x128_S256x128_1_0_0_1_n_n none (truncf .bf16 (mulf t t) bitsLt_bf16_f32) (shapeCast S384x128 o shapeCasts_S384x128_S384x128)
        (constant S256x128 .f32 0x00000000#32)) (broadcast S256x128 (Named.named (F := Ideal) (φ := .f32) κ "inv_384" 0x3B2AAAAB#32)))
      (broadcast S256x128 (Scalar.ofBits .f32 0x358637BD#32)))
    concatenate S256x384 1 [⟨S256x128, r⟩, ⟨S256x128, r⟩, ⟨S256x128, r⟩] concatenates_S256x128_S256x128_S256x128_S256x384_d1))
    (broadcastTo S256x384 (shapeCast S1x384 g shapeCasts_S1x384_S1x384) broadcasts_S1x384_S256x384)) bitsLt_bf16_f32

/-- An entry of the normalised bottleneck. -/
theorem mid_at (t : FVec Ideal S256x384 .f32) (g : FVec Ideal S1x384 .f32) (o : FVec Ideal S384x128 .bf16) (i : Fin 256) (j : Fin 384)
    (ho : ∀ k l, o (ix2 k l) = 1) :
    mid t g o (ix2 i j) = rms (Ideal.ofBits .f32 0x43C00000#32) (fun n => t (ix2 i n)) (fun n => g (ix2 0 n)) j := by
  pointwise [mid]
  simp only [ho, mul_one, dite_eq_ite, ite_self, inv_384]
  unfold rms
  rw [div384]

/-- A sub-block's queries: eight heads of 384 lanes. -/
def qf (x : FVec Ideal S256x1024 .f32) (a : FVec Ideal S1x1024 .f32) (o : FVec Ideal S1024x128 .bf16) (w : FVec Ideal S1024x384 .bf16)
    (g : FVec Ideal S1x384 .f32) (o' : FVec Ideal S384x128 .bf16) (w' : FVec Ideal S384x3072 .bf16) : FVec Ideal S256x3072 .f32 :=
  matmul dot_S256x384_S384x3072_S256x3072_1_0_0_1_n_n none (mid (low x a o w) g o') (shapeCast S384x3072 w' shapeCasts_S384x3072_S384x3072)
    (constant S256x3072 .f32 0x00000000#32)

/-- An entry of a sub-block's queries, from the entries of its loads. -/
theorem qf_at (x : FVec Ideal S256x1024 .f32) (a : FVec Ideal S1x1024 .f32) (o : FVec Ideal S1024x128 .bf16) (w : FVec Ideal S1024x384 .bf16)
    (g : FVec Ideal S1x384 .f32) (o' : FVec Ideal S384x128 .bf16) (w' : FVec Ideal S384x3072 .bf16) (i : Fin 256) (j : Fin 3072)
    (X A : Fin 1024 → EReal) (W : Fin 1024 → Fin 384 → EReal) (G : Fin 384 → EReal) (W' : Fin 384 → Fin 3072 → EReal)
    (hx : ∀ n, x (ix2 i n) = X n) (ha : ∀ n, a (ix2 0 n) = A n) (ho : ∀ k l, o (ix2 k l) = 1) (hw : ∀ d k, w (ix2 d k) = W d k)
    (hg : ∀ n, g (ix2 0 n) = G n) (ho' : ∀ k l, o' (ix2 k l) = 1) (hw' : ∀ d k, w' (ix2 d k) = W' d k) :
    qf x a o w g o' w' (ix2 i j) = qrow X A W G W' j := by
  pointwise [qf]
  simp only [mid_at _ _ _ _ _ ho', low_at _ _ _ _ _ _ ho, hx, ha, hw, hg, hw']
  rfl

/-- A sub-block's product with the first weights of the keys and values: the bottleneck and the lanes the heads share. -/
def shared (x : FVec Ideal S256x1024 .f32) (a : FVec Ideal S1x1024 .f32) (o : FVec Ideal S1024x128 .bf16) (w : FVec Ideal S1024x512 .bf16) : FVec Ideal S256x512 .f32 :=
  matmul dot_S256x1024_S1024x512_S256x512_1_0_0_1_n_n none (k0_pay16 (F := Ideal) x (k0_pay14 (F := Ideal) a) (k0_pay15 (F := Ideal) x) o)
    (shapeCast S1024x512 w shapeCasts_S1024x512_S1024x512) (constant S256x512 .f32 0x00000000#32)

/-- An entry of that product, from the entries of the loads. -/
theorem shared_at (x : FVec Ideal S256x1024 .f32) (a : FVec Ideal S1x1024 .f32) (o : FVec Ideal S1024x128 .bf16) (w : FVec Ideal S1024x512 .bf16)
    (i : Fin 256) (j : Fin 512) (X A : Fin 1024 → EReal) (W : Fin 1024 → Fin 512 → EReal)
    (hx : ∀ n, x (ix2 i n) = X n) (ha : ∀ n, a (ix2 0 n) = A n) (ho : ∀ k l, o (ix2 k l) = 1) (hw : ∀ d k, w (ix2 d k) = W d k) :
    shared x a o w (ix2 i j) = first X A W j := by
  pointwise [shared]
  simp only [normed_at _ _ _ _ _ ho, hx, ha, hw]
  rfl

/-- The bottleneck of the keys and values over its root mean square, times the gain. -/
def midkv (t : FVec Ideal S256x256 .f32) (g : FVec Ideal S1x256 .f32) (o : FVec Ideal S256x128 .bf16) : FVec Ideal S256x256 .bf16 :=
  truncf .bf16 (mulf (mulf t (let r : FVec Ideal S256x128 .f32 := rsqrt (addf (mulf
      (matmul dot_S256x256_S256x128_S256x128_1_0_0_1_n_n none (truncf .bf16 (mulf t t) bitsLt_bf16_f32) (shapeCast S256x128 o shapeCasts_S256x128_S256x128)
        (constant S256x128 .f32 0x00000000#32)) (broadcast S256x128 (Scalar.ofBits .f32 0x3B800000#32)))
      (broadcast S256x128 (Scalar.ofBits .f32 0x358637BD#32)))
    concatenate S256x256 1 [⟨S256x128, r⟩, ⟨S256x128, r⟩] concatenates_S256x128_S256x128_S256x256_d1))
    (broadcastTo S256x256 (shapeCast S1x256 g shapeCasts_S1x256_S1x256) broadcasts_S1x256_S256x256)) bitsLt_bf16_f32

/-- An entry of the normalised bottleneck. -/
theorem midkv_at (t : FVec Ideal S256x256 .f32) (g : FVec Ideal S1x256 .f32) (o : FVec Ideal S256x128 .bf16) (i j : Fin 256)
    (ho : ∀ k l, o (ix2 k l) = 1) :
    midkv t g o (ix2 i j) = rms (Ideal.ofBits .f32 0x43800000#32) (fun n => t (ix2 i n)) (fun n => g (ix2 0 n)) j := by
  pointwise [midkv]
  simp only [ho, mul_one, dite_eq_ite, ite_self]
  unfold rms
  rw [div256]

/-- A sub-block's keys and values: eight heads of 256 lanes. -/
def kv (t : FVec Ideal S256x512 .f32) (g : FVec Ideal S1x256 .f32) (o : FVec Ideal S256x128 .bf16) (w : FVec Ideal S256x2048 .bf16) : FVec Ideal S256x2048 .f32 :=
  matmul dot_S256x256_S256x2048_S256x2048_1_0_0_1_n_n none (midkv (extractStridedSlice S256x256 ![0, 0] t slices_S256x512_o0_0_S256x256) g o)
    (shapeCast S256x2048 w shapeCasts_S256x2048_S256x2048) (constant S256x2048 .f32 0x00000000#32)

/-- An entry of a sub-block's keys and values, from the entries of the product and of its loads. -/
theorem kv_at (t : FVec Ideal S256x512 .f32) (g : FVec Ideal S1x256 .f32) (o : FVec Ideal S256x128 .bf16) (w : FVec Ideal S256x2048 .bf16)
    (i : Fin 256) (j : Fin 2048) (X A : Fin 1024 → EReal) (W : Fin 1024 → Fin 512 → EReal) (G : Fin 256 → EReal) (W' : Fin 256 → Fin 2048 → EReal)
    (ht : ∀ j, t (ix2 i j) = first X A W j) (hg : ∀ n, g (ix2 0 n) = G n) (ho : ∀ k l, o (ix2 k l) = 1) (hw : ∀ d k, w (ix2 d k) = W' d k) :
    kv t g o w (ix2 i j) = kvrow X A (fun d k => W d ⟨k.val, by omega⟩) G W' j := by
  have e : ∀ k : Fin 256, extractStridedSlice S256x256 ![0, 0] t slices_S256x512_o0_0_S256x256 (ix2 i k) = first X A W ⟨k.val, by omega⟩ := fun k => by
    refine Eq.trans ?_ (ht ⟨k.val, by omega⟩)
    pointwise
    blk_ext
  pointwise [kv]
  simp only [midkv_at _ _ _ _ _ ho, hg, hw, e]
  rfl

/-- The sums of squares of two groups of lanes. -/
def sq2 (a b : FVec Ideal S256x128 .f32) : FVec Ideal S256 .f32 :=
  multiReduction .add [1] S256 (addf (mulf a a) (mulf b b)) 0x00000000#32 reduces_S256x128_S256 (.inl rfl) rfl

/-- An entry of the sums. -/
theorem sq2_at (a b : FVec Ideal S256x128 .f32) (i : Fin 256) : sq2 a b (ix1 i) = ∑ l, (a (ix2 i l) * a (ix2 i l) + b (ix2 i l) * b (ix2 i l)) := by
  pointwise [sq2]

/-- The factor of a query head. -/
theorem factor_at (s : FVec Ideal S256 .f32) (i : Fin 256) : k0_pay30 (F := Ideal) s (ix2 i 0) = inv (s (ix1 i)) * sc := by
  pointwise [k0_pay30]
  rw [inv_192, scale_sc]
  rfl

/-- One store of the queries, the 128 lanes without embedding. -/
theorem q_left (o o' : ℕ) (h : S256x3072.Slices ![0, o] S256x128) (h' : S256x3072.Slices ![0, o'] S256x128) (g : FVec Ideal S1x384 .f32)
    (t : FVec Ideal S256x3072 .f32) (x : S256x128.Idx) (y : Fin 2048) (T : Fin 3072 → EReal) (G : Fin 384 → EReal) (C S : Fin 128 → EReal)
    (ht : ∀ j, t (ix2 (x 0) j) = T j) (hg : ∀ n, g (ix2 0 n) = G n) (ho : o = y.val / 256 * 384) (ho' : o' = y.val / 256 * 384 + 128)
    (hy : (x 1).val = y.val % 256) :
    k0_pay31 (F := Ideal) (k0_pay5 (F := Ideal) g) (extractStridedSlice S256x128 ![0, o] t h)
      (sq2 (extractStridedSlice S256x128 ![0, o] t h) (extractStridedSlice S256x128 ![0, o'] t h')) x = kq T G C S y := by
  subst ho ho'
  obtain ⟨i, l, rfl⟩ : ∃ (i : Fin 256) (l : Fin 128), x = ix2 i l := ⟨x 0, x 1, by blk_ext⟩
  replace ht : ∀ j, t (ix2 i j) = T j := ht
  replace hy : l.val = y.val % 256 := hy
  have p : y.val % 256 < 128 := by omega
  pointwise [k0_pay31, k0_pay5]
  rw [factor_at, sq2_at]
  pointwise
  simp only [ht, hg]
  unfold kq lanes
  rw [dif_pos p]
  simp only [part, Nat.zero_add, ← hy]

/-- One store of the queries, the 64 embedded lanes and the filling. -/
theorem q_right (o o' o'' : ℕ) (h : S256x3072.Slices ![0, o] S256x128) (h' : S256x3072.Slices ![0, o'] S256x128) (h'' : S256x3072.Slices ![0, o''] S256x128)
    (g : FVec Ideal S1x384 .f32) (t : FVec Ideal S256x3072 .f32) (c s : FVec Ideal S256x128 .f32) (x : S256x128.Idx) (y : Fin 2048)
    (T : Fin 3072 → EReal) (G : Fin 384 → EReal) (C S : Fin 128 → EReal)
    (ht : ∀ j, t (ix2 (x 0) j) = T j) (hg : ∀ n, g (ix2 0 n) = G n) (hc : ∀ l, c (ix2 (x 0) l) = C l) (hs : ∀ l, s (ix2 (x 0) l) = S l)
    (ho : o = y.val / 256 * 384) (ho' : o' = y.val / 256 * 384 + 128) (ho'' : o'' = y.val / 256 * 384 + 256) (hy : 128 + (x 1).val = y.val % 256) :
    k0_pay32 (F := Ideal) (k0_pay5 (F := Ideal) g) (k0_pay21 (F := Ideal) c) (k0_pay22 (F := Ideal) s) (extractStridedSlice S256x128 ![0, o'] t h')
      (extractStridedSlice S256x128 ![0, o''] t h'')
      (sq2 (extractStridedSlice S256x128 ![0, o] t h) (extractStridedSlice S256x128 ![0, o'] t h')) x = kq T G C S y := by
  subst ho ho' ho''
  obtain ⟨i, l, rfl⟩ : ∃ (i : Fin 256) (l : Fin 128), x = ix2 i l := ⟨x 0, x 1, by blk_ext⟩
  replace ht : ∀ j, t (ix2 i j) = T j := ht
  replace hc : ∀ j, c (ix2 i j) = C j := hc
  replace hs : ∀ j, s (ix2 i j) = S j := hs
  replace hy : 128 + l.val = y.val % 256 := hy
  have p : ¬ y.val % 256 < 128 := by omega
  pointwise [k0_pay32, k0_pay5, k0_pay21, k0_pay22]
  rw [factor_at, sq2_at]
  pointwise
  simp only [ht, hg, hc, hs]
  unfold kq lanes
  rw [dif_neg p]
  have e : y.val % 256 - 128 = l.val := by omega
  simp only [part, Nat.zero_add, e]

/-- The sums of squares of one group of lanes. -/
def sq1 (a : FVec Ideal S256x128 .f32) : FVec Ideal S256x1 .f32 :=
  shapeCast S256x1 (multiReduction .add [1] S256 (mulf a a) 0x00000000#32 reduces_S256x128_S256 (.inl rfl) rfl) shapeCasts_S256_S256x1

/-- An entry of the sums. -/
theorem sq1_at (a : FVec Ideal S256x128 .f32) (i : Fin 256) : sq1 a (ix2 i 0) = ∑ l, a (ix2 i l) * a (ix2 i l) := by
  pointwise [sq1]

/-- The factor of a key head. -/
def kfactor (a : FVec Ideal S256x128 .f32) (ss : FVec Ideal S256x1 .f32) : FVec Ideal S256x1 .f32 :=
  rsqrt (addf (mulf (addf (sq1 a) ss) (broadcast S256x1 (Named.named (F := Ideal) (φ := .f32) κ "inv_192" 0x3BAAAAAB#32)))
    (broadcast S256x1 (Scalar.ofBits .f32 0x358637BD#32)))

/-- An entry of the factors. -/
theorem kfactor_at (a : FVec Ideal S256x128 .f32) (ss : FVec Ideal S256x1 .f32) (i : Fin 256) :
    kfactor a ss (ix2 i 0) = inv ((∑ l, a (ix2 i l) * a (ix2 i l)) + ss (ix2 i 0)) := by
  pointwise [kfactor]
  rw [inv_192, sq1_at]
  rfl

/-- The 128 lanes of the keys without embedding. -/
def kleft (g : FVec Ideal S1x384 .f32) (a : FVec Ideal S256x128 .f32) (ss : FVec Ideal S256x1 .f32) : FVec Ideal S256x128 .bf16 :=
  truncf .bf16 (mulf (mulf a (broadcastTo S256x128 (kfactor a ss) broadcasts_S256x1_S256x128))
    (broadcastTo S256x128 (extractStridedSlice S1x128 ![0, 0] (k0_pay6 (F := Ideal) g) slices_S1x384_o0_0_S1x128) broadcasts_S1x128_S256x128)) bitsLt_bf16_f32

/-- One store of the keys, the 128 lanes without embedding. -/
theorem k_left (o : ℕ) (h : S256x2048.Slices ![0, o] S256x128) (g : FVec Ideal S1x384 .f32) (t : FVec Ideal S256x2048 .f32) (u : FVec Ideal S256x512 .f32)
    (x : S256x128.Idx) (y : Fin 2048) (T : Fin 2048 → EReal) (U : Fin 512 → EReal) (G : Fin 384 → EReal) (C S : Fin 128 → EReal)
    (ht : ∀ j, t (ix2 (x 0) j) = T j) (hu : ∀ j, u (ix2 (x 0) j) = U j) (hg : ∀ n, g (ix2 0 n) = G n) (ho : o = y.val / 256 * 256)
    (hy : (x 1).val = y.val % 256) :
    kleft g (extractStridedSlice S256x128 ![0, o] t h) (k0_pay24 (F := Ideal) u) x = kk T U G C S y := by
  subst ho
  obtain ⟨i, l, rfl⟩ : ∃ (i : Fin 256) (l : Fin 128), x = ix2 i l := ⟨x 0, x 1, by blk_ext⟩
  replace ht : ∀ j, t (ix2 i j) = T j := ht
  replace hu : ∀ j, u (ix2 i j) = U j := hu
  replace hy : l.val = y.val % 256 := hy
  have p : y.val % 256 < 128 := by omega
  pointwise [kleft, k0_pay6]
  rw [kfactor_at]
  pointwise [k0_pay24, k0_pay23]
  simp only [ht, hu, hg]
  unfold kk lanes
  rw [dif_pos p]
  simp only [part, Nat.zero_add, ← hy]

/-- One store of the keys, the 64 embedded lanes and the filling. -/
theorem k_right (o : ℕ) (h : S256x2048.Slices ![0, o] S256x128) (g : FVec Ideal S1x384 .f32) (t : FVec Ideal S256x2048 .f32) (u : FVec Ideal S256x512 .f32)
    (c s : FVec Ideal S256x128 .f32) (x : S256x128.Idx) (y : Fin 2048) (T : Fin 2048 → EReal) (U : Fin 512 → EReal) (G : Fin 384 → EReal) (C S : Fin 128 → EReal)
    (ht : ∀ j, t (ix2 (x 0) j) = T j) (hu : ∀ j, u (ix2 (x 0) j) = U j) (hg : ∀ n, g (ix2 0 n) = G n) (hc : ∀ l, c (ix2 (x 0) l) = C l)
    (hs : ∀ l, s (ix2 (x 0) l) = S l) (ho : o = y.val / 256 * 256) (hy : 128 + (x 1).val = y.val % 256) :
    k0_pay36 (F := Ideal) (k0_pay25 (F := Ideal) (k0_pay6 (F := Ideal) g) u c s)
      (kfactor (extractStridedSlice S256x128 ![0, o] t h) (k0_pay24 (F := Ideal) u)) x = kk T U G C S y := by
  subst ho
  obtain ⟨i, l, rfl⟩ : ∃ (i : Fin 256) (l : Fin 128), x = ix2 i l := ⟨x 0, x 1, by blk_ext⟩
  replace ht : ∀ j, t (ix2 i j) = T j := ht
  replace hu : ∀ j, u (ix2 i j) = U j := hu
  replace hc : ∀ j, c (ix2 i j) = C j := hc
  replace hs : ∀ j, s (ix2 i j) = S j := hs
  replace hy : 128 + l.val = y.val % 256 := hy
  have p : ¬ y.val % 256 < 128 := by omega
  pointwise [k0_pay36]
  rw [kfactor_at]
  pointwise [k0_pay24, k0_pay25, k0_pay23, k0_pay6, k0_pay21, k0_pay22]
  simp only [ht, hu, hg, hc, hs]
  unfold kk lanes
  rw [dif_neg p]
  have e : y.val % 256 - 128 = l.val := by omega
  simp only [part, Nat.zero_add, e]

/-- One store of the values. -/
theorem v_at (o : ℕ) (h : S256x2048.Slices ![0, o] S256x128) (t : FVec Ideal S256x2048 .f32) (x : S256x128.Idx) (y : Fin 1024) (T : Fin 2048 → EReal)
    (ht : ∀ j, t (ix2 (x 0) j) = T j) (ho : o = y.val / 128 * 256 + 128) (hy : (x 1).val = y.val % 128) :
    truncf (F := Ideal) .bf16 (extractStridedSlice S256x128 ![0, o] t h) bitsLt_bf16_f32 x = T ⟨y.val / 128 * 256 + 128 + y.val % 128, by omega⟩ := by
  subst ho
  obtain ⟨i, l, rfl⟩ : ∃ (i : Fin 256) (l : Fin 128), x = ix2 i l := ⟨x 0, x 1, by blk_ext⟩
  replace ht : ∀ j, t (ix2 i j) = T j := ht
  replace hy : l.val = y.val % 128 := hy
  pointwise
  rw [ht]
  exact congrArg T (Fin.ext (by dsimp only; omega))

end Cert.MlaProjIdeal.Value
-- ==== Proof.MlaProjHost.lean ====
/- The projection kernel of the latent-attention layers: what the host hands it. -/
module
public import proofs.«01_k».proof.Proof.MlaProjBlock
@[expose] public section
set_option maxRecDepth 16384
noncomputable section
open Idealize.ShloMosaic Idealize.ShloMosaic.TcCoe Idealize.SL.Sem
open Idealize.ShloMosaic.Pipeline (Dat)
namespace Cert.MlaProjIdeal.Value
open Cert.MlaProjIdeal Cert.MlaProjIdeal.Gen Cert.MlaMath

/-- Two tables of 32 lanes side by side. -/
def both (a b : FVec Ideal S2048x32 .f32) : FVec Ideal S2048x64 .f32 :=
  shapeCast S2048x64 (broadcastInDim S1x2048x1x64 ![0, 1, 2, 3] bcast_S1x2048x1x64_S1x2048x1x64_0_1_2_3
    (shapeCast S1x2048x1x64 (concatenate S2048x64 1 [⟨S2048x32, a⟩, ⟨S2048x32, b⟩] concatenates_S2048x32_S2048x32_S2048x64_d1)
      shapeCasts_S2048x64_S1x2048x1x64)) shapeCasts_S1x2048x1x64_S2048x64

/-- An entry of two tables side by side. -/
theorem both_at (a b : FVec Ideal S2048x32 .f32) (k : Fin 2048) (l : Fin 64) :
    both a b (ix2 k l) = if l.val < 32 then a (ix2 k ⟨l.val % 32, by omega⟩) else b (ix2 k ⟨l.val % 32, by omega⟩) := by
  pointwise [both]
  split
  · exact congrArg a (congrArg (ix2 k) (Fin.ext (by dsimp only; omega)))
  · exact congrArg b (congrArg (ix2 k) (Fin.ext (by dsimp only; omega)))

/-- A table of 64 lanes filled up with zeros to 128. -/
def filled (t : FVec Ideal S2048x64 .f32) : FVec Ideal S2048x128 .f32 :=
  pad S2048x128 ![0, 0] ![0, 64] ![0, 0] t (sitofp (F := Ideal) .f32 (constantI S_ 32 0#32)) pads_S2048x64_S2048x128_000_0640 h_S_

/-- One of the first 64 lanes of a filled table. -/
theorem filled_at (t : FVec Ideal S2048x64 .f32) (k : Fin 2048) (l : Fin 128) (h : l.val < 64) : filled t (ix2 k l) = t (ix2 k ⟨l.val, h⟩) := by
  pointwise [filled]
  rw [dif_pos h]

/-- A table of zeros. -/
def zeros : FVec Ideal S2048x32 .f32 := broadcastInDim S2048x32 ![] bcast_S_S2048x32 (constant S_ .f32 0x00000000#32)

/-- An entry of the table of zeros. -/
theorem zeros_at (i : S2048x32.Idx) : zeros i = 0 := by
  pointwise [zeros]

/-- The first position table: the cosines twice. -/
def cosT (c : FVec Ideal S2048x32 .f32) : FVec Ideal S2048x128 .f32 := filled (both c c)

/-- The second position table: the sines' opposites, then the sines. -/
def sinT (s : FVec Ideal S2048x32 .f32) : FVec Ideal S2048x128 .f32 := filled (addf (both (Host.negf s) zeros) (both zeros s))

/-- A cosine of the first table. -/
theorem cosT_at (c : FVec Ideal S2048x32 .f32) (k : Fin 2048) (l : Fin 128) (h : l.val < 64) : cosT c (ix2 k l) = c (ix2 k ⟨l.val % 32, by omega⟩) := by
  rw [cosT, filled_at _ _ _ h, both_at, ite_self]

/-- A sine of the second table, or its opposite. -/
theorem sinT_at (s : FVec Ideal S2048x32 .f32) (k : Fin 2048) (l : Fin 128) (h : l.val < 64) :
    sinT s (ix2 k l) = if l.val < 32 then -s (ix2 k ⟨l.val % 32, by omega⟩) else s (ix2 k ⟨l.val % 32, by omega⟩) := by
  rw [sinT, filled_at _ _ _ h]
  pointwise
  rw [both_at, both_at, zeros_at]
  dsimp only
  split
  · exact add_zero _
  · exact zero_add _

/-- A gain of 192 entries in 384 lanes: 128, then 64 and 64 zeros, then the halves of those 64 exchanged and 64 zeros. -/
def wide (g : FVec Ideal S192 .f32) : FVec Ideal S1x384 .f32 :=
  let a : FVec Ideal S64 .f32 := extractStridedSlice S64 ![128] g slices_S192_S64_128
  let z : FVec Ideal S64 .f32 := broadcastInDim S64 ![] bcast_S_S64 (constant S_ .f32 0x00000000#32)
  let p : FVec Ideal S64 .f32 := concatenate S64 0 [⟨S32, extractStridedSlice S32 ![32] a slices_S64_S32_32⟩, ⟨S32, extractStridedSlice S32 ![0] a slices_S64_S32_0⟩] concatenates_S32_S32_S64_d0
  let b : FVec Ideal S256 .f32 := concatenate S256 0 [⟨S64, a⟩, ⟨S64, z⟩, ⟨S64, p⟩, ⟨S64, z⟩] concatenates_S64_S64_S64_S64_S256_d0
  shapeCast S1x384 (concatenate S384 0 [⟨S128, extractStridedSlice S128 ![0] g slices_S192_S128_0⟩, ⟨S256, b⟩] concatenates_S128_S256_S384_d0) shapeCasts_S384_S1x384

/-- The first 128 lanes of a gain. -/
theorem wide_a (g : FVec Ideal S192 .f32) (k : Fin 384) (l : Fin 128) (h : k.val = l.val) : wide g (ix2 0 k) = g (ix1 ⟨l.val, by omega⟩) := by
  pointwise [wide]
  rw [dif_pos (by omega)]
  exact congrArg g (congrArg ix1 (Fin.ext h))

/-- The next 128 lanes of a gain. -/
theorem wide_b (g : FVec Ideal S192 .f32) (k : Fin 384) (l : Fin 128) (h : k.val = 128 + l.val) :
    wide g (ix2 0 k) = if p : l.val < 64 then g (ix1 ⟨128 + l.val, by omega⟩) else 0 := by
  pointwise [wide]
  rw [dif_neg (by omega)]
  by_cases p : l.val < 64
  · rw [dif_pos (by omega), dif_pos p]
    exact congrArg g (congrArg ix1 (Fin.ext (by dsimp only; omega)))
  · rw [dif_neg (by omega), dif_neg p]
    split
    · rfl
    · omega

/-- The last 128 lanes of a gain. -/
theorem wide_p (g : FVec Ideal S192 .f32) (k : Fin 384) (l : Fin 128) (h : k.val = 256 + l.val) :
    wide g (ix2 0 k) = if p : l.val < 64 then g (ix1 ⟨128 + (l.val + 32) % 64, by omega⟩) else 0 := by
  pointwise [wide]
  rw [dif_neg (by omega), dif_neg (by omega), dif_neg (by omega)]
  by_cases p : l.val < 64
  · rw [dif_pos (by omega), dif_pos p]
    split
    · exact congrArg g (congrArg ix1 (Fin.ext (by dsimp only; omega)))
    · exact congrArg g (congrArg ix1 (Fin.ext (by dsimp only; omega)))
  · rw [dif_neg (by omega), dif_neg p]

/-- The query weights, each head's 192 columns in 384, head by head. -/
def wideH (t : FVec Ideal S384x8x192 .f32) : FVec Ideal S384x8x384 .f32 :=
  let a : FVec Ideal S384x8x64 .f32 := extractStridedSlice S384x8x64 ![0, 0, 128] t slices_S384x8x192_S384x8x64_0_0_128
  let z : FVec Ideal S384x8x64 .f32 := broadcastInDim S384x8x64 ![] bcast_S_S384x8x64 (constant S_ .f32 0x00000000#32)
  let p : FVec Ideal S384x8x64 .f32 := concatenate S384x8x64 2 [⟨S384x8x32, extractStridedSlice S384x8x32 ![0, 0, 32] a slices_S384x8x64_S384x8x32_0_0_32⟩, ⟨S384x8x32, extractStridedSlice S384x8x32 ![0, 0, 0] a slices_S384x8x64_S384x8x32_0_0_0⟩] concatenates_S384x8x32_S384x8x32_S384x8x64_d2
  let b : FVec Ideal S384x8x256 .f32 := concatenate S384x8x256 2 [⟨S384x8x64, a⟩, ⟨S384x8x64, z⟩, ⟨S384x8x64, p⟩, ⟨S384x8x64, z⟩] concatenates_S384x8x64_S384x8x64_S384x8x64_S384x8x64_S384x8x256_d2
  concatenate S384x8x384 2 [⟨S384x8x128, extractStridedSlice S384x8x128 ![0, 0, 0] t slices_S384x8x192_S384x8x128_0_0_0⟩, ⟨S384x8x256, b⟩] concatenates_S384x8x128_S384x8x256_S384x8x384_d2

/-- The query weights, each head's 192 columns in 384. -/
def wideQ (w : FVec Ideal S384x1536 .f32) : FVec Ideal S384x3072 .bf16 :=
  truncf .bf16 (shapeCast S384x3072 (wideH (shapeCast S384x8x192 w shapeCasts_S384x1536_S384x8x192)) shapeCasts_S384x8x384_S384x3072) bitsLt_bf16_f32

/-- An entry of the wide query weights, by its head and the lane in it. -/
theorem wideQ_at (w : FVec Ideal S384x1536 .f32) (d : Fin 384) (k : Fin 3072) (o : Fin 8) (l : Fin 384) (h : k.val = o.val * 384 + l.val) :
    wideQ w (ix2 d k) = wideH (shapeCast S384x8x192 w shapeCasts_S384x1536_S384x8x192) (ix3 d o l) := by
  pointwise [wideQ]
  congr 1
  blk_ext

/-- An entry of the query weights, by its head and the lane in it. -/
theorem heads_at (w : FVec Ideal S384x1536 .f32) (d : Fin 384) (o : Fin 8) (l : Fin 192) :
    (shapeCast S384x8x192 w shapeCasts_S384x1536_S384x8x192) (ix3 d o l) = w (ix2 d ⟨o.val * 192 + l.val, by omega⟩) := by
  pointwise

/-- The first 128 lanes of a head. -/
theorem wideH_a (t : FVec Ideal S384x8x192 .f32) (d : Fin 384) (o : Fin 8) (k : Fin 384) (l : Fin 128) (h : k.val = l.val) :
    wideH t (ix3 d o k) = t (ix3 d o ⟨l.val, by omega⟩) := by
  pointwise [wideH]
  rw [dif_pos (by omega)]
  exact congrArg t (congrArg (ix3 d o) (Fin.ext h))

/-- The next 128 lanes of a head. -/
theorem wideH_b (t : FVec Ideal S384x8x192 .f32) (d : Fin 384) (o : Fin 8) (k : Fin 384) (l : Fin 128) (h : k.val = 128 + l.val) :
    wideH t (ix3 d o k) = if p : l.val < 64 then t (ix3 d o ⟨128 + l.val, by omega⟩) else 0 := by
  pointwise [wideH]
  rw [dif_neg (by omega)]
  by_cases p : l.val < 64
  · rw [dif_pos (by omega), dif_pos p]
    exact congrArg t (congrArg (ix3 d o) (Fin.ext (by dsimp only; omega)))
  · rw [dif_neg (by omega), dif_neg p]
    split
    · rfl
    · omega

/-- The last 128 lanes of a head. -/
theorem wideH_p (t : FVec Ideal S384x8x192 .f32) (d : Fin 384) (o : Fin 8) (k : Fin 384) (l : Fin 128) (h : k.val = 256 + l.val) :
    wideH t (ix3 d o k) = if p : l.val < 64 then t (ix3 d o ⟨128 + (l.val + 32) % 64, by omega⟩) else 0 := by
  pointwise [wideH]
  rw [dif_neg (by omega), dif_neg (by omega), dif_neg (by omega)]
  by_cases p : l.val < 64
  · rw [dif_pos (by omega), dif_pos p]
    split
    · exact congrArg t (congrArg (ix3 d o) (Fin.ext (by dsimp only; omega)))
    · exact congrArg t (congrArg (ix3 d o) (Fin.ext (by dsimp only; omega)))
  · rw [dif_neg (by omega), dif_neg p]

/-- The first key weights, their 320 columns in 512. -/
def wideK (w : FVec Ideal S1024x320 .f32) : FVec Ideal S1024x512 .bf16 :=
  let a : FVec Ideal S1024x64 .f32 := extractStridedSlice S1024x64 ![0, 256] w slices_S1024x320_S1024x64_0_256
  let z : FVec Ideal S1024x64 .f32 := broadcastInDim S1024x64 ![] bcast_S_S1024x64 (constant S_ .f32 0x00000000#32)
  let p : FVec Ideal S1024x64 .f32 := concatenate S1024x64 1 [⟨S1024x32, extractStridedSlice S1024x32 ![0, 32] a slices_S1024x64_S1024x32_0_32⟩, ⟨S1024x32, extractStridedSlice S1024x32 ![0, 0] a slices_S1024x64_S1024x32_0_0⟩] concatenates_S1024x32_S1024x32_S1024x64_d1
  let b : FVec Ideal S1024x256 .f32 := concatenate S1024x256 1 [⟨S1024x64, a⟩, ⟨S1024x64, z⟩, ⟨S1024x64, p⟩, ⟨S1024x64, z⟩] concatenates_S1024x64_S1024x64_S1024x64_S1024x64_S1024x256_d1
  truncf .bf16 (concatenate S1024x512 1 [⟨S1024x256, extractStridedSlice S1024x256 ![0, 0] w slices_S1024x320_S1024x256_0_0⟩, ⟨S1024x256, b⟩] concatenates_S1024x256_S1024x256_S1024x512_d1)

/-- The first 256 columns. -/
theorem wideK_a (w : FVec Ideal S1024x320 .f32) (d : Fin 1024) (k : Fin 512) (l : Fin 256) (h : k.val = l.val) :
    wideK w (ix2 d k) = w (ix2 d ⟨l.val, by omega⟩) := by
  pointwise [wideK]
  rw [dif_pos (by omega)]
  exact congrArg w (congrArg (ix2 d) (Fin.ext h))

/-- The next 128 columns. -/
theorem wideK_b (w : FVec Ideal S1024x320 .f32) (d : Fin 1024) (k : Fin 512) (l : Fin 128) (h : k.val = 256 + l.val) :
    wideK w (ix2 d k) = if p : l.val < 64 then w (ix2 d ⟨256 + l.val, by omega⟩) else 0 := by
  pointwise [wideK]
  rw [dif_neg (by omega)]
  by_cases p : l.val < 64
  · rw [dif_pos (by omega), dif_pos p]
    exact congrArg w (congrArg (ix2 d) (Fin.ext (by dsimp only; omega)))
  · rw [dif_neg (by omega), dif_neg p]
    split
    · rfl
    · omega

/-- The last 128 columns. -/
theorem wideK_p (w : FVec Ideal S1024x320 .f32) (d : Fin 1024) (k : Fin 512) (l : Fin 128) (h : k.val = 384 + l.val) :
    wideK w (ix2 d k) = if p : l.val < 64 then w (ix2 d ⟨256 + (l.val + 32) % 64, by omega⟩) else 0 := by
  pointwise [wideK]
  rw [dif_neg (by omega), dif_neg (by omega), dif_neg (by omega)]
  by_cases p : l.val < 64
  · rw [dif_pos (by omega), dif_pos p]
    split
    · exact congrArg w (congrArg (ix2 d) (Fin.ext (by dsimp only; omega)))
    · exact congrArg w (congrArg (ix2 d) (Fin.ext (by dsimp only; omega)))
  · rw [dif_neg (by omega), dif_neg p]

set_option maxHeartbeats 4000000 in
/-- The kernel is handed the gain of the rows, as one row. -/
theorem an_eq (m : (ℓ : Loc nD τ sig) → Buf (Elt Ideal) ℓ) (c : Dev nD) :
    (V m c main_v50 : FVec Ideal S1x1024 .f32) = shapeCast S1x1024 (m ((c : Thread nD τ).loc main_arg1)) shapeCasts_S1024_S1x1024 := by
  show StableHlo.after (List.flatten [hostOps0, hostOps0_1, hostOps0_2, hostOps0_3, hostOps0_4]) _ (Proc.devRef .tc main_v50) = _
  simp only [List.flatten_cons, List.flatten_nil, List.append_nil, List.nil_append, List.cons_append]
  after_results_simp <;> rfl

set_option maxHeartbeats 4000000 in
/-- The kernel is handed the first weights of the queries. -/
theorem wqa_eq (m : (ℓ : Loc nD τ sig) → Buf (Elt Ideal) ℓ) (c : Dev nD) :
    (V m c main_v51 : FVec Ideal S1024x384 .bf16) = truncf (F := Ideal) .bf16 ((m ((c : Thread nD τ).loc main_arg2)) : FVec Ideal S1024x384 .f32) bitsLt_bf16_f32 := by
  show StableHlo.after (List.flatten [hostOps0, hostOps0_1, hostOps0_2, hostOps0_3, hostOps0_4]) _ (Proc.devRef .tc main_v51) = _
  simp only [List.flatten_cons, List.flatten_nil, List.append_nil, List.nil_append, List.cons_append]
  after_results_simp <;> rfl

set_option maxHeartbeats 4000000 in
/-- The kernel is handed the gain between the two products of the queries. -/
theorem qan_eq (m : (ℓ : Loc nD τ sig) → Buf (Elt Ideal) ℓ) (c : Dev nD) :
    (V m c main_v52 : FVec Ideal S1x384 .f32) = shapeCast S1x384 (m ((c : Thread nD τ).loc main_arg3)) shapeCasts_S384_S1x384 := by
  show StableHlo.after (List.flatten [hostOps0, hostOps0_1, hostOps0_2, hostOps0_3, hostOps0_4]) _ (Proc.devRef .tc main_v52) = _
  simp only [List.flatten_cons, List.flatten_nil, List.append_nil, List.nil_append, List.cons_append]
  after_results_simp <;> rfl

set_option maxHeartbeats 4000000 in
/-- The kernel is handed the second weights of the queries, each head in 384 columns. -/
theorem wqb_eq (m : (ℓ : Loc nD τ sig) → Buf (Elt Ideal) ℓ) (c : Dev nD) :
    (V m c main_v54 : FVec Ideal S384x3072 .bf16) = wideQ (m ((c : Thread nD τ).loc main_arg4)) := by
  show StableHlo.after (List.flatten [hostOps0, hostOps0_1, hostOps0_2, hostOps0_3, hostOps0_4]) _ (Proc.devRef .tc main_v54) = _
  simp only [List.flatten_cons, List.flatten_nil, List.append_nil, List.nil_append, List.cons_append]
  after_results_simp <;> rfl

set_option maxHeartbeats 4000000 in
/-- The kernel is handed the first weights of the keys and values in 512 columns. -/
theorem wkva_eq (m : (ℓ : Loc nD τ sig) → Buf (Elt Ideal) ℓ) (c : Dev nD) :
    (V m c main_v55 : FVec Ideal S1024x512 .bf16) = wideK (m ((c : Thread nD τ).loc main_arg5)) := by
  show StableHlo.after (List.flatten [hostOps0, hostOps0_1, hostOps0_2, hostOps0_3, hostOps0_4]) _ (Proc.devRef .tc main_v55) = _
  simp only [List.flatten_cons, List.flatten_nil, List.append_nil, List.nil_append, List.cons_append]
  after_results_simp <;> rfl

set_option maxHeartbeats 4000000 in
/-- The kernel is handed the gain between the two products of the keys and values. -/
theorem kvan_eq (m : (ℓ : Loc nD τ sig) → Buf (Elt Ideal) ℓ) (c : Dev nD) :
    (V m c main_v56 : FVec Ideal S1x256 .f32) = shapeCast S1x256 (m ((c : Thread nD τ).loc main_arg6)) shapeCasts_S256_S1x256 := by
  show StableHlo.after (List.flatten [hostOps0, hostOps0_1, hostOps0_2, hostOps0_3, hostOps0_4]) _ (Proc.devRef .tc main_v56) = _
  simp only [List.flatten_cons, List.flatten_nil, List.append_nil, List.nil_append, List.cons_append]
  after_results_simp <;> rfl

set_option maxHeartbeats 4000000 in
/-- The kernel is handed the second weights of the keys and values. -/
theorem wkvb_eq (m : (ℓ : Loc nD τ sig) → Buf (Elt Ideal) ℓ) (c : Dev nD) :
    (V m c main_v57 : FVec Ideal S256x2048 .bf16) = truncf (F := Ideal) .bf16 ((m ((c : Thread nD τ).loc main_arg7)) : FVec Ideal S256x2048 .f32) bitsLt_bf16_f32 := by
  show StableHlo.after (List.flatten [hostOps0, hostOps0_1, hostOps0_2, hostOps0_3, hostOps0_4]) _ (Proc.devRef .tc main_v57) = _
  simp only [List.flatten_cons, List.flatten_nil, List.append_nil, List.nil_append, List.cons_append]
  after_results_simp <;> rfl

set_option maxHeartbeats 4000000 in
/-- The kernel is handed the gain of the query heads in 384 lanes. -/
theorem gq_eq (m : (ℓ : Loc nD τ sig) → Buf (Elt Ideal) ℓ) (c : Dev nD) :
    (V m c main_v58 : FVec Ideal S1x384 .f32) = wide (m ((c : Thread nD τ).loc main_arg8)) := by
  show StableHlo.after (List.flatten [hostOps0, hostOps0_1, hostOps0_2, hostOps0_3, hostOps0_4]) _ (Proc.devRef .tc main_v58) = _
  simp only [List.flatten_cons, List.flatten_nil, List.append_nil, List.nil_append, List.cons_append]
  after_results_simp <;> rfl

set_option maxHeartbeats 4000000 in
/-- The kernel is handed the gain of the key heads in 384 lanes. -/
theorem gk_eq (m : (ℓ : Loc nD τ sig) → Buf (Elt Ideal) ℓ) (c : Dev nD) :
    (V m c main_v59 : FVec Ideal S1x384 .f32) = wide (m ((c : Thread nD τ).loc main_arg9)) := by
  show StableHlo.after (List.flatten [hostOps0, hostOps0_1, hostOps0_2, hostOps0_3, hostOps0_4]) _ (Proc.devRef .tc main_v59) = _
  simp only [List.flatten_cons, List.flatten_nil, List.append_nil, List.nil_append, List.cons_append]
  after_results_simp <;> rfl

set_option maxHeartbeats 4000000 in
/-- The kernel is handed the first position table. -/
theorem cos_eq (m : (ℓ : Loc nD τ sig) → Buf (Elt Ideal) ℓ) (c : Dev nD) :
    (V m c main_v14 : FVec Ideal S2048x128 .f32) = cosT (m ((c : Thread nD τ).loc main_arg10)) := by
  show StableHlo.after (List.flatten [hostOps0, hostOps0_1, hostOps0_2, hostOps0_3, hostOps0_4]) _ (Proc.devRef .tc main_v14) = _
  simp only [List.flatten_cons, List.flatten_nil, List.append_nil, List.nil_append, List.cons_append]
  after_results_simp <;> rfl

set_option maxHeartbeats 4000000 in
/-- The kernel is handed the second position table. -/
theorem sin_eq (m : (ℓ : Loc nD τ sig) → Buf (Elt Ideal) ℓ) (c : Dev nD) :
    (V m c main_v16 : FVec Ideal S2048x128 .f32) = sinT (m ((c : Thread nD τ).loc main_arg11)) := by
  show StableHlo.after (List.flatten [hostOps0, hostOps0_1, hostOps0_2, hostOps0_3, hostOps0_4]) _ (Proc.devRef .tc main_v16) = _
  simp only [List.flatten_cons, List.flatten_nil, List.append_nil, List.nil_append, List.cons_append]
  after_results_simp <;> rfl

set_option maxHeartbeats 4000000 in
/-- The kernel is handed a matrix of ones. -/
theorem one_eq (m : (ℓ : Loc nD τ sig) → Buf (Elt Ideal) ℓ) (c : Dev nD) :
    (V m c main_v60 : FVec Ideal S1024x128 .bf16) = broadcastInDim S1024x128 ![] bcast_S_S1024x128 (constant (F := Ideal) S_ .bf16 0x3F80#16) := by
  show StableHlo.after (List.flatten [hostOps0, hostOps0_1, hostOps0_2, hostOps0_3, hostOps0_4]) _ (Proc.devRef .tc main_v60) = _
  simp only [List.flatten_cons, List.flatten_nil, List.append_nil, List.nil_append, List.cons_append]
  after_results_simp <;> rfl

end Cert.MlaProjIdeal.Value
-- ==== Proof.MlaProjBlockQ.lean ====
/- The projection kernel of the latent-attention layers: the block of queries one visit writes. -/
module
public import proofs.«01_k».proof.Proof.MlaProjBlock
@[expose] public section
set_option maxRecDepth 16384
noncomputable section
open Idealize.ShloMosaic Idealize.ShloMosaic.TcCoe Idealize.SL.Sem
open Idealize.ShloMosaic.Pipeline (Dat)
namespace Cert.MlaProjIdeal.Value
open Cert.MlaProjIdeal Cert.MlaProjIdeal.Gen Cert.MlaMath

set_option maxHeartbeats 16000000 in
/-- A visit's block of queries. -/
theorem blk_q (X : FVec Ideal S1024x1024 .f32) (A : FVec Ideal S1x1024 .f32) (WQA : FVec Ideal S1024x384 .bf16) (QAN : FVec Ideal S1x384 .f32)
    (WQB : FVec Ideal S384x3072 .bf16) (WKVA : FVec Ideal S1024x512 .bf16) (KVAN : FVec Ideal S1x256 .f32) (WKVB : FVec Ideal S256x2048 .bf16)
    (GQ GK : FVec Ideal S1x384 .f32) (C S : FVec Ideal S1024x128 .f32) (O : FVec Ideal S1024x128 .bf16) (hO : ∀ k l, O (ix2 k l) = 1) :
    out0_13 (F := Ideal) X A WQA QAN WQB WKVA KVAN WKVB GQ GK C S O = fun y => kq (qrow (fun n => X (ix2 (y 0) n)) (fun n => A (ix2 0 n))
      (fun d k => WQA (ix2 d k)) (fun n => QAN (ix2 0 n)) fun d k => WQB (ix2 d k)) (fun n => GQ (ix2 0 n)) (fun l => C (ix2 (y 0) l))
      (fun l => S (ix2 (y 0) l)) (y 1) := by
  funext y
  unfold_out out0_13
  frame_out
  canon_tiles x h
  all_goals first
    | have hy : (x 1).val = (y 1).val % 256 := by omega
      refine q_left _ _ ?_ ?_ _ _ x (y 1) _ _ _ _ (fun j => qf_at _ _ _ _ _ _ _ (x 0) j _ _ _ _ _ (fun n => ?_) (fun n => ?_) (fun k l => ?_)
        (fun d k => ?_) (fun n => ?_) (fun k l => ?_) (fun d k => ?_)) (fun n => ?_) ?_ ?_ hy
    | have hy : 128 + (x 1).val = (y 1).val % 256 := by omega
      refine q_right _ _ _ ?_ ?_ ?_ _ _ _ _ x (y 1) _ _ _ _ (fun j => qf_at _ _ _ _ _ _ _ (x 0) j _ _ _ _ _ (fun n => ?_) (fun n => ?_) (fun k l => ?_)
        (fun d k => ?_) (fun n => ?_) (fun k l => ?_) (fun d k => ?_)) (fun n => ?_) (fun l => ?_) (fun l => ?_) ?_ ?_ ?_ hy
  all_goals first
    | omega
    | decide
    | exact hO _ _
    | rfl
    | (pointwise; done)
    | (pointwise; exact hO _ _)
    | (pointwise; blk_ext)

end Cert.MlaProjIdeal.Value
-- ==== Proof.MlaProjBlockK.lean ====
/- The projection kernel of the latent-attention layers: the block of keys one visit writes. -/
module
public import proofs.«01_k».proof.Proof.MlaProjBlock
@[expose] public section
set_option maxRecDepth 16384
noncomputable section
open Idealize.ShloMosaic Idealize.ShloMosaic.TcCoe Idealize.SL.Sem
open Idealize.ShloMosaic.Pipeline (Dat)
namespace Cert.MlaProjIdeal.Value
open Cert.MlaProjIdeal Cert.MlaProjIdeal.Gen Cert.MlaMath

set_option maxHeartbeats 16000000 in
/-- A visit's block of keys. -/
theorem blk_k (X : FVec Ideal S1024x1024 .f32) (A : FVec Ideal S1x1024 .f32) (WQA : FVec Ideal S1024x384 .bf16) (QAN : FVec Ideal S1x384 .f32)
    (WQB : FVec Ideal S384x3072 .bf16) (WKVA : FVec Ideal S1024x512 .bf16) (KVAN : FVec Ideal S1x256 .f32) (WKVB : FVec Ideal S256x2048 .bf16)
    (GQ GK : FVec Ideal S1x384 .f32) (C S : FVec Ideal S1024x128 .f32) (O : FVec Ideal S1024x128 .bf16) (hO : ∀ k l, O (ix2 k l) = 1) :
    out0_14 (F := Ideal) X A WQA QAN WQB WKVA KVAN WKVB GQ GK C S O = fun y => kk (kvrow (fun n => X (ix2 (y 0) n)) (fun n => A (ix2 0 n))
      (fun d k => WKVA (ix2 d ⟨k.val, by omega⟩)) (fun n => KVAN (ix2 0 n)) fun d k => WKVB (ix2 d k))
      (first (fun n => X (ix2 (y 0) n)) (fun n => A (ix2 0 n)) fun d k => WKVA (ix2 d k)) (fun n => GK (ix2 0 n)) (fun l => C (ix2 (y 0) l))
      (fun l => S (ix2 (y 0) l)) (y 1) := by
  funext y
  unfold_out out0_14
  frame_out
  canon_tiles x h
  case' piece60 => dsimp only [k0_pay47, k0_pay45, k0_pay44, k0_pay43]
  case' piece0 => dsimp only [k0_pay3, k0_pay1, k0_pay431, k0_pay430]
  all_goals first
    | have hy : (x 1).val = (y 1).val % 256 := by omega
      refine k_left _ ?_ _ _ _ x (y 1) _ _ _ _ _ (fun j => kv_at _ _ _ _ (x 0) j (fun n => X (ix2 (y 0) n)) (fun n => A (ix2 0 n)) (fun d k => WKVA (ix2 d k)) (fun n => KVAN (ix2 0 n)) (fun d k => WKVB (ix2 d k))
        (fun j => shared_at _ _ _ _ (x 0) j _ _ _ (fun n => ?_) (fun n => ?_) (fun k l => ?_) (fun d k => ?_)) (fun n => ?_) (fun k l => ?_) (fun d k => ?_))
        (fun j => shared_at _ _ _ _ (x 0) j _ _ _ (fun n => ?_) (fun n => ?_) (fun k l => ?_) (fun d k => ?_)) (fun n => ?_) ?_ hy
    | have hy : 128 + (x 1).val = (y 1).val % 256 := by omega
      refine k_right _ ?_ _ _ _ _ _ x (y 1) _ _ _ _ _ (fun j => kv_at _ _ _ _ (x 0) j (fun n => X (ix2 (y 0) n)) (fun n => A (ix2 0 n)) (fun d k => WKVA (ix2 d k)) (fun n => KVAN (ix2 0 n)) (fun d k => WKVB (ix2 d k))
        (fun j => shared_at _ _ _ _ (x 0) j _ _ _ (fun n => ?_) (fun n => ?_) (fun k l => ?_) (fun d k => ?_)) (fun n => ?_) (fun k l => ?_) (fun d k => ?_))
        (fun j => shared_at _ _ _ _ (x 0) j _ _ _ (fun n => ?_) (fun n => ?_) (fun k l => ?_) (fun d k => ?_)) (fun n => ?_) (fun l => ?_) (fun l => ?_) ?_ hy
  all_goals first
    | omega
    | decide
    | exact hO _ _
    | rfl
    | (pointwise; done)
    | (pointwise; exact hO _ _)
    | (pointwise; blk_ext)

end Cert.MlaProjIdeal.Value
-- ==== Proof.MlaProjBlockV.lean ====
/- The projection kernel of the latent-attention layers: the block of values one visit writes. -/
module
public import proofs.«01_k».proof.Proof.MlaProjBlock
@[expose] public section
set_option maxRecDepth 16384
noncomputable section
open Idealize.ShloMosaic Idealize.ShloMosaic.TcCoe Idealize.SL.Sem
open Idealize.ShloMosaic.Pipeline (Dat)
namespace Cert.MlaProjIdeal.Value
open Cert.MlaProjIdeal Cert.MlaProjIdeal.Gen Cert.MlaMath

set_option maxHeartbeats 16000000 in
/-- A visit's block of values. -/
theorem blk_v (X : FVec Ideal S1024x1024 .f32) (A : FVec Ideal S1x1024 .f32) (WQA : FVec Ideal S1024x384 .bf16) (QAN : FVec Ideal S1x384 .f32)
    (WQB : FVec Ideal S384x3072 .bf16) (WKVA : FVec Ideal S1024x512 .bf16) (KVAN : FVec Ideal S1x256 .f32) (WKVB : FVec Ideal S256x2048 .bf16)
    (GQ GK : FVec Ideal S1x384 .f32) (C S : FVec Ideal S1024x128 .f32) (O : FVec Ideal S1024x128 .bf16) (hO : ∀ k l, O (ix2 k l) = 1) :
    out0_15 (F := Ideal) X A WQA QAN WQB WKVA KVAN WKVB GQ GK C S O = fun y => (kvrow (fun n => X (ix2 (y 0) n)) (fun n => A (ix2 0 n))
      (fun d k => WKVA (ix2 d ⟨k.val, by omega⟩)) (fun n => KVAN (ix2 0 n)) fun d k => WKVB (ix2 d k))
      ⟨(y 1).val / 128 * 256 + 128 + (y 1).val % 128, by have h : (y 1).val < 1024 := (y 1).isLt; omega⟩ := by
  funext y
  unfold_out out0_15
  frame_out
  canon_tiles x h
  all_goals
    have hy : (x 1).val = (y 1).val % 128 := by omega
    refine v_at _ ?_ _ x (y 1) (kvrow (fun n => X (ix2 (y 0) n)) (fun n => A (ix2 0 n))
      (fun d k => WKVA (ix2 d ⟨k.val, by omega⟩)) (fun n => KVAN (ix2 0 n)) fun d k => WKVB (ix2 d k)) (fun j => kv_at _ _ _ _ (x 0) j (fun n => X (ix2 (y 0) n)) (fun n => A (ix2 0 n)) (fun d k => WKVA (ix2 d k)) (fun n => KVAN (ix2 0 n)) (fun d k => WKVB (ix2 d k))
        (fun j => shared_at _ _ _ _ (x 0) j _ _ _ (fun n => ?_) (fun n => ?_) (fun k l => ?_) (fun d k => ?_)) (fun n => ?_) (fun k l => ?_) (fun d k => ?_)) ?_ hy
  all_goals first
    | omega
    | decide
    | exact hO _ _
    | rfl
    | (pointwise; done)
    | (pointwise; exact hO _ _)
    | (pointwise; blk_ext)

end Cert.MlaProjIdeal.Value
-- ==== Proof.MlaProjFinal.lean ====
/- The projection kernel of the latent-attention layers: its result arrays after the whole run. -/
module
public import proofs.«01_k».proof.Proof.MlaProjHost
public import proofs.«01_k».proof.Proof.MlaProjBlockQ
public import proofs.«01_k».proof.Proof.MlaProjBlockK
public import proofs.«01_k».proof.Proof.MlaProjBlockV
@[expose] public section
set_option maxRecDepth 16384
noncomputable section
open Idealize.ShloMosaic Idealize.ShloMosaic.TcCoe Idealize.SL.Sem
open Idealize.ShloMosaic.Pipeline (Dat)
namespace Cert.MlaProjIdeal.Value
open Cert.MlaProjIdeal Cert.MlaProjIdeal.Gen Cert.ProjMath Cert.MlaMath

/-- Entry `(i, j)` of the array of query heads: head `j / 256` of row `i`'s queries, normalised, rotated by the row's position
    `i % 2048` in its sequence and scaled. -/
def QUERIES (X : FVec Ideal S65536x1024 .f32) (A : FVec Ideal S1024 .f32) (WA : FVec Ideal S1024x384 .f32) (AN : FVec Ideal S384 .f32)
    (WB : FVec Ideal S384x1536 .f32) (G : FVec Ideal S192 .f32) (C S : FVec Ideal S2048x32 .f32) (i : Fin 65536) (j : Fin 2048) : EReal :=
  rotated (fun e => (qrow (fun n => X (ix2 i n)) (fun n => A (ix1 n)) (fun d k => WA (ix2 d k)) (fun n => AN (ix1 n)) fun d k => WB (ix2 d k)) ⟨j.val / 256 * 192 + e.val, by omega⟩)
    (fun e => G (ix1 e)) (fun l => C (ix2 ⟨i.val % 2048, by omega⟩ l)) (fun l => S (ix2 ⟨i.val % 2048, by omega⟩ l)) ⟨j.val % 256, by omega⟩ * sc

/-- Row `i`'s keys and values, 256 lanes of them. -/
def BOTH (X : FVec Ideal S65536x1024 .f32) (A : FVec Ideal S1024 .f32) (WA : FVec Ideal S1024x320 .f32) (AN : FVec Ideal S256 .f32)
    (WB : FVec Ideal S256x2048 .f32) (i : Fin 65536) : Fin 2048 → EReal :=
  kvrow (fun n => X (ix2 i n)) (fun n => A (ix1 n)) (fun d k => WA (ix2 d ⟨k.val, by omega⟩)) (fun n => AN (ix1 n)) fun d k => WB (ix2 d k)

/-- Head `h` of row `i`'s keys: 128 lanes of its own, then the 64 lanes the heads share. -/
def KEY (X : FVec Ideal S65536x1024 .f32) (A : FVec Ideal S1024 .f32) (WA : FVec Ideal S1024x320 .f32) (AN : FVec Ideal S256 .f32)
    (WB : FVec Ideal S256x2048 .f32) (i : Fin 65536) (h : Fin 8) (e : Fin 192) : EReal :=
  if p : e.val < 128 then BOTH X A WA AN WB i ⟨h.val * 256 + e.val, by omega⟩
  else first (fun n => X (ix2 i n)) (fun n => A (ix1 n)) (fun d k => WA (ix2 d k)) ⟨256 + (e.val - 128), by omega⟩

/-- Entry `(i, j)` of the array of key heads: head `j / 256` of row `i`'s keys, normalised and rotated. -/
def KEYS (X : FVec Ideal S65536x1024 .f32) (A : FVec Ideal S1024 .f32) (WA : FVec Ideal S1024x320 .f32) (AN : FVec Ideal S256 .f32)
    (WB : FVec Ideal S256x2048 .f32) (G : FVec Ideal S192 .f32) (C S : FVec Ideal S2048x32 .f32) (i : Fin 65536) (j : Fin 2048) : EReal :=
  rotated (KEY X A WA AN WB i ⟨j.val / 256, by omega⟩)
    (fun e => G (ix1 e)) (fun l => C (ix2 ⟨i.val % 2048, by omega⟩ l)) (fun l => S (ix2 ⟨i.val % 2048, by omega⟩ l)) ⟨j.val % 256, by omega⟩

/-- Entry `(i, j)` of the array of values: lane `j % 128` of the values of head `j / 128`. -/
def VALUES (X : FVec Ideal S65536x1024 .f32) (A : FVec Ideal S1024 .f32) (WA : FVec Ideal S1024x320 .f32) (AN : FVec Ideal S256 .f32)
    (WB : FVec Ideal S256x2048 .f32) (i : Fin 65536) (j : Fin 1024) : EReal :=
  BOTH X A WA AN WB i ⟨j.val / 128 * 256 + 128 + j.val % 128, by omega⟩

/-- A row times a column of zeros. -/
theorem lin_zero {n k : ℕ} (t : Fin n → EReal) (w : Fin n → Fin k → EReal) (j : Fin k) (h : ∀ d, w d j = 0) : lin t w j = 0 := by
  unfold lin
  simp only [h, mul_zero, Finset.sum_const_zero]

/-- A row times a column that another matrix has too. -/
theorem lin_col {n k k' : ℕ} (t : Fin n → EReal) (w : Fin n → Fin k → EReal) (w' : Fin n → Fin k' → EReal) (j : Fin k) (j' : Fin k')
    (h : ∀ d, w d j = w' d j') : lin t w j = lin t w' j' := by
  unfold lin
  simp only [h]

/-- A row times a column that is another matrix's, or zero. -/
theorem lin_dite {n k k' : ℕ} (t : Fin n → EReal) (w : Fin n → Fin k → EReal) (w' : Fin n → Fin k' → EReal) (j : Fin k) (P : Prop) [Decidable P]
    (j' : P → Fin k') (h : ∀ d, w d j = if p : P then w' d (j' p) else 0) : lin t w j = if p : P then lin t w' (j' p) else 0 := by
  by_cases p : P
  · rw [dif_pos p]
    exact lin_col _ _ _ _ _ fun d => by rw [h, dif_pos p]
  · rw [dif_neg p]
    exact lin_zero _ _ _ fun d => by rw [h, dif_neg p]

/-- The kernel's query heads are the formulas', when its inputs are laid out as the host lays them out. -/
theorem queries_eq (X : FVec Ideal S65536x1024 .f32) (A : FVec Ideal S1024 .f32) (WA : FVec Ideal S1024x384 .f32) (AN : FVec Ideal S384 .f32)
    (WB : FVec Ideal S384x1536 .f32) (G : FVec Ideal S192 .f32) (C S : FVec Ideal S2048x32 .f32)
    (x a : Fin 1024 → EReal) (wa : Fin 1024 → Fin 384 → EReal) (an : Fin 384 → EReal) (wb : Fin 384 → Fin 3072 → EReal) (g : Fin 384 → EReal) (c s : Fin 128 → EReal)
    (r : Fin 65536) (j j' : Fin 2048) (hx : ∀ k, x k = X (ix2 r k)) (ha : ∀ k, a k = A (ix1 k)) (hwa : ∀ d k, wa d k = WA (ix2 d k)) (han : ∀ k, an k = AN (ix1 k))
    (hwb : ∀ d k, wb d k = wideQ WB (ix2 d k)) (hg : ∀ k, g k = wide G (ix2 0 k))
    (hc : ∀ l, c l = cosT C (ix2 ⟨r.val % 2048, by omega⟩ l)) (hs : ∀ l, s l = sinT S (ix2 ⟨r.val % 2048, by omega⟩ l)) (hj : j.val = j'.val) :
    kq (qrow x a wa an wb) g c s j = QUERIES X A WA AN WB G C S r j' := by
  obtain rfl : j = j' := Fin.ext hj
  obtain rfl : x = fun k => X (ix2 r k) := funext hx
  obtain rfl : a = fun k => A (ix1 k) := funext ha
  obtain rfl : wa = fun d k => WA (ix2 d k) := funext fun d => funext (hwa d)
  obtain rfl : an = fun k => AN (ix1 k) := funext han
  obtain rfl : wb = fun d k => wideQ WB (ix2 d k) := funext fun d => funext (hwb d)
  have h8 : j.val / 256 < 8 := by omega
  unfold kq QUERIES
  rw [lanes_mul, Finset.sum_add_distrib]
  have qa : ∀ l : Fin 128, part (qrow (fun k => X (ix2 r k)) (fun k => A (ix1 k)) (fun d k => WA (ix2 d k)) (fun k => AN (ix1 k)) fun d k => wideQ WB (ix2 d k)) (j.val / 256 * 384) (by omega) l
      = (qrow (fun n => X (ix2 r n)) (fun n => A (ix1 n)) (fun d k => WA (ix2 d k)) (fun n => AN (ix1 n)) fun d k => WB (ix2 d k)) ⟨j.val / 256 * 192 + l.val, by omega⟩ := fun l =>
    lin_col _ (fun d k => wideQ WB (ix2 d k)) (fun d k => WB (ix2 d k)) ⟨j.val / 256 * 384 + l.val, by omega⟩ ⟨j.val / 256 * 192 + l.val, by omega⟩ fun d => (wideQ_at WB d _ ⟨j.val / 256, h8⟩ ⟨l.val, by omega⟩ rfl).trans ((wideH_a _ _ _ _ l rfl).trans (heads_at WB d _ _))
  have qb : ∀ l : Fin 128, part (qrow (fun k => X (ix2 r k)) (fun k => A (ix1 k)) (fun d k => WA (ix2 d k)) (fun k => AN (ix1 k)) fun d k => wideQ WB (ix2 d k)) (j.val / 256 * 384 + 128) (by omega) l
      = if p : l.val < 64 then (qrow (fun n => X (ix2 r n)) (fun n => A (ix1 n)) (fun d k => WA (ix2 d k)) (fun n => AN (ix1 n)) fun d k => WB (ix2 d k)) ⟨j.val / 256 * 192 + (128 + l.val), by omega⟩ else 0 := fun l =>
    lin_dite _ (fun d k => wideQ WB (ix2 d k)) (fun d k => WB (ix2 d k)) ⟨j.val / 256 * 384 + 128 + l.val, by omega⟩ (l.val < 64) (fun p => ⟨j.val / 256 * 192 + (128 + l.val), by omega⟩) fun d =>
      (wideQ_at WB d _ ⟨j.val / 256, h8⟩ ⟨128 + l.val, by omega⟩ (by dsimp only; omega)).trans ((wideH_b _ _ _ _ l rfl).trans (by simp only [heads_at]))
  have qp : ∀ l : Fin 128, part (qrow (fun k => X (ix2 r k)) (fun k => A (ix1 k)) (fun d k => WA (ix2 d k)) (fun k => AN (ix1 k)) fun d k => wideQ WB (ix2 d k)) (j.val / 256 * 384 + 256) (by omega) l
      = if p : l.val < 64 then (qrow (fun n => X (ix2 r n)) (fun n => A (ix1 n)) (fun d k => WA (ix2 d k)) (fun n => AN (ix1 n)) fun d k => WB (ix2 d k)) ⟨j.val / 256 * 192 + (128 + (l.val + 32) % 64), by omega⟩ else 0 := fun l =>
    lin_dite _ (fun d k => wideQ WB (ix2 d k)) (fun d k => WB (ix2 d k)) ⟨j.val / 256 * 384 + 256 + l.val, by omega⟩ (l.val < 64) (fun p => ⟨j.val / 256 * 192 + (128 + (l.val + 32) % 64), by omega⟩) fun d =>
      (wideQ_at WB d _ ⟨j.val / 256, h8⟩ ⟨256 + l.val, by omega⟩ (by dsimp only; omega)).trans ((wideH_p _ _ _ _ l rfl).trans (by simp only [heads_at]))
  rw [sum_head (fun e => (qrow (fun n => X (ix2 r n)) (fun n => A (ix1 n)) (fun d k => WA (ix2 d k)) (fun n => AN (ix1 n)) fun d k => WB (ix2 d k)) ⟨j.val / 256 * 192 + e.val, by omega⟩) _ _ qa qb]
  exact congrArg (· * sc) (lanes_eq (fun e => (qrow (fun n => X (ix2 r n)) (fun n => A (ix1 n)) (fun d k => WA (ix2 d k)) (fun n => AN (ix1 n)) fun d k => WB (ix2 d k)) ⟨j.val / 256 * 192 + e.val, by omega⟩) (fun e => G (ix1 e)) (fun l => C (ix2 ⟨r.val % 2048, by omega⟩ l)) (fun l => S (ix2 ⟨r.val % 2048, by omega⟩ l)) _ _ _ _ _ _ _ _ qa qb qp
    (fun l => (hg _).trans (wide_a G _ l (Nat.zero_add _))) (fun l => (hg _).trans (wide_b G _ l rfl)) (fun l => (hg _).trans (wide_p G _ l rfl))
    (fun l h => (hc l).trans (cosT_at C _ l h)) (fun l h => (hs l).trans (sinT_at S _ l h)) _)

/-- The kernel's key heads are the formulas', likewise. -/
theorem keys_eq (X : FVec Ideal S65536x1024 .f32) (A : FVec Ideal S1024 .f32) (WA : FVec Ideal S1024x320 .f32) (AN : FVec Ideal S256 .f32)
    (WB : FVec Ideal S256x2048 .f32) (G : FVec Ideal S192 .f32) (C S : FVec Ideal S2048x32 .f32)
    (x a : Fin 1024 → EReal) (wa : Fin 1024 → Fin 512 → EReal) (an : Fin 256 → EReal) (wb : Fin 256 → Fin 2048 → EReal) (g : Fin 384 → EReal) (c s : Fin 128 → EReal)
    (r : Fin 65536) (j j' : Fin 2048) (hx : ∀ k, x k = X (ix2 r k)) (ha : ∀ k, a k = A (ix1 k)) (hwa : ∀ d k, wa d k = wideK WA (ix2 d k)) (han : ∀ k, an k = AN (ix1 k))
    (hwb : ∀ d k, wb d k = WB (ix2 d k)) (hg : ∀ k, g k = wide G (ix2 0 k))
    (hc : ∀ l, c l = cosT C (ix2 ⟨r.val % 2048, by omega⟩ l)) (hs : ∀ l, s l = sinT S (ix2 ⟨r.val % 2048, by omega⟩ l)) (hj : j.val = j'.val) :
    kk (kvrow x a (fun d k => wa d ⟨k.val, by omega⟩) an wb) (first x a wa) g c s j = KEYS X A WA AN WB G C S r j' := by
  obtain rfl : j = j' := Fin.ext hj
  obtain rfl : x = fun k => X (ix2 r k) := funext hx
  obtain rfl : a = fun k => A (ix1 k) := funext ha
  obtain rfl : an = fun k => AN (ix1 k) := funext han
  obtain rfl : wb = fun d k => WB (ix2 d k) := funext fun d => funext (hwb d)
  have hka : (fun d (k : Fin 256) => wa d ⟨k.val, by omega⟩) = fun d k => WA (ix2 d ⟨k.val, by omega⟩) := funext fun d => funext fun k =>
    (hwa d _).trans (wideK_a WA d _ k rfl)
  rw [hka]
  unfold kk KEYS
  have qa : ∀ l : Fin 128, part (BOTH X A WA AN WB r) (j.val / 256 * 256) (by omega) l = KEY X A WA AN WB r ⟨j.val / 256, by omega⟩ ⟨l.val, by omega⟩ := fun l => by
    unfold KEY
    rw [dif_pos l.isLt]
    rfl
  have qb : ∀ l : Fin 128, part (first (fun k => X (ix2 r k)) (fun k => A (ix1 k)) wa) 256 (by omega) l
      = if p : l.val < 64 then KEY X A WA AN WB r ⟨j.val / 256, by omega⟩ ⟨128 + l.val, by omega⟩ else 0 := fun l => by
    refine (lin_dite _ _ (fun d k => WA (ix2 d k)) _ _ (fun p => ⟨256 + l.val, by omega⟩) fun d => (hwa d _).trans (wideK_b WA d _ l rfl)).trans ?_
    refine dite_congr rfl (fun p => ?_) fun _ => rfl
    unfold KEY
    rw [dif_neg (by dsimp only; omega)]
    exact congrArg (first _ _ _) (Fin.ext (by dsimp only; omega))
  have qp : ∀ l : Fin 128, part (first (fun k => X (ix2 r k)) (fun k => A (ix1 k)) wa) 384 (by omega) l
      = if p : l.val < 64 then KEY X A WA AN WB r ⟨j.val / 256, by omega⟩ ⟨128 + (l.val + 32) % 64, by omega⟩ else 0 := fun l => by
    refine (lin_dite _ _ (fun d k => WA (ix2 d k)) _ _ (fun p => ⟨256 + (l.val + 32) % 64, by omega⟩) fun d => (hwa d _).trans (wideK_p WA d _ l rfl)).trans ?_
    refine dite_congr rfl (fun p => ?_) fun _ => rfl
    unfold KEY
    rw [dif_neg (by dsimp only; omega)]
    exact congrArg (first _ _ _) (Fin.ext (by dsimp only; omega))
  have e := sum_head (KEY X A WA AN WB r ⟨j.val / 256, by omega⟩) _ _ qa qb
  refine (congrArg (fun t => lanes (part (BOTH X A WA AN WB r) (j.val / 256 * 256) (by omega)) _ _ _ _ _ _ _ (inv t) _) e).trans ?_
  exact lanes_eq _ (fun e => G (ix1 e)) (fun l => C (ix2 ⟨r.val % 2048, by omega⟩ l)) (fun l => S (ix2 ⟨r.val % 2048, by omega⟩ l)) _ _ _ _ _ _ _ _ qa qb qp
    (fun l => (hg _).trans (wide_a G _ l (Nat.zero_add _))) (fun l => (hg _).trans (wide_b G _ l rfl)) (fun l => (hg _).trans (wide_p G _ l rfl))
    (fun l h => (hc l).trans (cosT_at C _ l h)) (fun l h => (hs l).trans (sinT_at S _ l h)) _

/-- The kernel's values are the formulas', likewise. -/
theorem values_eq (X : FVec Ideal S65536x1024 .f32) (A : FVec Ideal S1024 .f32) (WA : FVec Ideal S1024x320 .f32) (AN : FVec Ideal S256 .f32)
    (WB : FVec Ideal S256x2048 .f32) (x a : Fin 1024 → EReal) (wa : Fin 1024 → Fin 512 → EReal) (an : Fin 256 → EReal) (wb : Fin 256 → Fin 2048 → EReal)
    (r : Fin 65536) (k : Fin 2048) (j' : Fin 1024) (hx : ∀ k, x k = X (ix2 r k)) (ha : ∀ k, a k = A (ix1 k)) (hwa : ∀ d k, wa d k = wideK WA (ix2 d k)) (han : ∀ k, an k = AN (ix1 k))
    (hwb : ∀ d k, wb d k = WB (ix2 d k)) (hj : k.val = j'.val / 128 * 256 + 128 + j'.val % 128) :
    (kvrow x a (fun d k => wa d ⟨k.val, by omega⟩) an wb) k = VALUES X A WA AN WB r j' := by
  obtain rfl : x = fun k => X (ix2 r k) := funext hx
  obtain rfl : a = fun k => A (ix1 k) := funext ha
  obtain rfl : an = fun k => AN (ix1 k) := funext han
  obtain rfl : wb = fun d k => WB (ix2 d k) := funext fun d => funext (hwb d)
  have hka : (fun d (k : Fin 256) => wa d ⟨k.val, by omega⟩) = fun d k => WA (ix2 d ⟨k.val, by omega⟩) := funext fun d => funext fun k =>
    (hwa d _).trans (wideK_a WA d _ k rfl)
  rw [hka]
  exact congrArg (BOTH X A WA AN WB r) (Fin.ext hj)

/-- Visit `t` reads and writes the `t`-th 1024 rows, and reads the half of the position tables its rows' positions lie in. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![t.val % 2, 0] ∧ win0_11.index t = ![t.val % 2, 0] ∧ win0_12.index t = ![0, 0]
    ∧ win0_13.index t = ![t.val, 0] ∧ win0_14.index t = ![t.val, 0] ∧ win0_15.index t = ![t.val, 0] :=
  (by decide +kernel : ∀ t : Fin grid0.N, _)

section
variable (m : (ℓ : Loc nD τ sig) → Buf (Elt Ideal) ℓ) (c : Dev nD) (t : Fin cfg0.N)

/-- The kernel's block of rows. -/
theorem in_x (i k : Fin 1024) (r : Fin 65536) (hr : r.val = t.val * 1024 + i.val) : (iblk m c 0 t : FVec Ideal S1024x1024 .f32) (ix2 i k) = (m ((c : Thread nD τ).loc main_arg0)) (ix2 r k) := by
  blk_point [iblk, idx t]

/-- The kernel's gain of the rows. -/
theorem in_an (k : Fin 1024) : (iblk m c 1 t : FVec Ideal S1x1024 .f32) (ix2 0 k) = (m ((c : Thread nD τ).loc main_arg1)) (ix1 k) := by
  show (V m c main_v50 : FVec Ideal S1x1024 .f32) ((win0_1.blk t).view.emb (ix2 0 k)) = _
  rw [an_eq, show (win0_1.blk t).view.emb (ix2 0 k) = ix2 0 k by blk_ext [idx t]]
  pointwise

/-- The kernel's first weights of the queries. -/
theorem in_wqa (d : Fin 1024) (k : Fin 384) : (iblk m c 2 t : FVec Ideal S1024x384 .bf16) (ix2 d k) = (m ((c : Thread nD τ).loc main_arg2)) (ix2 d k) := by
  show (V m c main_v51 : FVec Ideal S1024x384 .bf16) ((win0_2.blk t).view.emb (ix2 d k)) = _
  rw [wqa_eq, show (win0_2.blk t).view.emb (ix2 d k) = ix2 d k by blk_ext [idx t]]
  rfl

/-- The kernel's gain of the queries' bottleneck. -/
theorem in_qan (k : Fin 384) : (iblk m c 3 t : FVec Ideal S1x384 .f32) (ix2 0 k) = (m ((c : Thread nD τ).loc main_arg3)) (ix1 k) := by
  show (V m c main_v52 : FVec Ideal S1x384 .f32) ((win0_3.blk t).view.emb (ix2 0 k)) = _
  rw [qan_eq, show (win0_3.blk t).view.emb (ix2 0 k) = ix2 0 k by blk_ext [idx t]]
  pointwise

/-- The kernel's second weights of the queries. -/
theorem in_wqb (d : Fin 384) (k : Fin 3072) : (iblk m c 4 t : FVec Ideal S384x3072 .bf16) (ix2 d k) = wideQ (m ((c : Thread nD τ).loc main_arg4)) (ix2 d k) := by
  show (V m c main_v54 : FVec Ideal S384x3072 .bf16) ((win0_4.blk t).view.emb (ix2 d k)) = _
  rw [wqb_eq, show (win0_4.blk t).view.emb (ix2 d k) = ix2 d k by blk_ext [idx t]]

/-- The kernel's first weights of the keys and values. -/
theorem in_wkva (d : Fin 1024) (k : Fin 512) : (iblk m c 5 t : FVec Ideal S1024x512 .bf16) (ix2 d k) = wideK (m ((c : Thread nD τ).loc main_arg5)) (ix2 d k) := by
  show (V m c main_v55 : FVec Ideal S1024x512 .bf16) ((win0_5.blk t).view.emb (ix2 d k)) = _
  rw [wkva_eq, show (win0_5.blk t).view.emb (ix2 d k) = ix2 d k by blk_ext [idx t]]

/-- The kernel's gain of the keys' and values' bottleneck. -/
theorem in_kvan (k : Fin 256) : (iblk m c 6 t : FVec Ideal S1x256 .f32) (ix2 0 k) = (m ((c : Thread nD τ).loc main_arg6)) (ix1 k) := by
  show (V m c main_v56 : FVec Ideal S1x256 .f32) ((win0_6.blk t).view.emb (ix2 0 k)) = _
  rw [kvan_eq, show (win0_6.blk t).view.emb (ix2 0 k) = ix2 0 k by blk_ext [idx t]]
  pointwise

/-- The kernel's second weights of the keys and values. -/
theorem in_wkvb (d : Fin 256) (k : Fin 2048) : (iblk m c 7 t : FVec Ideal S256x2048 .bf16) (ix2 d k) = (m ((c : Thread nD τ).loc main_arg7)) (ix2 d k) := by
  show (V m c main_v57 : FVec Ideal S256x2048 .bf16) ((win0_7.blk t).view.emb (ix2 d k)) = _
  rw [wkvb_eq, show (win0_7.blk t).view.emb (ix2 d k) = ix2 d k by blk_ext [idx t]]
  rfl

/-- The kernel's gain of the query heads. -/
theorem in_gq (k : Fin 384) : (iblk m c 8 t : FVec Ideal S1x384 .f32) (ix2 0 k) = wide (m ((c : Thread nD τ).loc main_arg8)) (ix2 0 k) := by
  show (V m c main_v58 : FVec Ideal S1x384 .f32) ((win0_8.blk t).view.emb (ix2 0 k)) = _
  rw [gq_eq, show (win0_8.blk t).view.emb (ix2 0 k) = ix2 0 k by blk_ext [idx t]]

/-- The kernel's gain of the key heads. -/
theorem in_gk (k : Fin 384) : (iblk m c 9 t : FVec Ideal S1x384 .f32) (ix2 0 k) = wide (m ((c : Thread nD τ).loc main_arg9)) (ix2 0 k) := by
  show (V m c main_v59 : FVec Ideal S1x384 .f32) ((win0_9.blk t).view.emb (ix2 0 k)) = _
  rw [gk_eq, show (win0_9.blk t).view.emb (ix2 0 k) = ix2 0 k by blk_ext [idx t]]

/-- The kernel's block of the first position table. -/
theorem in_cos (i : Fin 1024) (k : Fin 128) (r : Fin 65536) (hr : r.val = t.val * 1024 + i.val) :
    (iblk m c 10 t : FVec Ideal S1024x128 .f32) (ix2 i k) = cosT (m ((c : Thread nD τ).loc main_arg10)) (ix2 ⟨r.val % 2048, by omega⟩ k) := by
  show (V m c main_v14 : FVec Ideal S2048x128 .f32) ((win0_10.blk t).view.emb (ix2 i k)) = _
  rw [cos_eq, show (win0_10.blk t).view.emb (ix2 i k) = ix2 ⟨r.val % 2048, by omega⟩ k by blk_ext [idx t]]

/-- The kernel's block of the second position table. -/
theorem in_sin (i : Fin 1024) (k : Fin 128) (r : Fin 65536) (hr : r.val = t.val * 1024 + i.val) :
    (iblk m c 11 t : FVec Ideal S1024x128 .f32) (ix2 i k) = sinT (m ((c : Thread nD τ).loc main_arg11)) (ix2 ⟨r.val % 2048, by omega⟩ k) := by
  show (V m c main_v16 : FVec Ideal S2048x128 .f32) ((win0_11.blk t).view.emb (ix2 i k)) = _
  rw [sin_eq, show (win0_11.blk t).view.emb (ix2 i k) = ix2 ⟨r.val % 2048, by omega⟩ k by blk_ext [idx t]]

/-- The kernel's matrix of ones. -/
theorem in_one (k : Fin 1024) (l : Fin 128) : (iblk m c 12 t : FVec Ideal S1024x128 .bf16) (ix2 k l) = (1 : EReal) := by
  show (V m c main_v60 : FVec Ideal S1024x128 .bf16) ((win0_12.blk t).view.emb (ix2 k l)) = _
  rw [one_eq, show (win0_12.blk t).view.emb (ix2 k l) = ix2 k l by blk_ext [idx t]]
  pointwise

end

/-- After the run the first result array holds the query heads. -/
theorem final_q (m : (ℓ : Loc nD τ sig) → Buf (Elt Ideal) ℓ) (c : Dev nD) : (dats m 0 c).arrAt 13 (cfgs 0).N
    = fun y : S65536x2048.Idx => QUERIES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg10)) (m ((c : Thread nD τ).loc main_arg11)) (y 0) (y 1) := by
  refine (dats m 0 c).arrAt_eq_of_covers 13 _ (by decide +kernel) fun t _ y => ?_
  blk_simp
  rw [after0_13, blk_q _ _ _ _ _ _ _ _ _ _ _ _ _ (in_one m c t)]
  refine queries_eq _ _ _ _ _ _ _ _ _ _ _ _ _ _ _ _ _ (y 1) _ (fun k => in_x m c t _ k _ ?_) (in_an m c t) (in_wqa m c t) (in_qan m c t) (in_wqb m c t) (in_gq m c t)
    (fun k => in_cos m c t _ k _ ?_) (fun k => in_sin m c t _ k _ ?_) ?_
  all_goals simp [idx t]

/-- After the run the second result array holds the key heads. -/
theorem final_k (m : (ℓ : Loc nD τ sig) → Buf (Elt Ideal) ℓ) (c : Dev nD) : (dats m 0 c).arrAt 14 (cfgs 0).N
    = fun y : S65536x2048.Idx => KEYS (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (y 0) (y 1) := by
  refine (dats m 0 c).arrAt_eq_of_covers 14 _ (by decide +kernel) fun t _ y => ?_
  blk_simp
  rw [after0_14, blk_k _ _ _ _ _ _ _ _ _ _ _ _ _ (in_one m c t)]
  refine keys_eq _ _ _ _ _ _ _ _ _ _ (fun d k => (iblk m c 5 t : FVec Ideal S1024x512 .bf16) (ix2 d k)) _ _ _ _ _ _ (y 1) _ (fun k => in_x m c t _ k _ ?_) (in_an m c t) (in_wkva m c t) (in_kvan m c t) (in_wkvb m c t) (in_gk m c t)
    (fun k => in_cos m c t _ k _ ?_) (fun k => in_sin m c t _ k _ ?_) ?_
  all_goals simp [idx t]

/-- After the run the third result array holds the values. -/
theorem final_v (m : (ℓ : Loc nD τ sig) → Buf (Elt Ideal) ℓ) (c : Dev nD) : (dats m 0 c).arrAt 15 (cfgs 0).N
    = fun y : S65536x1024.Idx => VALUES (m ((c : Thread nD τ).loc main_arg0)) (m ((c : Thread nD τ).loc main_arg1)) (m ((c : Thread nD τ).loc main_arg5)) (m ((c : Thread nD τ).loc main_arg6)) (m ((c : Thread nD τ).loc main_arg7)) (y 0) (y 1) := by
  refine (dats m 0 c).arrAt_eq_of_covers 15 _ (by decide +kernel) fun t _ y => ?_
  blk_simp
  rw [after0_15, blk_v _ _ _ _ _ _ _ _ _ _ _ _ _ (in_one m c t)]
  refine values_eq _ _ _ _ _ _ _ (fun d k => (iblk m c 5 t : FVec Ideal S1024x512 .bf16) (ix2 d k)) _ _ _ _ _ (fun k => in_x m c t _ k _ ?_) (in_an m c t) (in_wkva m c t) (in_kvan m c t) (in_wkvb m c t) ?_
  all_goals simp [idx t]

end Cert.MlaProjIdeal.Value
-- ==== Proof.MlaProjRef.lean ====
/- The projection reference of the latent-attention layers: its results, entry by entry. -/
module
public import proofs.«01_k».proof.Proof.Gen.MlaProjRefIdeal.Run
public import proofs.«01_k».proof.Proof.MlaMath
@[expose] public section
set_option maxRecDepth 16384
noncomputable section
open Idealize.ShloMosaic Idealize.ShloMosaic.TcCoe Idealize.SL.Sem
namespace Cert.MlaProjRefIdeal.Value
open Cert.MlaProjRefIdeal Cert.MlaProjRefIdeal.Gen Cert.ProjMath Cert.MlaMath

/-- RMS normalisation of each row, with gain. -/
def normed (r : FVec Ideal S65536x1024 .f32) (G : FVec Ideal S1024 .f32) : FVec Ideal S65536x1024 .f32 :=
  mulf (mulf r (broadcastInDim S65536x1024 ![0, 1] bcast_S65536x1_S65536x1024_0_1 (Host.rsqrt (addf (Host.divf
    (broadcastInDim S65536x1 ![0] bcast_S65536_S65536x1_0 (Host.reduceAdd (mulf r r) (constant S_ .f32 0x00000000#32) reducesTo_S65536x1024_S65536_d1 h_S_))
    (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 G))

/-- An entry of the normalised rows. -/
theorem normed_at (r : FVec Ideal S65536x1024 .f32) (G : FVec Ideal S1024 .f32) (i : Fin 65536) (n : Fin 1024) :
    normed r G (ix2 i n) = rms (Ideal.ofBits .f32 0x44800000#32) (fun n => r (ix2 i n)) (fun n => G (ix1 n)) n := by
  pointwise [normed]
  rfl

/-- RMS normalisation of the queries' bottleneck, with gain. -/
def normed384 (r : FVec Ideal S65536x384 .f32) (G : FVec Ideal S384 .f32) : FVec Ideal S65536x384 .f32 :=
  mulf (mulf r (broadcastInDim S65536x384 ![0, 1] bcast_S65536x1_S65536x384_0_1 (Host.rsqrt (addf (Host.divf
    (broadcastInDim S65536x1 ![0] bcast_S65536_S65536x1_0 (Host.reduceAdd (mulf r r) (constant S_ .f32 0x00000000#32) reducesTo_S65536x384_S65536_d1 h_S_))
    (broadcastInDim S65536x1 ![] bcast_S_S65536x1 (constant S_ .f32 0x43C00000#32))) (broadcastInDim S65536x1 ![] bcast_S_S65536x1 (constant S_ .f32 0x358637BD#32))))))
    (broadcastInDim S65536x384 ![0, 1] bcast_S1x384_S65536x384_0_1 (broadcastInDim S1x384 ![1] bcast_S384_S1x384_1 G))

/-- An entry of the queries' normalised bottleneck. -/
theorem normed384_at (r : FVec Ideal S65536x384 .f32) (G : FVec Ideal S384 .f32) (i : Fin 65536) (n : Fin 384) :
    normed384 r G (ix2 i n) = rms (Ideal.ofBits .f32 0x43C00000#32) (fun n => r (ix2 i n)) (fun n => G (ix1 n)) n := by
  pointwise [normed384]
  rfl

/-- RMS normalisation of the keys and values' bottleneck, with gain. -/
def normed256 (r : FVec Ideal S65536x256 .f32) (G : FVec Ideal S256 .f32) : FVec Ideal S65536x256 .f32 :=
  mulf (mulf r (broadcastInDim S65536x256 ![0, 1] bcast_S65536x1_S65536x256_0_1 (Host.rsqrt (addf (Host.divf
    (broadcastInDim S65536x1 ![0] bcast_S65536_S65536x1_0 (Host.reduceAdd (mulf r r) (constant S_ .f32 0x00000000#32) reducesTo_S65536x256_S65536_d1 h_S_))
    (broadcastInDim S65536x1 ![] bcast_S_S65536x1 (constant S_ .f32 0x43800000#32))) (broadcastInDim S65536x1 ![] bcast_S_S65536x1 (constant S_ .f32 0x358637BD#32))))))
    (broadcastInDim S65536x256 ![0, 1] bcast_S1x256_S65536x256_0_1 (broadcastInDim S1x256 ![1] bcast_S256_S1x256_1 G))

/-- An entry of the keys and values' normalised bottleneck. -/
theorem normed256_at (r : FVec Ideal S65536x256 .f32) (G : FVec Ideal S256 .f32) (i : Fin 65536) (n : Fin 256) :
    normed256 r G (ix2 i n) = rms (Ideal.ofBits .f32 0x43800000#32) (fun n => r (ix2 i n)) (fun n => G (ix1 n)) n := by
  pointwise [normed256]
  rfl

/-- The queries' heads: batch, position, head, lane. -/
def qheads (X : FVec Ideal S65536x1024 .f32) (A : FVec Ideal S1024 .f32) (WA : FVec Ideal S1024x384 .f32) (AN : FVec Ideal S384 .f32) (WB : FVec Ideal S384x1536 .f32) :
    FVec Ideal S32x2048x8x192 .f32 :=
  shapeCast S32x2048x8x192 (Host.dotGeneral dot_S65536x384_S384x1536_S65536x1536_1_0_0_1_n_n none
    (normed384 (Host.dotGeneral dot_S65536x1024_S1024x384_S65536x384_1_0_0_1_n_n none (normed X A) WA) AN) WB) shapeCasts_S65536x1536_S32x2048x8x192

/-- An entry of the queries' heads. -/
theorem qheads_at (X : FVec Ideal S65536x1024 .f32) (A : FVec Ideal S1024 .f32) (WA : FVec Ideal S1024x384 .f32) (AN : FVec Ideal S384 .f32) (WB : FVec Ideal S384x1536 .f32)
    (b : Fin 32) (s : Fin 2048) (h : Fin 8) (e : Fin 192) : qheads X A WA AN WB (ix4 b s h e)
      = (qrow (fun n => X (ix2 ⟨b.val * 2048 + s.val, by omega⟩ n)) (fun n => A (ix1 n)) (fun d k => WA (ix2 d k)) (fun n => AN (ix1 n)) fun d k => WB (ix2 d k))
        ⟨h.val * 192 + e.val, by omega⟩ := by
  pointwise [qheads]
  simp only [normed384_at]
  pointwise
  simp only [normed_at]
  rfl

/-- The rows' 320 lanes of keys and values. -/
def low (X : FVec Ideal S65536x1024 .f32) (A : FVec Ideal S1024 .f32) (WA : FVec Ideal S1024x320 .f32) : FVec Ideal S65536x320 .f32 :=
  Host.dotGeneral dot_S65536x1024_S1024x320_S65536x320_1_0_0_1_n_n none (normed X A) WA

/-- An entry of those lanes. -/
theorem low_at (X : FVec Ideal S65536x1024 .f32) (A : FVec Ideal S1024 .f32) (WA : FVec Ideal S1024x320 .f32) (i : Fin 65536) (k : Fin 320) :
    low X A WA (ix2 i k) = first (fun n => X (ix2 i n)) (fun n => A (ix1 n)) (fun d k => WA (ix2 d k)) k := by
  pointwise [low]
  simp only [normed_at]
  rfl

/-- The keys' and values' heads of 256 lanes: batch, position, head, lane. -/
def kvheads (r : FVec Ideal S65536x320 .f32) (AN : FVec Ideal S256 .f32) (WB : FVec Ideal S256x2048 .f32) : FVec Ideal S32x2048x8x256 .f32 :=
  shapeCast S32x2048x8x256 (Host.dotGeneral dot_S65536x256_S256x2048_S65536x2048_1_0_0_1_n_n none
    (normed256 (extractStridedSlice S65536x256 ![0, 0] r slices_S65536x320_S65536x256_0_0) AN) WB) shapeCasts_S65536x2048_S32x2048x8x256

/-- An entry of the keys' and values' heads. -/
theorem kvheads_at (X : FVec Ideal S65536x1024 .f32) (A : FVec Ideal S1024 .f32) (WA : FVec Ideal S1024x320 .f32) (AN : FVec Ideal S256 .f32) (WB : FVec Ideal S256x2048 .f32)
    (b : Fin 32) (s : Fin 2048) (h : Fin 8) (e : Fin 256) : kvheads (low X A WA) AN WB (ix4 b s h e)
      = (kvrow (fun n => X (ix2 ⟨b.val * 2048 + s.val, by omega⟩ n)) (fun n => A (ix1 n)) (fun d k => WA (ix2 d ⟨k.val, by omega⟩)) (fun n => AN (ix1 n)) fun d k => WB (ix2 d k))
        ⟨h.val * 256 + e.val, by omega⟩ := by
  have e' : ∀ (i : Fin 65536) (k : Fin 256), extractStridedSlice S65536x256 ![0, 0] (low X A WA) slices_S65536x320_S65536x256_0_0 (ix2 i k)
      = first (fun n => X (ix2 i n)) (fun n => A (ix1 n)) (fun d k => WA (ix2 d k)) ⟨k.val, by omega⟩ := fun i k => by
    refine Eq.trans ?_ (low_at X A WA i ⟨k.val, by omega⟩)
    pointwise
    blk_ext
  pointwise [kvheads]
  simp only [normed256_at, e']
  rfl

/-- The keys' heads: 128 lanes of their own, then the 64 lanes the heads share. -/
def kheads (t : FVec Ideal S32x2048x8x256 .f32) (r : FVec Ideal S65536x320 .f32) : FVec Ideal S32x2048x8x192 .f32 :=
  concatenate S32x2048x8x192 3 [⟨S32x2048x8x128, extractStridedSlice S32x2048x8x128 ![0, 0, 0, 0] t slices_S32x2048x8x256_S32x2048x8x128_0_0_0_0⟩,
    ⟨S32x2048x8x64, broadcastInDim S32x2048x8x64 ![0, 1, 2, 3] bcast_S32x2048x1x64_S32x2048x8x64_0_1_2_3
      (shapeCast S32x2048x1x64 (extractStridedSlice S65536x64 ![0, 256] r slices_S65536x320_S65536x64_0_256) shapeCasts_S65536x64_S32x2048x1x64)⟩]
    concatenates_S32x2048x8x128_S32x2048x8x64_S32x2048x8x192_d3

/-- An entry of the keys' heads. -/
theorem kheads_at (t : FVec Ideal S32x2048x8x256 .f32) (r : FVec Ideal S65536x320 .f32) (b : Fin 32) (s : Fin 2048) (h : Fin 8) (e : Fin 192) :
    kheads t r (ix4 b s h e) = if p : e.val < 128 then t (ix4 b s h ⟨e.val, by omega⟩)
      else r (ix2 ⟨b.val * 2048 + s.val, by omega⟩ ⟨256 + (e.val - 128), by omega⟩) := by
  pointwise [kheads]

/-- RMS normalisation of each head, with gain. -/
def normed192 (r : FVec Ideal S32x2048x8x192 .f32) (G : FVec Ideal S192 .f32) : FVec Ideal S32x2048x8x192 .f32 :=
  mulf (mulf r (broadcastInDim S32x2048x8x192 ![0, 1, 2, 3] bcast_S32x2048x8x1_S32x2048x8x192_0_1_2_3 (Host.rsqrt (addf (Host.divf
    (broadcastInDim S32x2048x8x1 ![0, 1, 2] bcast_S32x2048x8_S32x2048x8x1_0_1_2 (Host.reduceAdd (mulf r r) (constant S_ .f32 0x00000000#32) reducesTo_S32x2048x8x192_S32x2048x8_d3 h_S_))
    (broadcastInDim S32x2048x8x1 ![] bcast_S_S32x2048x8x1 (constant S_ .f32 0x43400000#32))) (broadcastInDim S32x2048x8x1 ![] bcast_S_S32x2048x8x1 (constant S_ .f32 0x358637BD#32))))))
    (broadcastInDim S32x2048x8x192 ![0, 1, 2, 3] bcast_S1x1x1x192_S32x2048x8x192_0_1_2_3 (broadcastInDim S1x1x1x192 ![3] bcast_S192_S1x1x1x192_3 G))

/-- An entry of the normalised heads. -/
theorem normed192_at (r : FVec Ideal S32x2048x8x192 .f32) (G : FVec Ideal S192 .f32) (b : Fin 32) (s : Fin 2048) (h : Fin 8) (e : Fin 192) :
    normed192 r G (ix4 b s h e) = rms (Ideal.ofBits .f32 0x43400000#32) (fun e => r (ix4 b s h e)) (fun e => G (ix1 e)) e := by
  pointwise [normed192]
  rfl

/-- A table of angles, for each of the heads. -/
def table8 (C : FVec Ideal S2048x32 .f32) : FVec Ideal S32x2048x8x32 .f32 :=
  broadcastInDim S32x2048x8x32 ![0, 1, 2, 3] bcast_S1x2048x1x32_S32x2048x8x32_0_1_2_3 (broadcastInDim S1x2048x1x32 ![1, 3] bcast_S2048x32_S1x2048x1x32_1_3 C)

/-- The rotary embedding of the heads' last 64 lanes. -/
def rope8 (t : FVec Ideal S32x2048x8x64 .f32) (C S : FVec Ideal S2048x32 .f32) : FVec Ideal S32x2048x8x64 .f32 :=
  concatenate S32x2048x8x64 3
    [⟨S32x2048x8x32, subf (mulf (extractStridedSlice S32x2048x8x32 ![0, 0, 0, 0] t slices_S32x2048x8x64_S32x2048x8x32_0_0_0_0) (table8 C))
      (mulf (extractStridedSlice S32x2048x8x32 ![0, 0, 0, 32] t slices_S32x2048x8x64_S32x2048x8x32_0_0_0_32) (table8 S))⟩,
    ⟨S32x2048x8x32, addf (mulf (extractStridedSlice S32x2048x8x32 ![0, 0, 0, 32] t slices_S32x2048x8x64_S32x2048x8x32_0_0_0_32) (table8 C))
      (mulf (extractStridedSlice S32x2048x8x32 ![0, 0, 0, 0] t slices_S32x2048x8x64_S32x2048x8x32_0_0_0_0) (table8 S))⟩]
    concatenates_S32x2048x8x32_S32x2048x8x32_S32x2048x8x64_d3

/-- An entry of the rotated lanes. -/
theorem rope8_at (t : FVec Ideal S32x2048x8x64 .f32) (C S : FVec Ideal S2048x32 .f32) (b : Fin 32) (s : Fin 2048) (h : Fin 8) (e : Fin 64) :
    rope8 t C S (ix4 b s h e) = rope (fun e => t (ix4 b s h e)) (fun l => C (ix2 s l)) (fun l => S (ix2 s l)) e := by
  pointwise [rope8, table8]
  unfold rope
  by_cases p : e.val < 32
  · rw [dif_pos p, dif_pos p]
    simp only [Nat.add_comm 32]
  · rw [dif_neg p, dif_neg p, show (⟨32 + (e.val - 32), by omega⟩ : Fin 64) = e from Fin.ext (by dsimp only; omega)]

/-- The heads with their last 64 lanes rotated. -/
def joined (t : FVec Ideal S32x2048x8x192 .f32) (C S : FVec Ideal S2048x32 .f32) : FVec Ideal S32x2048x8x192 .f32 :=
  concatenate S32x2048x8x192 3 [⟨S32x2048x8x128, extractStridedSlice S32x2048x8x128 ![0, 0, 0, 0] t slices_S32x2048x8x192_S32x2048x8x128_0_0_0_0⟩,
    ⟨S32x2048x8x64, rope8 (extractStridedSlice S32x2048x8x64 ![0, 0, 0, 128] t slices_S32x2048x8x192_S32x2048x8x64_0_0_0_128) C S⟩]
    concatenates_S32x2048x8x128_S32x2048x8x64_S32x2048x8x192_d3

/-- An entry of those heads. -/
theorem joined_at (t : FVec Ideal S32x2048x8x192 .f32) (C S : FVec Ideal S2048x32 .f32) (b : Fin 32) (s : Fin 2048) (h : Fin 8) (e : Fin 192) :
    joined t C S (ix4 b s h e) = if p : e.val < 128 then t (ix4 b s h e)
      else rope (fun k => t (ix4 b s h ⟨128 + k.val, by omega⟩)) (fun l => C (ix2 s l)) (fun l => S (ix2 s l)) ⟨e.val - 128, by omega⟩ := by
  pointwise [joined]
  simp only [rope8_at]
  pointwise

/-- The integer zero as a float. -/
theorem sitofp_zero : FloatOps.sitofp (F := Ideal) .f32 (0#32) = 0 := by
  simp [FloatOps.sitofp]

/-- Heads filled up with zeros to 256 lanes and laid side by side. -/
def padded (t : FVec Ideal S32x2048x8x192 .f32) : FVec Ideal S65536x2048 .bf16 :=
  truncf .bf16 (shapeCast S65536x2048 (pad S32x2048x8x256 ![0, 0, 0, 0] ![0, 0, 0, 64] ![0, 0, 0, 0] t (sitofp (F := Ideal) .f32 (constantI S_ 32 0#32))
    pads_S32x2048x8x192_S32x2048x8x256_000_000_000_0640 h_S_) shapeCasts_S32x2048x8x256_S65536x2048) bitsLt_bf16_f32

/-- An entry of the filled heads. -/
theorem padded_at (t : FVec Ideal S32x2048x8x192 .f32) (i : Fin 65536) (j : Fin 2048) : padded t (ix2 i j)
    = if p : j.val % 256 < 192 then t (ix4 ⟨i.val / 2048, by omega⟩ ⟨i.val % 2048, by omega⟩ ⟨j.val / 256, by omega⟩ ⟨j.val % 256, p⟩) else 0 := by
  pointwise [padded]
  by_cases p : j.val % 256 < 192
  · rw [dif_pos ⟨by omega, by omega, by omega, p⟩, dif_pos p]
  · rw [dif_neg (fun h => p h.2.2.2), dif_neg p]
    exact sitofp_zero

/-- The queries over the root of 192 and over the logarithm of 2. -/
def scaled (t : FVec Ideal S32x2048x8x192 .f32) : FVec Ideal S32x2048x8x192 .f32 :=
  Host.divf (Host.divf t (broadcastInDim S32x2048x8x192 ![] bcast_S_S32x2048x8x192 (Host.sqrt (constant S_ .f32 0x43400000#32))))
    (broadcastInDim S32x2048x8x192 ![] bcast_S_S32x2048x8x192 (Host.log (constant S_ .f32 0x40000000#32)))

/-- An entry of the scaled queries. -/
theorem scaled_at (t : FVec Ideal S32x2048x8x192 .f32) (i : S32x2048x8x192.Idx) : scaled t i = t i * sc := by
  pointwise [scaled]
  exact div_sc _

/-- The filled rotated heads, entry by entry. -/
theorem padded_joined (t : FVec Ideal S32x2048x8x192 .f32) (G : FVec Ideal S192 .f32) (C S : FVec Ideal S2048x32 .f32) (i : Fin 65536) (j : Fin 2048) :
    padded (joined (normed192 t G) C S) (ix2 i j) = rotated (fun e => t (ix4 ⟨i.val / 2048, by omega⟩ ⟨i.val % 2048, by omega⟩ ⟨j.val / 256, by omega⟩ e)) (fun e => G (ix1 e))
      (fun l => C (ix2 ⟨i.val % 2048, by omega⟩ l)) (fun l => S (ix2 ⟨i.val % 2048, by omega⟩ l)) ⟨j.val % 256, by omega⟩ := by
  rw [padded_at]
  unfold rotated
  by_cases p : j.val % 256 < 192
  · rw [dif_pos p, joined_at]
    simp only [normed192_at]
    by_cases q : j.val % 256 < 128
    · rw [dif_pos q, dif_pos q]
    · rw [dif_neg q, dif_neg q, dif_pos p]
  · rw [dif_neg p, dif_neg (by dsimp only; omega), dif_neg p]

/-- The filled scaled heads are the filled heads, scaled. -/
theorem padded_scaled (t : FVec Ideal S32x2048x8x192 .f32) (i : Fin 65536) (j : Fin 2048) : padded (scaled t) (ix2 i j) = padded t (ix2 i j) * sc := by
  rw [padded_at, padded_at]
  by_cases p : j.val % 256 < 192
  · rw [dif_pos p, dif_pos p, scaled_at]
  · rw [dif_neg p, dif_neg p, zero_mul]

/-- The values: the last 128 lanes of each head. -/
def outv (t : FVec Ideal S32x2048x8x256 .f32) : FVec Ideal S65536x1024 .bf16 :=
  truncf .bf16 (shapeCast S65536x1024 (extractStridedSlice S32x2048x8x128 ![0, 0, 0, 128] t slices_S32x2048x8x256_S32x2048x8x128_0_0_0_128)
    shapeCasts_S32x2048x8x128_S65536x1024) bitsLt_bf16_f32

/-- An entry of the values. -/
theorem outv_at (t : FVec Ideal S32x2048x8x256 .f32) (i : Fin 65536) (j : Fin 1024) : outv t (ix2 i j)
    = t (ix4 ⟨i.val / 2048, by omega⟩ ⟨i.val % 2048, by omega⟩ ⟨j.val / 128, by omega⟩ ⟨128 + j.val % 128, by omega⟩) := by
  pointwise [outv]

end Cert.MlaProjRefIdeal.Value
-- ==== Proof.MlaProjClaim.lean ====
/- The projection of the latent-attention layers: the kernel's three result arrays and the reference's are the same arrays. -/
module
public import proofs.«01_k».proof.Proof.MlaProjFinal
public import proofs.«01_k».proof.Proof.MlaProjRef
@[expose] public section
set_option maxRecDepth 16384
noncomputable section
open Idealize.ShloMosaic Idealize.ShloMosaic.TcCoe Idealize.SL.Sem
namespace Cert.MlaProj.Value
open Cert.MlaProjIdeal Cert.MlaProjIdeal.Value Cert.MlaProjRefIdeal.Value Cert.ProjMath Cert.MlaMath

variable (X : FVec Ideal S65536x1024 .f32) (A : FVec Ideal S1024 .f32)
  (QA : FVec Ideal S1024x384 .f32) (QN : FVec Ideal S384 .f32) (QB : FVec Ideal S384x1536 .f32)
  (KA : FVec Ideal S1024x320 .f32) (KN : FVec Ideal S256 .f32) (KB : FVec Ideal S256x2048 .f32)
  (G : FVec Ideal S192 .f32) (C S : FVec Ideal S2048x32 .f32)

/-- A row's number, from its sequence and its place in it. -/
theorem row_number (i : Fin 65536) : (⟨i.val / 2048 * 2048 + i.val % 2048, by omega⟩ : Fin 65536) = i := Fin.ext (by dsimp only; omega)

/-- The reference's query heads, by row. -/
theorem qheads_row (i : Fin 65536) (h : Fin 8) (e : Fin 192) :
    qheads X A QA QN QB (ix4 ⟨i.val / 2048, by omega⟩ ⟨i.val % 2048, by omega⟩ h e)
      = qrow (fun n => X (ix2 i n)) (fun n => A (ix1 n)) (fun d k => QA (ix2 d k)) (fun n => QN (ix1 n)) (fun d k => QB (ix2 d k)) ⟨h.val * 192 + e.val, by omega⟩ := by
  rw [qheads_at]
  simp only [row_number]

/-- The reference's heads of keys and values, by row. -/
theorem kvheads_row (i : Fin 65536) (h : Fin 8) (e : Fin 256) :
    kvheads (low X A KA) KN KB (ix4 ⟨i.val / 2048, by omega⟩ ⟨i.val % 2048, by omega⟩ h e) = BOTH X A KA KN KB i ⟨h.val * 256 + e.val, by omega⟩ := by
  rw [kvheads_at]
  simp only [row_number]
  rfl

/-- The reference's key heads, by row. -/
theorem kheads_row (i : Fin 65536) (h : Fin 8) (e : Fin 192) :
    kheads (kvheads (low X A KA) KN KB) (low X A KA) (ix4 ⟨i.val / 2048, by omega⟩ ⟨i.val % 2048, by omega⟩ h e) = KEY X A KA KN KB i h e := by
  rw [kheads_at]
  unfold KEY
  refine dite_congr rfl (fun p => ?_) fun p => ?_
  · exact kvheads_row X A KA KN KB i h _
  · simp only [row_number]
    exact low_at X A KA i _

/-- An entry of the reference's queries is the kernel's formula. -/
theorem q_entry (i : Fin 65536) (j : Fin 2048) :
    padded (scaled (joined (normed192 (qheads X A QA QN QB) G) C S)) (ix2 i j) = QUERIES X A QA QN QB G C S i j := by
  rw [padded_scaled, padded_joined]
  unfold QUERIES
  have e : (fun e => qheads X A QA QN QB (ix4 ⟨i.val / 2048, by omega⟩ ⟨i.val % 2048, by omega⟩ ⟨j.val / 256, by omega⟩ e)) = _ :=
    funext fun e => qheads_row X A QA QN QB i ⟨j.val / 256, by omega⟩ e
  rw [e]

/-- An entry of the reference's keys is the kernel's formula. -/
theorem k_entry (i : Fin 65536) (j : Fin 2048) :
    padded (joined (normed192 (kheads (kvheads (low X A KA) KN KB) (low X A KA)) G) C S) (ix2 i j) = KEYS X A KA KN KB G C S i j := by
  rw [padded_joined]
  unfold KEYS
  have e : (fun e => kheads (kvheads (low X A KA) KN KB) (low X A KA) (ix4 ⟨i.val / 2048, by omega⟩ ⟨i.val % 2048, by omega⟩ ⟨j.val / 256, by omega⟩ e)) = _ :=
    funext fun e => kheads_row X A KA KN KB i ⟨j.val / 256, by omega⟩ e
  rw [e]

/-- An entry of the reference's values is the kernel's formula. -/
theorem v_entry (i : Fin 65536) (j : Fin 1024) : outv (kvheads (low X A KA) KN KB) (ix2 i j) = VALUES X A KA KN KB i j := by
  rw [outv_at, kvheads_row]
  unfold VALUES
  exact congrArg (BOTH X A KA KN KB i) (Fin.ext (Nat.add_assoc _ _ _).symm)

/-- The queries: the kernel's formula is the reference's array. -/
theorem q_eq : (fun y : S65536x2048.Idx => QUERIES X A QA QN QB G C S (y 0) (y 1)) = padded (scaled (joined (normed192 (qheads X A QA QN QB) G) C S)) := by
  funext y
  have hy : y = ix2 (y 0) (y 1) := by blk_ext
  exact (q_entry X A QA QN QB G C S (y 0) (y 1)).symm.trans (congrArg _ hy.symm)

/-- The keys: likewise. -/
theorem k_eq : (fun y : S65536x2048.Idx => KEYS X A KA KN KB G C S (y 0) (y 1))
    = padded (joined (normed192 (kheads (kvheads (low X A KA) KN KB) (low X A KA)) G) C S) := by
  funext y
  have hy : y = ix2 (y 0) (y 1) := by blk_ext
  exact (k_entry X A KA KN KB G C S (y 0) (y 1)).symm.trans (congrArg _ hy.symm)

/-- The values: likewise. -/
theorem v_eq : (fun y : S65536x1024.Idx => VALUES X A KA KN KB (y 0) (y 1)) = outv (kvheads (low X A KA) KN KB) := by
  funext y
  have hy : y = ix2 (y 0) (y 1) := by blk_ext
  exact (v_entry X A KA KN KB (y 0) (y 1)).symm.trans (congrArg _ hy.symm)

end Cert.MlaProj.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Pre_finite_qk
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnHalf
public import proofs.«01_k».proof.Proof.Gen.FfnHalf.Frame
public import proofs.«01_k».proof.Proof.Gen.FfnHalfIdeal
public import proofs.«01_k».proof.Proof.Gen.FfnHalfIdeal.Frame
public import proofs.«01_k».proof.Proof.Gen.FfnHalfIdeal.Value
public import proofs.«01_k».proof.Proof.Gen.FfnHalfRefIdeal
public import proofs.«01_k».proof.Proof.Gen.FfnHalfRefIdeal.Run
public import proofs.«01_k».proof.Proof.Gen.SwaProj
public import proofs.«01_k».proof.Proof.Gen.SwaProj.Frame
public import proofs.«01_k».proof.Proof.Gen.SwaProjIdeal
public import proofs.«01_k».proof.Proof.Gen.SwaProjIdeal.Frame
public import proofs.«01_k».proof.Proof.Gen.SwaProjIdeal.Value
public import proofs.«01_k».proof.Proof.Gen.MlaProj
public import proofs.«01_k».proof.Proof.Gen.MlaProj.Frame
public import proofs.«01_k».proof.Proof.Gen.MlaProjIdeal
public import proofs.«01_k».proof.Proof.Gen.MlaProjIdeal.Frame
public import proofs.«01_k».proof.Proof.Gen.MlaProjIdeal.Value
public import proofs.«01_k».proof.Proof.Gen.SwaProjRefIdeal
public import proofs.«01_k».proof.Proof.Gen.SwaProjRefIdeal.Run
public import proofs.«01_k».proof.Proof.Gen.MlaProjRefIdeal
public import proofs.«01_k».proof.Proof.Gen.MlaProjRefIdeal.Run
public import proofs.«01_k».proof.Proof.AttnClaim
public import proofs.«01_k».proof.Proof.FfnClaim
public import proofs.«01_k».proof.Proof.SwaProjClaim
public import proofs.«01_k».proof.Proof.MlaProjClaim

@[expose] public section

noncomputable section

namespace Cert.Proof

open Idealize.ShloMosaic Idealize.SL.Sem Cert.Kernel

/-- The reference runs to the end, keeps its arguments and leaves every semaphore at zero. -/
theorem frame_ref : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments, with finite queries and keys, the kernel and the reference end with the same array. -/
theorem value : algebraic_KernelIdeal_ReferenceIdeal_pre_finite_qk := by
  pair_intro
  · run_from Cert.KernelIdeal.Gen.run_main m g
  · run_from Cert.ReferenceIdeal.Value.run m' g'
    rw [Cert.KernelIdeal.Value.final,
      Cert.Attn.out_eq _ _ _ (fun i => (Cert.Attn.pre_at _ _ _ (hpre c) i).1) (fun i => (Cert.Attn.pre_at _ _ _ (hpre c) i).2)]
    rfl

/-- The feed-forward reference at attention width 1024 runs to the end, keeps its arguments and leaves every semaphore at zero. -/
theorem frame_FfnRef : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- From equal arguments the feed-forward kernel and its reference end with the same array (attention width 1024). -/
theorem value_Ffn : algebraic_FfnIdeal_FfnRefIdeal := by
  pair_intro
  · run_from Cert.FfnIdeal.Gen.run_main m g
  · run_from Cert.FfnRefIdeal.Value.run m' g'
    rw [Cert.FfnIdeal.Value.final, Cert.FfnRow.out_eq]
    obtain ⟨h0, h1, h2, h3, h4, h5, h6⟩ := hagree c
    rw [← h0, ← h1, ← h2, ← h3, ← h4, ← h5, ← h6]
    rfl

/-- The feed-forward reference at attention width 512 runs to the end, keeps its arguments and leaves every semaphore at zero. -/
theorem frame_FfnHalfRef : quiescent_FfnHalfRefIdeal := fun m ρ _ =>
  (θ_run Cert.FfnHalfRefIdeal.defs _ _).mono (fun r h => ⟨fun c => (h c).2, sem_eq_zero_of_no_sems (by decide) r.2⟩)
    (Cert.FfnHalfRefIdeal.Value.run (F := Ideal) m ρ)

/-- From equal arguments the feed-forward kernel and its reference end with the same array (attention width 512). -/
theorem value_FfnHalf : algebraic_FfnHalfIdeal_FfnHalfRefIdeal := by
  pair_intro
  · run_from Cert.FfnHalfIdeal.Gen.run_main m g
  · run_from Cert.FfnHalfRefIdeal.Value.run m' g'
    rw [Cert.FfnHalfIdeal.Value.final, Cert.FfnRow.half_out_eq]
    obtain ⟨h0, h1, h2, h3, h4, h5, h6⟩ := hagree c
    rw [← h0, ← h1, ← h2, ← h3, ← h4, ← h5, ← h6]
    rfl

/-- The reference of the sliding-window layers' projection runs to the end, keeps its arguments and leaves every semaphore at zero. -/
theorem frame_SwaProjRef : quiescent_SwaProjRefIdeal := fun m ρ _ =>
  (θ_run Cert.SwaProjRefIdeal.defs _ _).mono (fun r h => ⟨fun c => (h c).2.2.2, sem_eq_zero_of_no_sems (by decide) r.2⟩)
    (Cert.SwaProjRefIdeal.Value.run (F := Ideal) m ρ)

set_option maxHeartbeats 4000000 in
/-- From equal arguments the projection kernel of the sliding-window layers and its reference end with the same three arrays. -/
theorem value_SwaProj : algebraic_SwaProjIdeal_SwaProjRefIdeal := by
  pair_intro
  · run_from Cert.SwaProjIdeal.Gen.run_main m g & Cert.SwaProjIdeal.Gen.unchanged m g
  · run_from Cert.SwaProjRefIdeal.Value.run m' g'
    all_goals obtain ⟨h0, h1, h2, h3, h4, h5, h6⟩ := hagree c
    · rw [Cert.SwaProjIdeal.Value.final_q, Cert.SwaProj.Value.q_eq, ← h0, ← h1, ← h2, ← h3, ← h5, ← h6]
      rfl
    · rw [Cert.SwaProjIdeal.Value.final_k, Cert.SwaProj.Value.k_eq, ← h0, ← h1, ← h2, ← h4, ← h5, ← h6]
      rfl
    · rw [Cert.SwaProjIdeal.Value.final_v, Cert.SwaProj.Value.v_eq]
      rfl

/-- The reference's run of the projection of the latent-attention layers: it ends, and leaves its arguments as they were. -/
theorem frame_MlaProjRef : quiescent_MlaProjRefIdeal := fun m ρ _ =>
  (θ_run Cert.MlaProjRefIdeal.defs _ _).mono (fun r h => ⟨fun c => (h c).2.2.2, sem_eq_zero_of_no_sems (by decide) r.2⟩)
    (Cert.MlaProjRefIdeal.Value.run (F := Ideal) m ρ)

/-- The three constants that stand for `1 / 384`, `1 / 192` and the factor of the queries have those values. -/
theorem consts_MlaProj : preserves_MlaProj_MlaProjIdeal :=
  ⟨IdealRules.named_const.statement Cert.MlaProjIdeal.κ "inv_384" .f32 0x3B2AAAAB#32 ((1 / 384 : ℝ) : EReal) rfl,
    IdealRules.named_const.statement Cert.MlaProjIdeal.κ "inv_192" .f32 0x3BAAAAAB#32 ((1 / 192 : ℝ) : EReal) rfl,
    IdealRules.named_const.statement Cert.MlaProjIdeal.κ "scale" .f32 0x3DD53B95#32 (((Real.sqrt 192)⁻¹ * (Real.log 2)⁻¹ : ℝ) : EReal) rfl⟩

set_option maxHeartbeats 4000000 in
/-- From equal arguments the projection kernel of the latent-attention layers and its reference end with the same three arrays. -/
theorem value_MlaProj : algebraic_MlaProjIdeal_MlaProjRefIdeal := by
  pair_intro
  · run_from Cert.MlaProjIdeal.Gen.run_main m g & Cert.MlaProjIdeal.Gen.unchanged m g
  · run_from Cert.MlaProjRefIdeal.Value.run m' g'
    all_goals obtain ⟨h0, h1, h2, h3, h4, h5, h6, h7, h8, h9, h10, h11⟩ := hagree c
    · rw [Cert.MlaProjIdeal.Value.final_q, Cert.MlaProj.Value.q_eq, ← h0, ← h1, ← h2, ← h3, ← h4, ← h8, ← h10, ← h11]
      rfl
    · rw [Cert.MlaProjIdeal.Value.final_k, Cert.MlaProj.Value.k_eq, ← h0, ← h1, ← h5, ← h6, ← h7, ← h9, ← h10, ← h11]
      rfl
    · rw [Cert.MlaProjIdeal.Value.final_v, Cert.MlaProj.Value.v_eq]
      rfl

/-- Every claim. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.FfnHalf.Gen.facts, Cert.FfnHalfIdeal.Gen.facts, Cert.FfnHalfRefIdeal.Gen.facts,
  Cert.SwaProj.Gen.facts, Cert.SwaProjIdeal.Gen.facts, Cert.SwaProjRefIdeal.Gen.facts,
  Cert.MlaProj.Gen.facts, Cert.MlaProjIdeal.Gen.facts, Cert.MlaProjRefIdeal.Gen.facts, Cert.Pre_finite_qk.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Ffn.Gen.frame m ρ, fun m ρ _ => Cert.FfnIdeal.Gen.frame m ρ, frame_FfnRef,
  fun m ρ _ => Cert.FfnHalf.Gen.frame m ρ, fun m ρ _ => Cert.FfnHalfIdeal.Gen.frame m ρ, frame_FfnHalfRef,
  fun m ρ _ => Cert.SwaProj.Gen.frame m ρ, fun m ρ _ => Cert.SwaProjIdeal.Gen.frame m ρ, frame_SwaProjRef,
  fun m ρ _ => Cert.MlaProj.Gen.frame m ρ, fun m ρ _ => Cert.MlaProjIdeal.Gen.frame m ρ, frame_MlaProjRef,
  trivial, value, trivial, value_Ffn, trivial, value_FfnHalf, trivial, value_SwaProj, consts_MlaProj, value_MlaProj⟩

end Cert.Proof

end
